-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InDil (m : (ℓ : Loc Cert.InDil.nD Cert.InDil.τ Cert.InDil.sig) → Buf (Elt Bits) ℓ) : Prop :=
  True

def Pre_InDilIdeal (m : (ℓ : Loc Cert.InDilIdeal.nD Cert.InDilIdeal.τ Cert.InDilIdeal.sig) → Buf (Elt Ideal) ℓ) : Prop :=
  True

def Pre_InDilRefIdeal (m : (ℓ : Loc Cert.InDilRefIdeal.nD Cert.InDilRefIdeal.τ Cert.InDilRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_lse [hPre_finite_lse : Cert.Pre_finite_lse.Facts] (m : (ℓ : Loc Cert.MergeIdeal.nD Cert.MergeIdeal.τ Cert.MergeIdeal.sig) → Buf (Elt Ideal) ℓ) : Prop :=
  ∀ c : Dev Cert.MergeIdeal.nD,
    (Cert.Pre_finite_lse.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_lse [hPre_finite_lse : Cert.Pre_finite_lse.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_lse.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13)) (m ((c.tc : Thread Cert.MergeRefIdeal.nD Cert.MergeRefIdeal.τ).loc Cert.MergeRefIdeal.main_arg14))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_ready [hPre_ready : Cert.Pre_ready.Facts] (m : (ℓ : Loc Cert.PrepIdeal.nD Cert.PrepIdeal.τ Cert.PrepIdeal.sig) → Buf (Elt Ideal) ℓ) : Prop :=
  ∀ c : Dev Cert.PrepIdeal.nD,
    (Cert.Pre_ready.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_ready [hPre_ready : Cert.Pre_ready.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_ready.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))) = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Layout (m : (ℓ : Loc Cert.Layout.nD Cert.Layout.τ Cert.Layout.sig) → Buf (Elt Bits) ℓ) : Prop :=
  True

def Pre_LayoutIdeal (m : (ℓ : Loc Cert.LayoutIdeal.nD Cert.LayoutIdeal.τ Cert.LayoutIdeal.sig) → Buf (Elt Ideal) ℓ) : Prop :=
  True

def Pre_LayoutRefIdeal (m : (ℓ : Loc Cert.LayoutRefIdeal.nD Cert.LayoutRefIdeal.τ Cert.LayoutRefIdeal.sig) → Buf (Elt Ideal) ℓ) : Prop :=
  True

def Pre_Ffn [hPre_experts : Cert.Pre_experts.Facts] (m : (ℓ : Loc Cert.Ffn.nD Cert.Ffn.τ Cert.Ffn.sig) → Buf (Elt Bits) ℓ) : Prop :=
  ∀ c : Dev Cert.Ffn.nD,
    (Cert.Pre_experts.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5))) = (fun _ => 1#1)

def Pre_FfnIdeal [hPre_experts : Cert.Pre_experts.Facts] (m : (ℓ : Loc Cert.FfnIdeal.nD Cert.FfnIdeal.τ Cert.FfnIdeal.sig) → Buf (Elt Ideal) ℓ) : Prop :=
  ∀ c : Dev Cert.FfnIdeal.nD,
    (Cert.Pre_experts.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_experts [hPre_experts : Cert.Pre_experts.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_experts.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_InDil [hInDil : Cert.InDil.Facts] : Prop :=
  ∀ (m : (ℓ : Loc Cert.InDil.nD Cert.InDil.τ Cert.InDil.sig) → Buf (Elt Bits) ℓ) (g : Dev Cert.InDil.nD → PrngReg), Pre_InDil m →
    θ_run (Cert.InDil.defs (F := Bits)) (onTc (τ := Cert.InDil.τ) (Cert.InDil.main (F := Bits))) ⟨m, fun _ => 0, g⟩ (fun r => (∀ c : Dev Cert.InDil.nD,
      r.2.mem ((c.tc : Thread Cert.InDil.nD Cert.InDil.τ).loc Cert.InDil.main_arg0) = m ((c.tc : Thread Cert.InDil.nD Cert.InDil.τ).loc Cert.InDil.main_arg0)
      ∧ r.2.mem ((c.tc : Thread Cert.InDil.nD Cert.InDil.τ).loc Cert.InDil.main_arg1) = m ((c.tc : Thread Cert.InDil.nD Cert.InDil.τ).loc Cert.InDil.main_arg1)
      ∧ r.2.mem ((c.tc : Thread Cert.InDil.nD Cert.InDil.τ).loc Cert.InDil.main_arg2) = m ((c.tc : Thread Cert.InDil.nD Cert.InDil.τ).loc Cert.InDil.main_arg2)
      ∧ r.2.mem ((c.tc : Thread Cert.InDil.nD Cert.InDil.τ).loc Cert.InDil.main_arg3) = m ((c.tc : Thread Cert.InDil.nD Cert.InDil.τ).loc Cert.InDil.main_arg3))
      ∧ r.2.sem = fun _ => 0)

def quiescent_InDilIdeal [hInDilIdeal : Cert.InDilIdeal.Facts] : Prop :=
  ∀ (m : (ℓ : Loc Cert.InDilIdeal.nD Cert.InDilIdeal.τ Cert.InDilIdeal.sig) → Buf (Elt Ideal) ℓ) (g : Dev Cert.InDilIdeal.nD → PrngReg), Pre_InDilIdeal m →
    θ_run (Cert.InDilIdeal.defs (F := Ideal)) (onTc (τ := Cert.InDilIdeal.τ) (Cert.InDilIdeal.main (F := Ideal))) ⟨m, fun _ => 0, g⟩ (fun r => (∀ c : Dev Cert.InDilIdeal.nD,
      r.2.mem ((c.tc : Thread Cert.InDilIdeal.nD Cert.InDilIdeal.τ).loc Cert.InDilIdeal.main_arg0) = m ((c.tc : Thread Cert.InDilIdeal.nD Cert.InDilIdeal.τ).loc Cert.InDilIdeal.main_arg0)
      ∧ r.2.mem ((c.tc : Thread Cert.InDilIdeal.nD Cert.InDilIdeal.τ).loc Cert.InDilIdeal.main_arg1) = m ((c.tc : Thread Cert.InDilIdeal.nD Cert.InDilIdeal.τ).loc Cert.InDilIdeal.main_arg1)
      ∧ r.2.mem ((c.tc : Thread Cert.InDilIdeal.nD Cert.InDilIdeal.τ).loc Cert.InDilIdeal.main_arg2) = m ((c.tc : Thread Cert.InDilIdeal.nD Cert.InDilIdeal.τ).loc Cert.InDilIdeal.main_arg2)
      ∧ r.2.mem ((c.tc : Thread Cert.InDilIdeal.nD Cert.InDilIdeal.τ).loc Cert.InDilIdeal.main_arg3) = m ((c.tc : Thread Cert.InDilIdeal.nD Cert.InDilIdeal.τ).loc Cert.InDilIdeal.main_arg3))
      ∧ r.2.sem = fun _ => 0)

def quiescent_InDilRefIdeal [hInDilRefIdeal : Cert.InDilRefIdeal.Facts] : Prop :=
  ∀ (m : (ℓ : Loc Cert.InDilRefIdeal.nD Cert.InDilRefIdeal.τ Cert.InDilRefIdeal.sig) → Buf (Elt Ideal) ℓ) (g : Dev Cert.InDilRefIdeal.nD → PrngReg), Pre_InDilRefIdeal m →
    θ_run (Cert.InDilRefIdeal.defs (F := Ideal)) (onTc (τ := Cert.InDilRefIdeal.τ) (Cert.InDilRefIdeal.main (F := Ideal))) ⟨m, fun _ => 0, g⟩ (fun r => (∀ c : Dev Cert.InDilRefIdeal.nD,
      r.2.mem ((c.tc : Thread Cert.InDilRefIdeal.nD Cert.InDilRefIdeal.τ).loc Cert.InDilRefIdeal.main_arg0) = m ((c.tc : Thread Cert.InDilRefIdeal.nD Cert.InDilRefIdeal.τ).loc Cert.InDilRefIdeal.main_arg0)
      ∧ r.2.mem ((c.tc : Thread Cert.InDilRefIdeal.nD Cert.InDilRefIdeal.τ).loc Cert.InDilRefIdeal.main_arg1) = m ((c.tc : Thread Cert.InDilRefIdeal.nD Cert.InDilRefIdeal.τ).loc Cert.InDilRefIdeal.main_arg1)
      ∧ r.2.mem ((c.tc : Thread Cert.InDilRefIdeal.nD Cert.InDilRefIdeal.τ).loc Cert.InDilRefIdeal.main_arg2) = m ((c.tc : Thread Cert.InDilRefIdeal.nD Cert.InDilRefIdeal.τ).loc Cert.InDilRefIdeal.main_arg2)
      ∧ r.2.mem ((c.tc : Thread Cert.InDilRefIdeal.nD Cert.InDilRefIdeal.τ).loc Cert.InDilRefIdeal.main_arg3) = m ((c.tc : Thread Cert.InDilRefIdeal.nD Cert.InDilRefIdeal.τ).loc Cert.InDilRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeIdeal_pre_finite_lse [hMergeIdeal : Cert.MergeIdeal.Facts] [hPre_finite_lse : Cert.Pre_finite_lse.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_lse m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14))
      ∧ r.2.sem = fun _ => 0)

def quiescent_MergeRefIdeal_pre_finite_lse [hMergeRefIdeal : Cert.MergeRefIdeal.Facts] [hPre_finite_lse : Cert.Pre_finite_lse.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_lse m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepIdeal_pre_ready [hPrepIdeal : Cert.PrepIdeal.Facts] [hPre_ready : Cert.Pre_ready.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_ready m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def quiescent_PrepRefIdeal_pre_ready [hPrepRefIdeal : Cert.PrepRefIdeal.Facts] [hPre_ready : Cert.Pre_ready.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_ready m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_Layout [hLayout : Cert.Layout.Facts] : Prop :=
  ∀ (m : (ℓ : Loc Cert.Layout.nD Cert.Layout.τ Cert.Layout.sig) → Buf (Elt Bits) ℓ) (g : Dev Cert.Layout.nD → PrngReg), Pre_Layout m →
    θ_run (Cert.Layout.defs (F := Bits)) (onTc (τ := Cert.Layout.τ) (Cert.Layout.main (F := Bits))) ⟨m, fun _ => 0, g⟩ (fun r => (∀ c : Dev Cert.Layout.nD,
      r.2.mem ((c.tc : Thread Cert.Layout.nD Cert.Layout.τ).loc Cert.Layout.main_arg0) = m ((c.tc : Thread Cert.Layout.nD Cert.Layout.τ).loc Cert.Layout.main_arg0))
      ∧ r.2.sem = fun _ => 0)

def quiescent_LayoutIdeal [hLayoutIdeal : Cert.LayoutIdeal.Facts] : Prop :=
  ∀ (m : (ℓ : Loc Cert.LayoutIdeal.nD Cert.LayoutIdeal.τ Cert.LayoutIdeal.sig) → Buf (Elt Ideal) ℓ) (g : Dev Cert.LayoutIdeal.nD → PrngReg), Pre_LayoutIdeal m →
    θ_run (Cert.LayoutIdeal.defs (F := Ideal)) (onTc (τ := Cert.LayoutIdeal.τ) (Cert.LayoutIdeal.main (F := Ideal))) ⟨m, fun _ => 0, g⟩ (fun r => (∀ c : Dev Cert.LayoutIdeal.nD,
      r.2.mem ((c.tc : Thread Cert.LayoutIdeal.nD Cert.LayoutIdeal.τ).loc Cert.LayoutIdeal.main_arg0) = m ((c.tc : Thread Cert.LayoutIdeal.nD Cert.LayoutIdeal.τ).loc Cert.LayoutIdeal.main_arg0))
      ∧ r.2.sem = fun _ => 0)

def quiescent_LayoutRefIdeal [hLayoutRefIdeal : Cert.LayoutRefIdeal.Facts] : Prop :=
  ∀ (m : (ℓ : Loc Cert.LayoutRefIdeal.nD Cert.LayoutRefIdeal.τ Cert.LayoutRefIdeal.sig) → Buf (Elt Ideal) ℓ) (g : Dev Cert.LayoutRefIdeal.nD → PrngReg), Pre_LayoutRefIdeal m →
    θ_run (Cert.LayoutRefIdeal.defs (F := Ideal)) (onTc (τ := Cert.LayoutRefIdeal.τ) (Cert.LayoutRefIdeal.main (F := Ideal))) ⟨m, fun _ => 0, g⟩ (fun r => (∀ c : Dev Cert.LayoutRefIdeal.nD,
      r.2.mem ((c.tc : Thread Cert.LayoutRefIdeal.nD Cert.LayoutRefIdeal.τ).loc Cert.LayoutRefIdeal.main_arg0) = m ((c.tc : Thread Cert.LayoutRefIdeal.nD Cert.LayoutRefIdeal.τ).loc Cert.LayoutRefIdeal.main_arg0))
      ∧ r.2.sem = fun _ => 0)

def quiescent_Ffn [hFfn : Cert.Ffn.Facts] [hPre_experts : Cert.Pre_experts.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] [hPre_experts : Cert.Pre_experts.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_experts [hFfnRefIdeal : Cert.FfnRefIdeal.Facts] [hPre_experts : Cert.Pre_experts.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_experts m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def preserves_Attn_AttnIdeal : Prop :=
  True

def preserves_InProj_InProjIdeal : Prop :=
  True

def preserves_InDil_InDilIdeal : Prop :=
  True

def preserves_Merge_MergeIdeal : Prop :=
  True

def preserves_Prep_PrepIdeal : Prop :=
  True

def preserves_Mod_ModIdeal : Prop :=
  True

def preserves_Rope_RopeIdeal : Prop :=
  True

def preserves_Layout_LayoutIdeal : Prop :=
  True

def preserves_Ffn_FfnIdeal : Prop :=
  True

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v3) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v24) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v25) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def algebraic_InDilIdeal_InDilRefIdeal [hInDilIdeal : Cert.InDilIdeal.Facts] [hInDilRefIdeal : Cert.InDilRefIdeal.Facts] : Prop :=
  ∀ (m : (ℓ : Loc Cert.InDilIdeal.nD Cert.InDilIdeal.τ Cert.InDilIdeal.sig) → Buf (Elt Ideal) ℓ) (g : Dev Cert.InDilIdeal.nD → PrngReg)
    (m' : (ℓ : Loc Cert.InDilRefIdeal.nD Cert.InDilRefIdeal.τ Cert.InDilRefIdeal.sig) → Buf (Elt Ideal) ℓ) (g' : Dev Cert.InDilRefIdeal.nD → PrngReg), Pre_InDilIdeal m →
    (∀ c : Dev Cert.InDilIdeal.nD,
      m' ((c.tc : Thread Cert.InDilRefIdeal.nD Cert.InDilRefIdeal.τ).loc Cert.InDilRefIdeal.main_arg0) = m ((c.tc : Thread Cert.InDilIdeal.nD Cert.InDilIdeal.τ).loc Cert.InDilIdeal.main_arg0)
      ∧ m' ((c.tc : Thread Cert.InDilRefIdeal.nD Cert.InDilRefIdeal.τ).loc Cert.InDilRefIdeal.main_arg1) = m ((c.tc : Thread Cert.InDilIdeal.nD Cert.InDilIdeal.τ).loc Cert.InDilIdeal.main_arg1)
      ∧ m' ((c.tc : Thread Cert.InDilRefIdeal.nD Cert.InDilRefIdeal.τ).loc Cert.InDilRefIdeal.main_arg2) = m ((c.tc : Thread Cert.InDilIdeal.nD Cert.InDilIdeal.τ).loc Cert.InDilIdeal.main_arg2)
      ∧ m' ((c.tc : Thread Cert.InDilRefIdeal.nD Cert.InDilRefIdeal.τ).loc Cert.InDilRefIdeal.main_arg3) = m ((c.tc : Thread Cert.InDilIdeal.nD Cert.InDilIdeal.τ).loc Cert.InDilIdeal.main_arg3)) →
    ∃ (v0 : (c : Dev Cert.InDilIdeal.nD) → Buf (Elt Ideal) ((c.tc : Thread Cert.InDilIdeal.nD Cert.InDilIdeal.τ).loc Cert.InDilIdeal.main_v1)),
      θ_run (Cert.InDilIdeal.defs (F := Ideal)) (onTc (τ := Cert.InDilIdeal.τ) (Cert.InDilIdeal.main (F := Ideal))) ⟨m, fun _ => 0, g⟩ (fun r => ∀ c : Dev Cert.InDilIdeal.nD,
          r.2.mem ((c.tc : Thread Cert.InDilIdeal.nD Cert.InDilIdeal.τ).loc Cert.InDilIdeal.main_v1) = v0 c
          ∧ r.2.mem ((c.tc : Thread Cert.InDilIdeal.nD Cert.InDilIdeal.τ).loc Cert.InDilIdeal.main_arg0) = m ((c.tc : Thread Cert.InDilIdeal.nD Cert.InDilIdeal.τ).loc Cert.InDilIdeal.main_arg0)
          ∧ r.2.mem ((c.tc : Thread Cert.InDilIdeal.nD Cert.InDilIdeal.τ).loc Cert.InDilIdeal.main_arg1) = m ((c.tc : Thread Cert.InDilIdeal.nD Cert.InDilIdeal.τ).loc Cert.InDilIdeal.main_arg1)
          ∧ r.2.mem ((c.tc : Thread Cert.InDilIdeal.nD Cert.InDilIdeal.τ).loc Cert.InDilIdeal.main_arg2) = m ((c.tc : Thread Cert.InDilIdeal.nD Cert.InDilIdeal.τ).loc Cert.InDilIdeal.main_arg2)
          ∧ r.2.mem ((c.tc : Thread Cert.InDilIdeal.nD Cert.InDilIdeal.τ).loc Cert.InDilIdeal.main_arg3) = m ((c.tc : Thread Cert.InDilIdeal.nD Cert.InDilIdeal.τ).loc Cert.InDilIdeal.main_arg3))
      ∧ θ_run (Cert.InDilRefIdeal.defs (F := Ideal)) (onTc (τ := Cert.InDilRefIdeal.τ) (Cert.InDilRefIdeal.main (F := Ideal))) ⟨m', fun _ => 0, g'⟩ (fun r => ∀ c : Dev Cert.InDilRefIdeal.nD,
          r.2.mem ((c.tc : Thread Cert.InDilRefIdeal.nD Cert.InDilRefIdeal.τ).loc Cert.InDilRefIdeal.main_v24) = v0 c
          ∧ r.2.mem ((c.tc : Thread Cert.InDilRefIdeal.nD Cert.InDilRefIdeal.τ).loc Cert.InDilRefIdeal.main_arg0) = m' ((c.tc : Thread Cert.InDilRefIdeal.nD Cert.InDilRefIdeal.τ).loc Cert.InDilRefIdeal.main_arg0)
          ∧ r.2.mem ((c.tc : Thread Cert.InDilRefIdeal.nD Cert.InDilRefIdeal.τ).loc Cert.InDilRefIdeal.main_arg1) = m' ((c.tc : Thread Cert.InDilRefIdeal.nD Cert.InDilRefIdeal.τ).loc Cert.InDilRefIdeal.main_arg1)
          ∧ r.2.mem ((c.tc : Thread Cert.InDilRefIdeal.nD Cert.InDilRefIdeal.τ).loc Cert.InDilRefIdeal.main_arg2) = m' ((c.tc : Thread Cert.InDilRefIdeal.nD Cert.InDilRefIdeal.τ).loc Cert.InDilRefIdeal.main_arg2)
          ∧ r.2.mem ((c.tc : Thread Cert.InDilRefIdeal.nD Cert.InDilRefIdeal.τ).loc Cert.InDilRefIdeal.main_arg3) = m' ((c.tc : Thread Cert.InDilRefIdeal.nD Cert.InDilRefIdeal.τ).loc Cert.InDilRefIdeal.main_arg3))

def algebraic_MergeIdeal_MergeRefIdeal_pre_finite_lse [hMergeIdeal : Cert.MergeIdeal.Facts] [hMergeRefIdeal : Cert.MergeRefIdeal.Facts] [hPre_finite_lse : Cert.Pre_finite_lse.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_lse m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v51) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14))

def algebraic_FfnIdeal_FfnRefIdeal [hFfnIdeal : Cert.FfnIdeal.Facts] [hFfnRefIdeal : Cert.FfnRefIdeal.Facts] [hPre_experts : Cert.Pre_experts.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def algebraic_PrepIdeal_PrepRefIdeal_pre_ready [hPrepIdeal : Cert.PrepIdeal.Facts] [hPrepRefIdeal : Cert.PrepRefIdeal.Facts] [hPre_ready : Cert.Pre_ready.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_ready m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)) →
    ∃ (v0 : (c : Dev Cert.PrepIdeal.nD) → Buf (Elt Ideal) ((c.tc : Thread Cert.PrepIdeal.nD Cert.PrepIdeal.τ).loc Cert.PrepIdeal.main_v53_0)) (v1 : (c : Dev Cert.PrepIdeal.nD) → Buf (Elt Ideal) ((c.tc : Thread Cert.PrepIdeal.nD Cert.PrepIdeal.τ).loc Cert.PrepIdeal.main_v53_1)) (v2 : (c : Dev Cert.PrepIdeal.nD) → Buf (Elt Ideal) ((c.tc : Thread Cert.PrepIdeal.nD Cert.PrepIdeal.τ).loc Cert.PrepIdeal.main_v53_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v53_0) = v0 c
          ∧ r.2.mem ((c.tc : Thread Cert.PrepIdeal.nD Cert.PrepIdeal.τ).loc Cert.PrepIdeal.main_v53_1) = v1 c
          ∧ r.2.mem ((c.tc : Thread Cert.PrepIdeal.nD Cert.PrepIdeal.τ).loc Cert.PrepIdeal.main_v53_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v127) = v0 c
          ∧ r.2.mem ((c.tc : Thread Cert.PrepRefIdeal.nD Cert.PrepRefIdeal.τ).loc Cert.PrepRefIdeal.main_v129) = v1 c
          ∧ r.2.mem ((c.tc : Thread Cert.PrepRefIdeal.nD Cert.PrepRefIdeal.τ).loc Cert.PrepRefIdeal.main_v132) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8))

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v19) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v11_0)) (v1 : (c : Dev Cert.RopeIdeal.nD) → Buf (Elt Ideal) ((c.tc : Thread Cert.RopeIdeal.nD Cert.RopeIdeal.τ).loc Cert.RopeIdeal.main_v11_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v11_0) = v0 c
          ∧ r.2.mem ((c.tc : Thread Cert.RopeIdeal.nD Cert.RopeIdeal.τ).loc Cert.RopeIdeal.main_v11_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v16) = v0 c
          ∧ r.2.mem ((c.tc : Thread Cert.RopeRefIdeal.nD Cert.RopeRefIdeal.τ).loc Cert.RopeRefIdeal.main_v19) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def algebraic_LayoutIdeal_LayoutRefIdeal [hLayoutIdeal : Cert.LayoutIdeal.Facts] [hLayoutRefIdeal : Cert.LayoutRefIdeal.Facts] : Prop :=
  ∀ (m : (ℓ : Loc Cert.LayoutIdeal.nD Cert.LayoutIdeal.τ Cert.LayoutIdeal.sig) → Buf (Elt Ideal) ℓ) (g : Dev Cert.LayoutIdeal.nD → PrngReg)
    (m' : (ℓ : Loc Cert.LayoutRefIdeal.nD Cert.LayoutRefIdeal.τ Cert.LayoutRefIdeal.sig) → Buf (Elt Ideal) ℓ) (g' : Dev Cert.LayoutRefIdeal.nD → PrngReg), Pre_LayoutIdeal m →
    (∀ c : Dev Cert.LayoutIdeal.nD,
      m' ((c.tc : Thread Cert.LayoutRefIdeal.nD Cert.LayoutRefIdeal.τ).loc Cert.LayoutRefIdeal.main_arg0) = m ((c.tc : Thread Cert.LayoutIdeal.nD Cert.LayoutIdeal.τ).loc Cert.LayoutIdeal.main_arg0)) →
    ∃ (v0 : (c : Dev Cert.LayoutIdeal.nD) → Buf (Elt Ideal) ((c.tc : Thread Cert.LayoutIdeal.nD Cert.LayoutIdeal.τ).loc Cert.LayoutIdeal.main_v0_0)) (v1 : (c : Dev Cert.LayoutIdeal.nD) → Buf (Elt Ideal) ((c.tc : Thread Cert.LayoutIdeal.nD Cert.LayoutIdeal.τ).loc Cert.LayoutIdeal.main_v0_1)),
      θ_run (Cert.LayoutIdeal.defs (F := Ideal)) (onTc (τ := Cert.LayoutIdeal.τ) (Cert.LayoutIdeal.main (F := Ideal))) ⟨m, fun _ => 0, g⟩ (fun r => ∀ c : Dev Cert.LayoutIdeal.nD,
          r.2.mem ((c.tc : Thread Cert.LayoutIdeal.nD Cert.LayoutIdeal.τ).loc Cert.LayoutIdeal.main_v0_0) = v0 c
          ∧ r.2.mem ((c.tc : Thread Cert.LayoutIdeal.nD Cert.LayoutIdeal.τ).loc Cert.LayoutIdeal.main_v0_1) = v1 c
          ∧ r.2.mem ((c.tc : Thread Cert.LayoutIdeal.nD Cert.LayoutIdeal.τ).loc Cert.LayoutIdeal.main_arg0) = m ((c.tc : Thread Cert.LayoutIdeal.nD Cert.LayoutIdeal.τ).loc Cert.LayoutIdeal.main_arg0))
      ∧ θ_run (Cert.LayoutRefIdeal.defs (F := Ideal)) (onTc (τ := Cert.LayoutRefIdeal.τ) (Cert.LayoutRefIdeal.main (F := Ideal))) ⟨m', fun _ => 0, g'⟩ (fun r => ∀ c : Dev Cert.LayoutRefIdeal.nD,
          r.2.mem ((c.tc : Thread Cert.LayoutRefIdeal.nD Cert.LayoutRefIdeal.τ).loc Cert.LayoutRefIdeal.main_v10) = v0 c
          ∧ r.2.mem ((c.tc : Thread Cert.LayoutRefIdeal.nD Cert.LayoutRefIdeal.τ).loc Cert.LayoutRefIdeal.main_v11) = v1 c
          ∧ r.2.mem ((c.tc : Thread Cert.LayoutRefIdeal.nD Cert.LayoutRefIdeal.τ).loc Cert.LayoutRefIdeal.main_arg0) = m' ((c.tc : Thread Cert.LayoutRefIdeal.nD Cert.LayoutRefIdeal.τ).loc Cert.LayoutRefIdeal.main_arg0))

def Claim : Prop :=
  ∃ (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hInDil : Cert.InDil.Facts) (hInDilIdeal : Cert.InDilIdeal.Facts) (hInDilRefIdeal : Cert.InDilRefIdeal.Facts) (hMerge : Cert.Merge.Facts) (hMergeIdeal : Cert.MergeIdeal.Facts) (hMergeRefIdeal : Cert.MergeRefIdeal.Facts) (hPrep : Cert.Prep.Facts) (hPrepIdeal : Cert.PrepIdeal.Facts) (hPrepRefIdeal : Cert.PrepRefIdeal.Facts) (hMod : Cert.Mod.Facts) (hModIdeal : Cert.ModIdeal.Facts) (hModRefIdeal : Cert.ModRefIdeal.Facts) (hRope : Cert.Rope.Facts) (hRopeIdeal : Cert.RopeIdeal.Facts) (hRopeRefIdeal : Cert.RopeRefIdeal.Facts) (hLayout : Cert.Layout.Facts) (hLayoutIdeal : Cert.LayoutIdeal.Facts) (hLayoutRefIdeal : Cert.LayoutRefIdeal.Facts) (hFfn : Cert.Ffn.Facts) (hFfnIdeal : Cert.FfnIdeal.Facts) (hFfnRefIdeal : Cert.FfnRefIdeal.Facts) (hPre_finite_qk : Cert.Pre_finite_qk.Facts) (hPre_finite_lse : Cert.Pre_finite_lse.Facts) (hPre_ready : Cert.Pre_ready.Facts) (hPre_experts : Cert.Pre_experts.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_InProj (hInProj := hInProj)
    ∧ quiescent_InProjIdeal (hInProjIdeal := hInProjIdeal)
    ∧ quiescent_InProjRefIdeal (hInProjRefIdeal := hInProjRefIdeal)
    ∧ quiescent_InDil (hInDil := hInDil)
    ∧ quiescent_InDilIdeal (hInDilIdeal := hInDilIdeal)
    ∧ quiescent_InDilRefIdeal (hInDilRefIdeal := hInDilRefIdeal)
    ∧ quiescent_Merge (hMerge := hMerge)
    ∧ quiescent_MergeIdeal (hMergeIdeal := hMergeIdeal)
    ∧ quiescent_MergeIdeal_pre_finite_lse (hMergeIdeal := hMergeIdeal) (hPre_finite_lse := hPre_finite_lse)
    ∧ quiescent_MergeRefIdeal (hMergeRefIdeal := hMergeRefIdeal)
    ∧ quiescent_MergeRefIdeal_pre_finite_lse (hMergeRefIdeal := hMergeRefIdeal) (hPre_finite_lse := hPre_finite_lse)
    ∧ quiescent_Prep (hPrep := hPrep)
    ∧ quiescent_PrepIdeal (hPrepIdeal := hPrepIdeal)
    ∧ quiescent_PrepIdeal_pre_ready (hPrepIdeal := hPrepIdeal) (hPre_ready := hPre_ready)
    ∧ quiescent_PrepRefIdeal (hPrepRefIdeal := hPrepRefIdeal)
    ∧ quiescent_PrepRefIdeal_pre_ready (hPrepRefIdeal := hPrepRefIdeal) (hPre_ready := hPre_ready)
    ∧ quiescent_Mod (hMod := hMod)
    ∧ quiescent_ModIdeal (hModIdeal := hModIdeal)
    ∧ quiescent_ModRefIdeal (hModRefIdeal := hModRefIdeal)
    ∧ quiescent_Rope (hRope := hRope)
    ∧ quiescent_RopeIdeal (hRopeIdeal := hRopeIdeal)
    ∧ quiescent_RopeRefIdeal (hRopeRefIdeal := hRopeRefIdeal)
    ∧ quiescent_Layout (hLayout := hLayout)
    ∧ quiescent_LayoutIdeal (hLayoutIdeal := hLayoutIdeal)
    ∧ quiescent_LayoutRefIdeal (hLayoutRefIdeal := hLayoutRefIdeal)
    ∧ quiescent_Ffn (hFfn := hFfn) (hPre_experts := hPre_experts)
    ∧ quiescent_FfnIdeal (hFfnIdeal := hFfnIdeal) (hPre_experts := hPre_experts)
    ∧ quiescent_FfnRefIdeal (hFfnRefIdeal := hFfnRefIdeal)
    ∧ quiescent_FfnRefIdeal_pre_experts (hFfnRefIdeal := hFfnRefIdeal) (hPre_experts := hPre_experts)
    ∧ preserves_Attn_AttnIdeal
    ∧ preserves_InProj_InProjIdeal
    ∧ preserves_InDil_InDilIdeal
    ∧ preserves_Merge_MergeIdeal
    ∧ preserves_Prep_PrepIdeal
    ∧ preserves_Mod_ModIdeal
    ∧ preserves_Rope_RopeIdeal
    ∧ preserves_Layout_LayoutIdeal
    ∧ preserves_Ffn_FfnIdeal
    ∧ algebraic_AttnIdeal_AttnRefIdeal_pre_finite_qk (hAttnIdeal := hAttnIdeal) (hAttnRefIdeal := hAttnRefIdeal) (hPre_finite_qk := hPre_finite_qk)
    ∧ algebraic_InProjIdeal_InProjRefIdeal (hInProjIdeal := hInProjIdeal) (hInProjRefIdeal := hInProjRefIdeal)
    ∧ algebraic_InDilIdeal_InDilRefIdeal (hInDilIdeal := hInDilIdeal) (hInDilRefIdeal := hInDilRefIdeal)
    ∧ algebraic_MergeIdeal_MergeRefIdeal_pre_finite_lse (hMergeIdeal := hMergeIdeal) (hMergeRefIdeal := hMergeRefIdeal) (hPre_finite_lse := hPre_finite_lse)
    ∧ algebraic_FfnIdeal_FfnRefIdeal (hFfnIdeal := hFfnIdeal) (hFfnRefIdeal := hFfnRefIdeal) (hPre_experts := hPre_experts)
    ∧ algebraic_PrepIdeal_PrepRefIdeal_pre_ready (hPrepIdeal := hPrepIdeal) (hPrepRefIdeal := hPrepRefIdeal) (hPre_ready := hPre_ready)
    ∧ algebraic_ModIdeal_ModRefIdeal (hModIdeal := hModIdeal) (hModRefIdeal := hModRefIdeal)
    ∧ algebraic_RopeIdeal_RopeRefIdeal (hRopeIdeal := hRopeIdeal) (hRopeRefIdeal := hRopeRefIdeal)
    ∧ algebraic_LayoutIdeal_LayoutRefIdeal (hLayoutIdeal := hLayoutIdeal) (hLayoutRefIdeal := hLayoutRefIdeal)
-- ==== Pre_experts.lean ====
abbrev S224 : Shape := ⟨1, ![224]⟩
abbrev S1 : Shape := ⟨1, ![1]⟩
abbrev S114688x1024 : Shape := ⟨2, ![114688, 1024]⟩
abbrev S64x1024x384 : Shape := ⟨3, ![64, 1024, 384]⟩
abbrev S64x384x1024 : Shape := ⟨3, ![64, 384, 1024]⟩
abbrev S_ : Shape := ⟨0, ![]⟩

class Facts : Prop where
  bcast_S_S224 : S_.BroadcastsInDim S224 (![] : Fin 0 → Fin S224.rank)
  reducesTo_S224_S_d0 : S224.ReducesTo [0] S_
  h_S_ : 0 < S_.numel

variable [Facts]

def fn {F : FTy → Type} [FloatOps F] (main_arg0 : IVec S224 32) (main_arg1 : IVec S1 32) (main_arg2 : FVec F S114688x1024 .bf16) (main_arg3 : FVec F S64x1024x384 .f32) (main_arg4 : FVec F S64x1024x384 .f32) (main_arg5 : FVec F S64x384x1024 .f32) : IVec S_ 1 :=
  let main_c : IVec S_ 32 := constantI S_ 32 0#32
  let main_v0 : IVec S224 32 := broadcastInDim S224 ![] bcast_S_S224 main_c
  let main_v1 : IVec S224 1 := cmpi .sge main_arg0 main_v0
  let main_c_0 : IVec S_ 32 := constantI S_ 32 64#32
  let main_v2 : IVec S224 32 := broadcastInDim S224 ![] bcast_S_S224 main_c_0
  let main_v3 : IVec S224 1 := cmpi .slt main_arg0 main_v2
  let main_v4 : IVec S224 1 := andi main_v1 main_v3
  let main_c_1 : IVec S_ 1 := constantI S_ 1 1#1
  let main_v5 : IVec S_ 1 := (fun x v => Host.reduce IntOp.andi x v reducesTo_S224_S_d0 h_S_) main_v4 main_c_1
  main_v5
-- ==== Pre_finite_lse.lean ====
abbrev S32768x4864 : Shape := ⟨2, ![32768, 4864]⟩
abbrev S32768x512 : Shape := ⟨2, ![32768, 512]⟩
abbrev S16x2x2048x128 : Shape := ⟨4, ![16, 2, 2048, 128]⟩
abbrev S32768x1024 : Shape := ⟨2, ![32768, 1024]⟩
abbrev S16x6x1024 : Shape := ⟨3, ![16, 6, 1024]⟩
abbrev S512x1024 : Shape := ⟨2, ![512, 1024]⟩
abbrev S256x1024 : Shape := ⟨2, ![256, 1024]⟩
abbrev S1024x1024 : Shape := ⟨2, ![1024, 1024]⟩
abbrev S_ : Shape := ⟨0, ![]⟩

class Facts : Prop where
  bcast_S_S16x2x2048x128 : S_.BroadcastsInDim S16x2x2048x128 (![] : Fin 0 → Fin S16x2x2048x128.rank)
  reducesTo_S16x2x2048x128_S_d0_1_2_3 : S16x2x2048x128.ReducesTo [0, 1, 2, 3] S_
  h_S_ : 0 < S_.numel

variable [Facts]

def fn {F : FTy → Type} [FloatOps F] (main_arg0 : FVec F S32768x4864 .bf16) (main_arg1 : FVec F S32768x512 .bf16) (main_arg2 : FVec F S16x2x2048x128 .f32) (main_arg3 : FVec F S16x2x2048x128 .f32) (main_arg4 : FVec F S16x2x2048x128 .f32) (main_arg5 : FVec F S16x2x2048x128 .f32) (main_arg6 : FVec F S16x2x2048x128 .f32) (main_arg7 : FVec F S16x2x2048x128 .f32) (main_arg8 : FVec F S32768x512 .bf16) (main_arg9 : FVec F S32768x1024 .f32) (main_arg10 : FVec F S16x6x1024 .f32) (main_arg11 : FVec F S512x1024 .f32) (main_arg12 : FVec F S256x1024 .f32) (main_arg13 : FVec F S512x1024 .f32) (main_arg14 : FVec F S1024x1024 .f32) : IVec S_ 1 :=
  let main_v0 : FVec F S16x2x2048x128 .f32 := Host.absf main_arg5
  let main_cst : FVec F S_ .f32 := constant S_ .f32 0x7F800000#32
  let main_v1 : FVec F S16x2x2048x128 .f32 := broadcastInDim S16x2x2048x128 ![] bcast_S_S16x2x2048x128 main_cst
  let main_v2 : IVec S16x2x2048x128 1 := cmpf .olt main_v0 main_v1
  let main_c : IVec S_ 1 := constantI S_ 1 1#1
  let main_v3 : IVec S_ 1 := (fun x v => Host.reduce IntOp.andi x v reducesTo_S16x2x2048x128_S_d0_1_2_3 h_S_) main_v2 main_c
  let main_v4 : FVec F S16x2x2048x128 .f32 := Host.absf main_arg6
  let main_cst_0 : FVec F S_ .f32 := constant S_ .f32 0x7F800000#32
  let main_v5 : FVec F S16x2x2048x128 .f32 := broadcastInDim S16x2x2048x128 ![] bcast_S_S16x2x2048x128 main_cst_0
  let main_v6 : IVec S16x2x2048x128 1 := cmpf .olt main_v4 main_v5
  let main_c_1 : IVec S_ 1 := constantI S_ 1 1#1
  let main_v7 : IVec S_ 1 := (fun x v => Host.reduce IntOp.andi x v reducesTo_S16x2x2048x128_S_d0_1_2_3 h_S_) main_v6 main_c_1
  let main_v8 : IVec S_ 1 := andi main_v3 main_v7
  let main_v9 : FVec F S16x2x2048x128 .f32 := Host.absf main_arg7
  let main_cst_2 : FVec F S_ .f32 := constant S_ .f32 0x7F800000#32
  let main_v10 : FVec F S16x2x2048x128 .f32 := broadcastInDim S16x2x2048x128 ![] bcast_S_S16x2x2048x128 main_cst_2
  let main_v11 : IVec S16x2x2048x128 1 := cmpf .olt main_v9 main_v10
  let main_c_3 : IVec S_ 1 := constantI S_ 1 1#1
  let main_v12 : IVec S_ 1 := (fun x v => Host.reduce IntOp.andi x v reducesTo_S16x2x2048x128_S_d0_1_2_3 h_S_) main_v11 main_c_3
  let main_v13 : IVec S_ 1 := andi main_v8 main_v12
  main_v13
-- ==== Pre_finite_qk.lean ====
abbrev S32768x1024 : Shape := ⟨2, ![32768, 1024]⟩
abbrev S32768x512 : Shape := ⟨2, ![32768, 512]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .bf16) (main_arg1 : FVec F S32768x1024 .bf16) (main_arg2 : FVec F S32768x512 .bf16) : IVec S_ 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  let main_v5 : FVec F S32768x1024 .f32 := (extf .f32 · bitsLt_bf16_f32) main_arg1
  let main_v6 : FVec F S32768x1024 .f32 := Host.absf main_v5
  let main_cst_0 : FVec F S_ .f32 := constant S_ .f32 0x7F800000#32
  let main_v7 : FVec F S32768x1024 .f32 := broadcastInDim S32768x1024 ![] bcast_S_S32768x1024 main_cst_0
  let main_v8 : IVec S32768x1024 1 := cmpf .olt main_v6 main_v7
  let main_c_1 : IVec S_ 1 := constantI S_ 1 1#1
  let main_v9 : IVec S_ 1 := (fun x v => Host.reduce IntOp.andi x v reducesTo_S32768x1024_S_d0_1 h_S_) main_v8 main_c_1
  let main_v10 : IVec S_ 1 := andi main_v4 main_v9
  main_v10
-- ==== Pre_ready.lean ====
abbrev S32768x4864 : Shape := ⟨2, ![32768, 4864]⟩
abbrev S32768x128 : Shape := ⟨2, ![32768, 128]⟩
abbrev S512 : Shape := ⟨1, ![512]⟩
abbrev S512x768 : Shape := ⟨2, ![512, 768]⟩
abbrev S256 : Shape := ⟨1, ![256]⟩
abbrev S256x1024 : Shape := ⟨2, ![256, 1024]⟩
abbrev S96 : Shape := ⟨1, ![96]⟩
abbrev S_ : Shape := ⟨0, ![]⟩
abbrev S32768x64 : Shape := ⟨2, ![32768, 64]⟩
abbrev S32768x16 : Shape := ⟨2, ![32768, 16]⟩

class Facts : Prop where
  bitsLt_bf16_f32 : FTy.bits .bf16 < FTy.bits .f32
  bcast_S_S32768x4864 : S_.BroadcastsInDim S32768x4864 (![] : Fin 0 → Fin S32768x4864.rank)
  reducesTo_S32768x4864_S_d0_1 : S32768x4864.ReducesTo [0, 1] S_
  h_S_ : 0 < S_.numel
  bcast_S_S512 : S_.BroadcastsInDim S512 (![] : Fin 0 → Fin S512.rank)
  reducesTo_S512_S_d0 : S512.ReducesTo [0] S_
  bcast_S_S512x768 : S_.BroadcastsInDim S512x768 (![] : Fin 0 → Fin S512x768.rank)
  reducesTo_S512x768_S_d0_1 : S512x768.ReducesTo [0, 1] S_
  bcast_S_S256 : S_.BroadcastsInDim S256 (![] : Fin 0 → Fin S256.rank)
  reducesTo_S256_S_d0 : S256.ReducesTo [0] S_
  bcast_S_S256x1024 : S_.BroadcastsInDim S256x1024 (![] : Fin 0 → Fin S256x1024.rank)
  reducesTo_S256x1024_S_d0_1 : S256x1024.ReducesTo [0, 1] S_
  slices_S32768x128_S32768x64_0_0 : S32768x128.Slices ![0, 0] S32768x64
  bcast_S_S32768x64 : S_.BroadcastsInDim S32768x64 (![] : Fin 0 → Fin S32768x64.rank)
  reducesTo_S32768x64_S_d0_1 : S32768x64.ReducesTo [0, 1] S_
  slices_S32768x128_S32768x16_0_64 : S32768x128.Slices ![0, 64] S32768x16
  slices_S32768x128_S32768x16_0_80 : S32768x128.Slices ![0, 80] S32768x16
  reducesTo_S32768x16_S_d0_1 : S32768x16.ReducesTo [0, 1] S_

variable [Facts]

def fn_part2 {F : FTy → Type} [FloatOps F] (main_arg2 : FVec F S32768x128 .f32) (main_v34 : IVec S_ 1) : IVec S_ 1 :=
  let main_v35 : FVec F S32768x16 .f32 := (extractStridedSlice S32768x16 ![0, 64] · slices_S32768x128_S32768x16_0_64) main_arg2
  let main_v36 : FVec F S32768x16 .f32 := (extractStridedSlice S32768x16 ![0, 80] · slices_S32768x128_S32768x16_0_80) main_arg2
  let main_v37 : IVec S32768x16 1 := cmpf .oeq main_v35 main_v36
  let main_c_11 : IVec S_ 1 := constantI S_ 1 1#1
  let main_v38 : IVec S_ 1 := (fun x v => Host.reduce IntOp.andi x v reducesTo_S32768x16_S_d0_1 h_S_) main_v37 main_c_11
  let main_v39 : IVec S_ 1 := andi main_v34 main_v38
  main_v39

def fn_part1 {F : FTy → Type} [FloatOps F] (main_arg1 : FVec F S32768x128 .f32) (main_arg2 : FVec F S32768x128 .f32) (main_arg6 : FVec F S256x1024 .f32) (main_v14 : IVec S_ 1) (main_v15 : FVec F S256 .f32) (main_v16 : FVec F S256 .f32) : IVec S_ 1 :=
  let main_v17 : IVec S256 1 := cmpf .olt main_v15 main_v16
  let main_c_5 : IVec S_ 1 := constantI S_ 1 1#1
  let main_v18 : IVec S_ 1 := (fun x v => Host.reduce IntOp.andi x v reducesTo_S256_S_d0 h_S_) main_v17 main_c_5
  let main_v19 : IVec S_ 1 := andi main_v14 main_v18
  let main_v20 : FVec F S256x1024 .f32 := Host.absf main_arg6
  let main_cst_6 : FVec F S_ .f32 := constant S_ .f32 0x7F800000#32
  let main_v21 : FVec F S256x1024 .f32 := broadcastInDim S256x1024 ![] bcast_S_S256x1024 main_cst_6
  let main_v22 : IVec S256x1024 1 := cmpf .olt main_v20 main_v21
  let main_c_7 : IVec S_ 1 := constantI S_ 1 1#1
  let main_v23 : IVec S_ 1 := (fun x v => Host.reduce IntOp.andi x v reducesTo_S256x1024_S_d0_1 h_S_) main_v22 main_c_7
  let main_v24 : IVec S_ 1 := andi main_v19 main_v23
  let main_v25 : FVec F S32768x64 .f32 := (extractStridedSlice S32768x64 ![0, 0] · slices_S32768x128_S32768x64_0_0) main_arg1
  let main_cst_8 : FVec F S_ .f32 := constant S_ .f32 0x3F800000#32
  let main_v26 : FVec F S32768x64 .f32 := broadcastInDim S32768x64 ![] bcast_S_S32768x64 main_cst_8
  let main_v27 : IVec S32768x64 1 := cmpf .oeq main_v25 main_v26
  let main_c_9 : IVec S_ 1 := constantI S_ 1 1#1
  let main_v28 : IVec S_ 1 := (fun x v => Host.reduce IntOp.andi x v reducesTo_S32768x64_S_d0_1 h_S_) main_v27 main_c_9
  let main_v29 : IVec S_ 1 := andi main_v24 main_v28
  let main_v30 : FVec F S32768x16 .f32 := (extractStridedSlice S32768x16 ![0, 64] · slices_S32768x128_S32768x16_0_64) main_arg1
  let main_v31 : FVec F S32768x16 .f32 := (extractStridedSlice S32768x16 ![0, 80] · slices_S32768x128_S32768x16_0_80) main_arg1
  let main_v32 : IVec S32768x16 1 := cmpf .oeq main_v30 main_v31
  let main_c_10 : IVec S_ 1 := constantI S_ 1 1#1
  let main_v33 : IVec S_ 1 := (fun x v => Host.reduce IntOp.andi x v reducesTo_S32768x16_S_d0_1 h_S_) main_v32 main_c_10
  let main_v34 : IVec S_ 1 := andi main_v29 main_v33
  fn_part2 (F := F) main_arg2 main_v34

def fn {F : FTy → Type} [FloatOps F] (main_arg0 : FVec F S32768x4864 .bf16) (main_arg1 : FVec F S32768x128 .f32) (main_arg2 : FVec F S32768x128 .f32) (main_arg3 : FVec F S512 .f32) (main_arg4 : FVec F S512x768 .f32) (main_arg5 : FVec F S256 .f32) (main_arg6 : FVec F S256x1024 .f32) (main_arg7 : FVec F S96 .f32) (main_arg8 : FVec F S96 .f32) : IVec S_ 1 :=
  let main_v0 : FVec F S32768x4864 .f32 := (extf .f32 · bitsLt_bf16_f32) main_arg0
  let main_v1 : FVec F S32768x4864 .f32 := Host.absf main_v0
  let main_cst : FVec F S_ .f32 := constant S_ .f32 0x7F800000#32
  let main_v2 : FVec F S32768x4864 .f32 := broadcastInDim S32768x4864 ![] bcast_S_S32768x4864 main_cst
  let main_v3 : IVec S32768x4864 1 := cmpf .olt main_v1 main_v2
  let main_c : IVec S_ 1 := constantI S_ 1 1#1
  let main_v4 : IVec S_ 1 := (fun x v => Host.reduce IntOp.andi x v reducesTo_S32768x4864_S_d0_1 h_S_) main_v3 main_c
  let main_v5 : FVec F S512 .f32 := Host.absf main_arg3
  let main_cst_0 : FVec F S_ .f32 := constant S_ .f32 0x7F800000#32
  let main_v6 : FVec F S512 .f32 := broadcastInDim S512 ![] bcast_S_S512 main_cst_0
  let main_v7 : IVec S512 1 := cmpf .olt main_v5 main_v6
  let main_c_1 : IVec S_ 1 := constantI S_ 1 1#1
  let main_v8 : IVec S_ 1 := (fun x v => Host.reduce IntOp.andi x v reducesTo_S512_S_d0 h_S_) main_v7 main_c_1
  let main_v9 : IVec S_ 1 := andi main_v4 main_v8
  let main_v10 : FVec F S512x768 .f32 := Host.absf main_arg4
  let main_cst_2 : FVec F S_ .f32 := constant S_ .f32 0x7F800000#32
  let main_v11 : FVec F S512x768 .f32 := broadcastInDim S512x768 ![] bcast_S_S512x768 main_cst_2
  let main_v12 : IVec S512x768 1 := cmpf .olt main_v10 main_v11
  let main_c_3 : IVec S_ 1 := constantI S_ 1 1#1
  let main_v13 : IVec S_ 1 := (fun x v => Host.reduce IntOp.andi x v reducesTo_S512x768_S_d0_1 h_S_) main_v12 main_c_3
  let main_v14 : IVec S_ 1 := andi main_v9 main_v13
  let main_v15 : FVec F S256 .f32 := Host.absf main_arg5
  let main_cst_4 : FVec F S_ .f32 := constant S_ .f32 0x7F800000#32
  let main_v16 : FVec F S256 .f32 := broadcastInDim S256 ![] bcast_S_S256 main_cst_4
  fn_part1 (F := F) main_arg1 main_arg2 main_arg6 main_v14 main_v15 main_v16
-- ==== Attn.lean ====
abbrev S32768x1024 : Shape := ⟨2, ![32768, 1024]⟩
abbrev S32768x512 : Shape := ⟨2, ![32768, 512]⟩
abbrev S16x2048x1024 : Shape := ⟨3, ![16, 2048, 1024]⟩
abbrev S16x2048x512 : Shape := ⟨3, ![16, 2048, 512]⟩
abbrev S1x512x1024 : Shape := ⟨3, ![1, 512, 1024]⟩
abbrev S1x2048x1024 : Shape := ⟨3, ![1, 2048, 1024]⟩
abbrev S1x2048x512 : Shape := ⟨3, ![1, 2048, 512]⟩
abbrev S1x512x512 : Shape := ⟨3, ![1, 512, 512]⟩
abbrev S1x128 : Shape := ⟨2, ![1, 128]⟩
abbrev S1x2048x128 : Shape := ⟨3, ![1, 2048, 128]⟩
abbrev S2048x128 : Shape := ⟨2, ![2048, 128]⟩
abbrev S1x512x128 : Shape := ⟨3, ![1, 512, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x512, .bf16⟩
  | .hbm, ⟨3, _⟩ => ⟨S16x2048x1024, .bf16⟩
  | .hbm, ⟨4, _⟩ => ⟨S16x2048x1024, .bf16⟩
  | .hbm, ⟨5, _⟩ => ⟨S16x2048x512, .bf16⟩
  | .hbm, ⟨6, _⟩ => ⟨S16x2048x512, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x512, .bf16⟩
  | .local _ .vmem, ⟨7, _⟩ => ⟨S1x512x512, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S32768x1024 : Shape := ⟨2, ![32768, 1024]⟩
abbrev S32768x512 : Shape := ⟨2, ![32768, 512]⟩
abbrev S16x2048x8x128 : Shape := ⟨4, ![16, 2048, 8, 128]⟩
abbrev S16x2048x8x64 : Shape := ⟨4, ![16, 2048, 8, 64]⟩
abbrev S16x8x2048x2048 : Shape := ⟨4, ![16, 8, 2048, 2048]⟩
abbrev S_ : Shape := ⟨0, ![]⟩
abbrev S16x8x2048 : Shape := ⟨3, ![16, 8, 2048]⟩
abbrev S16x8x2048x1 : Shape := ⟨4, ![16, 8, 2048, 1]⟩
abbrev S16x8x64x2048 : Shape := ⟨4, ![16, 8, 64, 2048]⟩
abbrev S16x2048x512 : Shape := ⟨3, ![16, 2048, 512]⟩

abbrev nBuf : Space → Nat
  | .hbm => 32
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x512, .bf16⟩
  | .hbm, ⟨3, _⟩ => ⟨S32768x1024, .f32⟩
  | .hbm, ⟨4, _⟩ => ⟨S16x2048x8x128, .f32⟩
  | .hbm, ⟨5, _⟩ => ⟨S32768x1024, .f32⟩
  | .hbm, ⟨6, _⟩ => ⟨S16x2048x8x128, .f32⟩
  | .hbm, ⟨7, _⟩ => ⟨S32768x512, .f32⟩
  | .hbm, ⟨8, _⟩ => ⟨S16x2048x8x64, .f32⟩
  | .hbm, ⟨9, _⟩ => ⟨S16x8x2048x2048, .f32⟩
  | .hbm, ⟨10, _⟩ => ⟨S_, .f32⟩
  | .hbm, ⟨11, _⟩ => ⟨S_, .f32⟩
  | .hbm, ⟨12, _⟩ => ⟨S16x8x2048x2048, .f32⟩
  | .hbm, ⟨13, _⟩ => ⟨S16x8x2048x2048, .f32⟩
  | .hbm, ⟨14, _⟩ => ⟨S_, .f32⟩
  | .hbm, ⟨15, _⟩ => ⟨S16x8x2048, .f32⟩
  | .hbm, ⟨16, _⟩ => ⟨S_, .f32⟩
  | .hbm, ⟨17, _⟩ => ⟨S16x8x2048, .f32⟩
  | .hbm, ⟨18, _⟩ => ⟨S16x8x2048, .f32⟩
  | .hbm, ⟨19, _⟩ => ⟨S16x8x2048x1, .f32⟩
  | .hbm, ⟨20, _⟩ => ⟨S16x8x2048x2048, .f32⟩
  | .hbm, ⟨21, _⟩ => ⟨S16x8x2048x2048, .f32⟩
  | .hbm, ⟨22, _⟩ => ⟨S16x8x2048x2048, .f32⟩
  | .hbm, ⟨23, _⟩ => ⟨S_, .f32⟩
  | .hbm, ⟨24, _⟩ => ⟨S16x8x2048, .f32⟩
  | .hbm, ⟨25, _⟩ => ⟨S16x8x2048x1, .f32⟩
  | .hbm, ⟨26, _⟩ => ⟨S16x8x2048x2048, .f32⟩
  | .hbm, ⟨27, _⟩ => ⟨S16x8x2048x2048, .f32⟩
  | .hbm, ⟨28, _⟩ => ⟨S16x8x64x2048, .f32⟩
  | .hbm, ⟨29, _⟩ => ⟨S16x2048x8x64, .f32⟩
  | .hbm, ⟨30, _⟩ => ⟨S16x2048x512, .f32⟩
  | .hbm, ⟨31, _⟩ => ⟨S16x2048x512, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== InProj.lean ====
abbrev S32768x1024 : Shape := ⟨2, ![32768, 1024]⟩
abbrev S16x6x1024 : Shape := ⟨3, ![16, 6, 1024]⟩
abbrev S1024 : Shape := ⟨1, ![1024]⟩
abbrev S1024x4864 : Shape := ⟨2, ![1024, 4864]⟩
abbrev S1x1024 : Shape := ⟨2, ![1, 1024]⟩
abbrev S32768x4864 : Shape := ⟨2, ![32768, 4864]⟩
abbrev S512x1024 : Shape := ⟨2, ![512, 1024]⟩
abbrev S1x6x1024 : Shape := ⟨3, ![1, 6, 1024]⟩
abbrev S512x4864 : Shape := ⟨2, ![512, 4864]⟩
abbrev S6x1024 : Shape := ⟨2, ![6, 1024]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S16x6x1024, .f32⟩
  | .hbm, ⟨2, _⟩ => ⟨S1024, .f32⟩
  | .hbm, ⟨3, _⟩ => ⟨S1024x4864, .bf16⟩
  | .hbm, ⟨4, _⟩ => ⟨S1x1024, .f32⟩
  | .hbm, ⟨5, _⟩ => ⟨S32768x4864, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x4864, .bf16⟩
  | .local _ .vmem, ⟨6, _⟩ => ⟨S512x4864, .bf16⟩
  | .local _ .vmem, ⟨7, _⟩ => ⟨S512x4864, .bf16⟩
  | .local _ .vmem, ⟨8, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4864 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x4864 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S32768x1024 : Shape := ⟨2, ![32768, 1024]⟩
abbrev S16x6x1024 : Shape := ⟨3, ![16, 6, 1024]⟩
abbrev S1024 : Shape := ⟨1, ![1024]⟩
abbrev S1024x4864 : Shape := ⟨2, ![1024, 4864]⟩
abbrev S16x1x1024 : Shape := ⟨3, ![16, 1, 1024]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4864 : Shape := ⟨3, ![16, 2048, 4864]⟩
abbrev S32768x4864 : Shape := ⟨2, ![32768, 4864]⟩

abbrev nBuf : Space → Nat
  | .hbm => 34
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x6x1024, .f32⟩
  | .hbm, ⟨2, _⟩ => ⟨S1024, .f32⟩
  | .hbm, ⟨3, _⟩ => ⟨S1024x4864, .bf16⟩
  | .hbm, ⟨4, _⟩ => ⟨S16x1x1024, .f32⟩
  | .hbm, ⟨5, _⟩ => ⟨S16x1x1024, .f32⟩
  | .hbm, ⟨6, _⟩ => ⟨S16x2048x1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S_, .f32⟩
  | .hbm, ⟨24, _⟩ => ⟨S16x1x1024, .f32⟩
  | .hbm, ⟨25, _⟩ => ⟨S16x1x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S1024x4864, .f32⟩
  | .hbm, ⟨31, _⟩ => ⟨S16x2048x4864, .f32⟩
  | .hbm, ⟨32, _⟩ => ⟨S32768x4864, .f32⟩
  | .hbm, ⟨33, _⟩ => ⟨S32768x4864, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== InDil.lean ====
abbrev S32768x1024 : Shape := ⟨2, ![32768, 1024]⟩
abbrev S16x6x1024 : Shape := ⟨3, ![16, 6, 1024]⟩
abbrev S1024 : Shape := ⟨1, ![1024]⟩
abbrev S1024x2304 : Shape := ⟨2, ![1024, 2304]⟩
abbrev S1x1024 : Shape := ⟨2, ![1, 1024]⟩
abbrev S32768x2304 : Shape := ⟨2, ![32768, 2304]⟩
abbrev S1024x1024 : Shape := ⟨2, ![1024, 1024]⟩
abbrev S1x6x1024 : Shape := ⟨3, ![1, 6, 1024]⟩
abbrev S6x1024 : Shape := ⟨2, ![6, 1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S16x6x1024, .f32⟩
  | .hbm, ⟨2, _⟩ => ⟨S1024, .f32⟩
  | .hbm, ⟨3, _⟩ => ⟨S1024x2304, .bf16⟩
  | .hbm, ⟨4, _⟩ => ⟨S1x1024, .f32⟩
  | .hbm, ⟨5, _⟩ => ⟨S32768x2304, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2304, .bf16⟩
  | .local _ .vmem, ⟨6, _⟩ => ⟨S1024x2304, .f32⟩
  | .local _ .vmem, ⟨7, _⟩ => ⟨S1024x2304, .f32⟩
  | .local _ .vmem, ⟨8, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InDilRefIdeal.lean ====
abbrev S32768x1024 : Shape := ⟨2, ![32768, 1024]⟩
abbrev S16x6x1024 : Shape := ⟨3, ![16, 6, 1024]⟩
abbrev S1024 : Shape := ⟨1, ![1024]⟩
abbrev S1024x2304 : Shape := ⟨2, ![1024, 2304]⟩
abbrev S16x1x1024 : Shape := ⟨3, ![16, 1, 1024]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2304 : Shape := ⟨3, ![16, 2048, 2304]⟩
abbrev S32768x2304 : Shape := ⟨2, ![32768, 2304]⟩

abbrev nBuf : Space → Nat
  | .hbm => 33
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x6x1024, .f32⟩
  | .hbm, ⟨2, _⟩ => ⟨S1024, .f32⟩
  | .hbm, ⟨3, _⟩ => ⟨S1024x2304, .bf16⟩
  | .hbm, ⟨4, _⟩ => ⟨S16x1x1024, .f32⟩
  | .hbm, ⟨5, _⟩ => ⟨S16x1x1024, .f32⟩
  | .hbm, ⟨6, _⟩ => ⟨S16x2048x1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S_, .f32⟩
  | .hbm, ⟨24, _⟩ => ⟨S16x1x1024, .f32⟩
  | .hbm, ⟨25, _⟩ => ⟨S16x1x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S1024x2304, .f32⟩
  | .hbm, ⟨31, _⟩ => ⟨S16x2048x2304, .f32⟩
  | .hbm, ⟨32, _⟩ => ⟨S32768x2304, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Merge.lean ====
abbrev S32768x4864 : Shape := ⟨2, ![32768, 4864]⟩
abbrev S32768x512 : Shape := ⟨2, ![32768, 512]⟩
abbrev S16x2x2048x128 : Shape := ⟨4, ![16, 2, 2048, 128]⟩
abbrev S32768x1024 : Shape := ⟨2, ![32768, 1024]⟩
abbrev S16x6x1024 : Shape := ⟨3, ![16, 6, 1024]⟩
abbrev S512x1024 : Shape := ⟨2, ![512, 1024]⟩
abbrev S256x1024 : Shape := ⟨2, ![256, 1024]⟩
abbrev S1024x1024 : Shape := ⟨2, ![1024, 1024]⟩
abbrev S512x512 : Shape := ⟨2, ![512, 512]⟩
abbrev S1x2x512x128 : Shape := ⟨4, ![1, 2, 512, 128]⟩
abbrev S1x6x1024 : Shape := ⟨3, ![1, 6, 1024]⟩
abbrev S1x1x512x128 : Shape := ⟨4, ![1, 1, 512, 128]⟩
abbrev S512x128 : Shape := ⟨2, ![512, 128]⟩
abbrev S512x256 : Shape := ⟨2, ![512, 256]⟩
abbrev S6x1024 : Shape := ⟨2, ![6, 1024]⟩
abbrev S1x1024 : Shape := ⟨2, ![1, 1024]⟩

abbrev nBuf : Space → Nat
  | .hbm => 20
  | .vmem => 32
  | .smem => 0
  | _ => 0

abbrev bufTy : (tb : Table) → Fin (tcTables nBuf tb) → BufTy
  | .hbm, ⟨0, _⟩ => ⟨S32768x4864, .bf16⟩
  | .hbm, ⟨1, _⟩ => ⟨S32768x512, .bf16⟩
  | .hbm, ⟨2, _⟩ => ⟨S16x2x2048x128, .f32⟩
  | .hbm, ⟨3, _⟩ => ⟨S16x2x2048x128, .f32⟩
  | .hbm, ⟨4, _⟩ => ⟨S16x2x2048x128, .f32⟩
  | .hbm, ⟨5, _⟩ => ⟨S16x2x2048x128, .f32⟩
  | .hbm, ⟨6, _⟩ => ⟨S16x2x2048x128, .f32⟩
  | .hbm, ⟨7, _⟩ => ⟨S16x2x2048x128, .f32⟩
  | .hbm, ⟨8, _⟩ => ⟨S32768x512, .bf16⟩
  | .hbm, ⟨9, _⟩ => ⟨S32768x1024, .f32⟩
  | .hbm, ⟨10, _⟩ => ⟨S16x6x1024, .f32⟩
  | .hbm, ⟨11, _⟩ => ⟨S512x1024, .f32⟩
  | .hbm, ⟨12, _⟩ => ⟨S256x1024, .f32⟩
  | .hbm, ⟨13, _⟩ => ⟨S512x1024, .f32⟩
  | .hbm, ⟨14, _⟩ => ⟨S1024x1024, .f32⟩
  | .hbm, ⟨15, _⟩ => ⟨S512x1024, .bf16⟩
  | .hbm, ⟨16, _⟩ => ⟨S256x1024, .bf16⟩
  | .hbm, ⟨17, _⟩ => ⟨S512x1024, .bf16⟩
  | .hbm, ⟨18, _⟩ => ⟨S1024x1024, .bf16⟩
  | .hbm, ⟨19, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S1x2x512x128, .f32⟩
  | .local _ .vmem, ⟨9, _⟩ => ⟨S1x2x512x128, .f32⟩
  | .local _ .vmem, ⟨10, _⟩ => ⟨S1x2x512x128, .f32⟩
  | .local _ .vmem, ⟨11, _⟩ => ⟨S1x2x512x128, .f32⟩
  | .local _ .vmem, ⟨12, _⟩ => ⟨S1x2x512x128, .f32⟩
  | .local _ .vmem, ⟨13, _⟩ => ⟨S1x2x512x128, .f32⟩
  | .local _ .vmem, ⟨14, _⟩ => ⟨S1x2x512x128, .f32⟩
  | .local _ .vmem, ⟨15, _⟩ => ⟨S1x2x512x128, .f32⟩
  | .local _ .vmem, ⟨16, _⟩ => ⟨S1x2x512x128, .f32⟩
  | .local _ .vmem, ⟨17, _⟩ => ⟨S1x2x512x128, .f32⟩
  | .local _ .vmem, ⟨18, _⟩ => ⟨S1x2x512x128, .f32⟩
  | .local _ .vmem, ⟨19, _⟩ => ⟨S1x2x512x128, .f32⟩
  | .local _ .vmem, ⟨20, _⟩ => ⟨S512x512, .bf16⟩
  | .local _ .vmem, ⟨21, _⟩ => ⟨S512x512, .bf16⟩
  | .local _ .vmem, ⟨22, _⟩ => ⟨S512x1024, .f32⟩
  | .local _ .vmem, ⟨23, _⟩ => ⟨S512x1024, .f32⟩
  | .local _ .vmem, ⟨24, _⟩ => ⟨S1x6x1024, .f32⟩
  | .local _ .vmem, ⟨25, _⟩ => ⟨S1x6x1024, .f32⟩
  | .local _ .vmem, ⟨26, _⟩ => ⟨S512x1024, .bf16⟩
  | .local _ .vmem, ⟨27, _⟩ => ⟨S256x1024, .bf16⟩
  | .local _ .vmem, ⟨28, _⟩ => ⟨S512x1024, .bf16⟩
  | .local _ .vmem, ⟨29, _⟩ => ⟨S1024x1024, .bf16⟩
  | .local _ .vmem, ⟨30, _⟩ => ⟨S512x1024, .f32⟩
  | .local _ .vmem, ⟨31, _⟩ => ⟨S512x1024, .f32⟩
  | _, _ => ⟨S32768x4864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x6x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MergeRefIdeal.lean ====
abbrev S32768x4864 : Shape := ⟨2, ![32768, 4864]⟩
abbrev S32768x512 : Shape := ⟨2, ![32768, 512]⟩
abbrev S16x2x2048x128 : Shape := ⟨4, ![16, 2, 2048, 128]⟩
abbrev S32768x1024 : Shape := ⟨2, ![32768, 1024]⟩
abbrev S16x6x1024 : Shape := ⟨3, ![16, 6, 1024]⟩
abbrev S512x1024 : Shape := ⟨2, ![512, 1024]⟩
abbrev S256x1024 : Shape := ⟨2, ![256, 1024]⟩
abbrev S1024x1024 : Shape := ⟨2, ![1024, 1024]⟩
abbrev S32768x3072 : Shape := ⟨2, ![32768, 3072]⟩
abbrev S_ : Shape := ⟨0, ![]⟩
abbrev S1x16x2x2048x128 : Shape := ⟨5, ![1, 16, 2, 2048, 128]⟩
abbrev S3x16x2x2048x128 : Shape := ⟨5, ![3, 16, 2, 2048, 128]⟩
abbrev S16x2048x2x128 : Shape := ⟨4, ![16, 2048, 2, 128]⟩
abbrev S32768x256 : Shape := ⟨2, ![32768, 256]⟩
abbrev S16x1x1024 : Shape := ⟨3, ![16, 1, 1024]⟩
abbrev S16x2048x1024 : Shape := ⟨3, ![16, 2048, 1024]⟩

abbrev nBuf : Space → Nat
  | .hbm => 73
  | .vmem => 0
  | .smem => 0
  | _ => 0

abbrev bufTy : (tb : Table) → Fin (tcTables nBuf tb) → BufTy
  | .hbm, ⟨0, _⟩ => ⟨S32768x4864, .bf16⟩
  | .hbm, ⟨1, _⟩ => ⟨S32768x512, .bf16⟩
  | .hbm, ⟨2, _⟩ => ⟨S16x2x2048x128, .f32⟩
  | .hbm, ⟨3, _⟩ => ⟨S16x2x2048x128, .f32⟩
  | .hbm, ⟨4, _⟩ => ⟨S16x2x2048x128, .f32⟩
  | .hbm, ⟨5, _⟩ => ⟨S16x2x2048x128, .f32⟩
  | .hbm, ⟨6, _⟩ => ⟨S16x2x2048x128, .f32⟩
  | .hbm, ⟨7, _⟩ => ⟨S16x2x2048x128, .f32⟩
  | .hbm, ⟨8, _⟩ => ⟨S32768x512, .bf16⟩
  | .hbm, ⟨9, _⟩ => ⟨S32768x1024, .f32⟩
  | .hbm, ⟨10, _⟩ => ⟨S16x6x1024, .f32⟩
  | .hbm, ⟨11, _⟩ => ⟨S512x1024, .f32⟩
  | .hbm, ⟨12, _⟩ => ⟨S256x1024, .f32⟩
  | .hbm, ⟨13, _⟩ => ⟨S512x1024, .f32⟩
  | .hbm, ⟨14, _⟩ => ⟨S1024x1024, .f32⟩
  | .hbm, ⟨15, _⟩ => ⟨S32768x3072, .bf16⟩
  | .hbm, ⟨16, _⟩ => ⟨S32768x3072, .f32⟩
  | .hbm, ⟨17, _⟩ => ⟨S32768x3072, .f32⟩
  | .hbm, ⟨18, _⟩ => ⟨S32768x3072, .f32⟩
  | .hbm, ⟨19, _⟩ => ⟨S_, .f32⟩
  | .hbm, ⟨20, _⟩ => ⟨S32768x3072, .f32⟩
  | .hbm, ⟨21, _⟩ => ⟨S32768x3072, .f32⟩
  | .hbm, ⟨22, _⟩ => ⟨S_, .f32⟩
  | .hbm, ⟨23, _⟩ => ⟨S32768x3072, .f32⟩
  | .hbm, ⟨24, _⟩ => ⟨S32768x3072, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S1x16x2x2048x128, .f32⟩
  | .hbm, ⟨29, _⟩ => ⟨S1x16x2x2048x128, .f32⟩
  | .hbm, ⟨30, _⟩ => ⟨S1x16x2x2048x128, .f32⟩
  | .hbm, ⟨31, _⟩ => ⟨S3x16x2x2048x128, .f32⟩
  | .hbm, ⟨32, _⟩ => ⟨S_, .f32⟩
  | .hbm, ⟨33, _⟩ => ⟨S16x2x2048x128, .f32⟩
  | .hbm, ⟨34, _⟩ => ⟨S_, .f32⟩
  | .hbm, ⟨35, _⟩ => ⟨S16x2x2048x128, .f32⟩
  | .hbm, ⟨36, _⟩ => ⟨S16x2x2048x128, .f32⟩
  | .hbm, ⟨37, _⟩ => ⟨S1x16x2x2048x128, .f32⟩
  | .hbm, ⟨38, _⟩ => ⟨S3x16x2x2048x128, .f32⟩
  | .hbm, ⟨39, _⟩ => ⟨S3x16x2x2048x128, .f32⟩
  | .hbm, ⟨40, _⟩ => ⟨S3x16x2x2048x128, .f32⟩
  | .hbm, ⟨41, _⟩ => ⟨S_, .f32⟩
  | .hbm, ⟨42, _⟩ => ⟨S16x2x2048x128, .f32⟩
  | .hbm, ⟨43, _⟩ => ⟨S1x16x2x2048x128, .f32⟩
  | .hbm, ⟨44, _⟩ => ⟨S3x16x2x2048x128, .f32⟩
  | .hbm, ⟨45, _⟩ => ⟨S3x16x2x2048x128, .f32⟩
  | .hbm, ⟨46, _⟩ => ⟨S1x16x2x2048x128, .f32⟩
  | .hbm, ⟨47, _⟩ => ⟨S1x16x2x2048x128, .f32⟩
  | .hbm, ⟨48, _⟩ => ⟨S1x16x2x2048x128, .f32⟩
  | .hbm, ⟨49, _⟩ => ⟨S3x16x2x2048x128, .f32⟩
  | .hbm, ⟨50, _⟩ => ⟨S3x16x2x2048x128, .f32⟩
  | .hbm, ⟨51, _⟩ => ⟨S_, .f32⟩
  | .hbm, ⟨52, _⟩ => ⟨S16x2x2048x128, .f32⟩
  | .hbm, ⟨53, _⟩ => ⟨S16x2048x2x128, .f32⟩
  | .hbm, ⟨54, _⟩ => ⟨S32768x256, .f32⟩
  | .hbm, ⟨55, _⟩ => ⟨S32768x512, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S32768x1024, .f32⟩
  | .hbm, ⟨61, _⟩ => ⟨S32768x512, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S16x1x1024, .f32⟩
  | .hbm, ⟨66, _⟩ => ⟨S16x2048x1024, .f32⟩
  | .hbm, ⟨67, _⟩ => ⟨S32768x1024, .f32⟩
  | .hbm, ⟨68, _⟩ => ⟨S16x2048x1024, .f32⟩
  | .hbm, ⟨69, _⟩ => ⟨S16x2048x1024, .f32⟩
  | .hbm, ⟨70, _⟩ => ⟨S16x2048x1024, .f32⟩
  | .hbm, ⟨71, _⟩ => ⟨S16x2048x1024, .f32⟩
  | .hbm, ⟨72, _⟩ => ⟨S32768x1024, .f32⟩
  | _, _ => ⟨S32768x4864, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== Prep.lean ====
abbrev S32768x4864 : Shape := ⟨2, ![32768, 4864]⟩
abbrev S32768x128 : Shape := ⟨2, ![32768, 128]⟩
abbrev S512 : Shape := ⟨1, ![512]⟩
abbrev S512x768 : Shape := ⟨2, ![512, 768]⟩
abbrev S256 : Shape := ⟨1, ![256]⟩
abbrev S256x1024 : Shape := ⟨2, ![256, 1024]⟩
abbrev S96 : Shape := ⟨1, ![96]⟩
abbrev S128 : Shape := ⟨1, ![128]⟩
abbrev S_ : Shape := ⟨0, ![]⟩
abbrev S128x128 : Shape := ⟨2, ![128, 128]⟩
abbrev S128x1 : Shape := ⟨2, ![128, 1]⟩
abbrev S1x128 : Shape := ⟨2, ![1, 128]⟩
abbrev S512x8x96 : Shape := ⟨3, ![512, 8, 96]⟩
abbrev S512x8x128 : Shape := ⟨3, ![512, 8, 128]⟩
abbrev S512x1024 : Shape := ⟨2, ![512, 1024]⟩
abbrev S256x8x128 : Shape := ⟨3, ![256, 8, 128]⟩
abbrev S256x8x64 : Shape := ⟨3, ![256, 8, 64]⟩
abbrev S256x512 : Shape := ⟨2, ![256, 512]⟩
abbrev S64 : Shape := ⟨1, ![64]⟩
abbrev S32 : Shape := ⟨1, ![32]⟩
abbrev S256x1536 : Shape := ⟨2, ![256, 1536]⟩
abbrev S1x512 : Shape := ⟨2, ![1, 512]⟩
abbrev S1x256 : Shape := ⟨2, ![1, 256]⟩
abbrev S32768x1024 : Shape := ⟨2, ![32768, 1024]⟩
abbrev S32768x512 : Shape := ⟨2, ![32768, 512]⟩
abbrev S512x512 : Shape := ⟨2, ![512, 512]⟩
abbrev S512x256 : Shape := ⟨2, ![512, 256]⟩
abbrev S512x128 : Shape := ⟨2, ![512, 128]⟩
abbrev S512x1 : Shape := ⟨2, ![512, 1]⟩
abbrev S512x1536 : Shape := ⟨2, ![512, 1536]⟩

abbrev nBuf : Space → Nat
  | .hbm => 89
  | .vmem => 24
  | .smem => 0
  | _ => 0

abbrev bufTy : (tb : Table) → Fin (tcTables nBuf tb) → BufTy
  | .hbm, ⟨0, _⟩ => ⟨S32768x4864, .bf16⟩
  | .hbm, ⟨1, _⟩ => ⟨S32768x128, .f32⟩
  | .hbm, ⟨2, _⟩ => ⟨S32768x128, .f32⟩
  | .hbm, ⟨3, _⟩ => ⟨S512, .f32⟩
  | .hbm, ⟨4, _⟩ => ⟨S512x768, .f32⟩
  | .hbm, ⟨5, _⟩ => ⟨S256, .f32⟩
  | .hbm, ⟨6, _⟩ => ⟨S256x1024, .f32⟩
  | .hbm, ⟨7, _⟩ => ⟨S96, .f32⟩
  | .hbm, ⟨8, _⟩ => ⟨S96, .f32⟩
  | .hbm, ⟨9, _⟩ => ⟨S128, .i32⟩
  | .hbm, ⟨10, _⟩ => ⟨S_, .f32⟩
  | .hbm, ⟨11, _⟩ => ⟨S128x128, .f32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S128, .i1⟩
  | .hbm, ⟨19, _⟩ => ⟨S128x1, .i1⟩
  | .hbm, ⟨20, _⟩ => ⟨S1x128, .i1⟩
  | .hbm, ⟨21, _⟩ => ⟨S128x128, .i1⟩
  | .hbm, ⟨22, _⟩ => ⟨S128x128, .i1⟩
  | .hbm, ⟨23, _⟩ => ⟨S128x128, .i1⟩
  | .hbm, ⟨24, _⟩ => ⟨S_, .f32⟩
  | .hbm, ⟨25, _⟩ => ⟨S_, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S_, .i32⟩
  | .hbm, ⟨32, _⟩ => ⟨S128, .i32⟩
  | .hbm, ⟨33, _⟩ => ⟨S128, .i1⟩
  | .hbm, ⟨34, _⟩ => ⟨S_, .i32⟩
  | .hbm, ⟨35, _⟩ => ⟨S128, .i32⟩
  | .hbm, ⟨36, _⟩ => ⟨S128, .i1⟩
  | .hbm, ⟨37, _⟩ => ⟨S128, .i1⟩
  | .hbm, ⟨38, _⟩ => ⟨S128x1, .i1⟩
  | .hbm, ⟨39, _⟩ => ⟨S1x128, .i1⟩
  | .hbm, ⟨40, _⟩ => ⟨S128x128, .i1⟩
  | .hbm, ⟨41, _⟩ => ⟨S128x128, .i1⟩
  | .hbm, ⟨42, _⟩ => ⟨S128x128, .i1⟩
  | .hbm, ⟨43, _⟩ => ⟨S_, .f32⟩
  | .hbm, ⟨44, _⟩ => ⟨S_, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S128x128, .f32⟩
  | .hbm, ⟨49, _⟩ => ⟨S128x128, .f32⟩
  | .hbm, ⟨50, _⟩ => ⟨S128x128, .bf16⟩
  | .hbm, ⟨51, _⟩ => ⟨S512x8x96, .f32⟩
  | .hbm, ⟨52, _⟩ => ⟨S_, .i32⟩
  | .hbm, ⟨53, _⟩ => ⟨S_, .f32⟩
  | .hbm, ⟨54, _⟩ => ⟨S512x8x128, .f32⟩
  | .hbm, ⟨55, _⟩ => ⟨S512x1024, .f32⟩
  | .hbm, ⟨56, _⟩ => ⟨S256x8x128, .f32⟩
  | .hbm, ⟨57, _⟩ => ⟨S256x8x64, .f32⟩
  | .hbm, ⟨58, _⟩ => ⟨S_, .i32⟩
  | .hbm, ⟨59, _⟩ => ⟨S_, .f32⟩
  | .hbm, ⟨60, _⟩ => ⟨S256x8x128, .f32⟩
  | .hbm, ⟨61, _⟩ => ⟨S256x1024, .f32⟩
  | .hbm, ⟨62, _⟩ => ⟨S256x8x64, .f32⟩
  | .hbm, ⟨63, _⟩ => ⟨S256x512, .f32⟩
  | .hbm, ⟨64, _⟩ => ⟨S_, .i32⟩
  | .hbm, ⟨65, _⟩ => ⟨S_, .f32⟩
  | .hbm, ⟨66, _⟩ => ⟨S128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S1x128, .f32⟩
  | .hbm, ⟨71, _⟩ => ⟨S64, .f32⟩
  | .hbm, ⟨72, _⟩ => ⟨S_, .i32⟩
  | .hbm, ⟨73, _⟩ => ⟨S_, .f32⟩
  | .hbm, ⟨74, _⟩ => ⟨S128, .f32⟩
  | .hbm, ⟨75, _⟩ => ⟨S1x128, .f32⟩
  | .hbm, ⟨76, _⟩ => ⟨S32, .f32⟩
  | .hbm, ⟨77, _⟩ => ⟨S_, .i32⟩
  | .hbm, ⟨78, _⟩ => ⟨S_, .f32⟩
  | .hbm, ⟨79, _⟩ => ⟨S128, .f32⟩
  | .hbm, ⟨80, _⟩ => ⟨S1x128, .f32⟩
  | .hbm, ⟨81, _⟩ => ⟨S512x1024, .bf16⟩
  | .hbm, ⟨82, _⟩ => ⟨S256x1536, .f32⟩
  | .hbm, ⟨83, _⟩ => ⟨S256x1536, .bf16⟩
  | .hbm, ⟨84, _⟩ => ⟨S1x512, .f32⟩
  | .hbm, ⟨85, _⟩ => ⟨S1x256, .f32⟩
  | .hbm, ⟨86, _⟩ => ⟨S32768x1024, .bf16⟩
  | .hbm, ⟨87, _⟩ => ⟨S32768x1024, .bf16⟩
  | .hbm, ⟨88, _⟩ => ⟨S32768x512, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512, .f32⟩
  | .local _ .vmem, ⟨11, _⟩ => ⟨S1x256, .f32⟩
  | .local _ .vmem, ⟨12, _⟩ => ⟨S512x1024, .bf16⟩
  | .local _ .vmem, ⟨13, _⟩ => ⟨S256x1536, .bf16⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S128x128, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x512, .bf16⟩
  | .local _ .vmem, ⟨23, _⟩ => ⟨S512x512, .bf16⟩
  | _, _ => ⟨S32768x4864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_cst_6 : Ref sig .tc := ⟨.hbm, 44, rfl⟩
abbrev main_call1_v0 : Ref sig .tc := ⟨.hbm, 45, rfl⟩
abbrev main_call1_v1 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_call2_v0 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_call3_v0 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_9 : Ref sig .tc := ⟨.hbm, 64, rfl⟩
abbrev main_call4_v0 : Ref sig .tc := ⟨.hbm, 65, rfl⟩
abbrev main_v38 : Ref sig .tc := ⟨.hbm, 66, rfl⟩
abbrev main_cst_10 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_11 : Ref sig .tc := ⟨.hbm, 72, rfl⟩
abbrev main_call5_v0 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_c_12 : Ref sig .tc := ⟨.hbm, 77, rfl⟩
abbrev main_call6_v0 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53_0 : Ref sig .tc := ⟨.hbm, 86, rfl⟩
abbrev main_v53_1 : Ref sig .tc := ⟨.hbm, 87, rfl⟩
abbrev main_v53_2 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_2 (i : grid0.Coords) : Fin 2 → Nat :=
  let arg0 : BitVec 32 := BitVec.ofNat 32 (i 0).val
  let c36_i32 : BitVec 32 := 36#32
  let c0_i32 : BitVec 32 := 0#32
  ![arg0.toNat, c36_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== PrepRefIdeal.lean ====
abbrev S32768x4864 : Shape := ⟨2, ![32768, 4864]⟩
abbrev S32768x128 : Shape := ⟨2, ![32768, 128]⟩
abbrev S512 : Shape := ⟨1, ![512]⟩
abbrev S512x768 : Shape := ⟨2, ![512, 768]⟩
abbrev S256 : Shape := ⟨1, ![256]⟩
abbrev S256x1024 : Shape := ⟨2, ![256, 1024]⟩
abbrev S96 : Shape := ⟨1, ![96]⟩
abbrev S32768x512 : Shape := ⟨2, ![32768, 512]⟩
abbrev S32768x256 : Shape := ⟨2, ![32768, 256]⟩
abbrev S32768x32 : Shape := ⟨2, ![32768, 32]⟩
abbrev S32768x16 : Shape := ⟨2, ![32768, 16]⟩
abbrev S_ : Shape := ⟨0, ![]⟩
abbrev S32768 : Shape := ⟨1, ![32768]⟩
abbrev S32768x1 : Shape := ⟨2, ![32768, 1]⟩
abbrev S1x512 : Shape := ⟨2, ![1, 512]⟩
abbrev S32768x768 : Shape := ⟨2, ![32768, 768]⟩
abbrev S32768x8x96 : Shape := ⟨3, ![32768, 8, 96]⟩
abbrev S1x256 : Shape := ⟨2, ![1, 256]⟩
abbrev S32768x1024 : Shape := ⟨2, ![32768, 1024]⟩
abbrev S32768x8x128 : Shape := ⟨3, ![32768, 8, 128]⟩
abbrev S32768x8x64 : Shape := ⟨3, ![32768, 8, 64]⟩
abbrev S64 : Shape := ⟨1, ![64]⟩
abbrev S32768x8 : Shape := ⟨2, ![32768, 8]⟩
abbrev S32768x8x1 : Shape := ⟨3, ![32768, 8, 1]⟩
abbrev S1x1x64 : Shape := ⟨3, ![1, 1, 64]⟩
abbrev S32768x8x32 : Shape := ⟨3, ![32768, 8, 32]⟩
abbrev S32 : Shape := ⟨1, ![32]⟩
abbrev S1x1x32 : Shape := ⟨3, ![1, 1, 32]⟩
abbrev S32768x1x16 : Shape := ⟨3, ![32768, 1, 16]⟩
abbrev S32768x8x16 : Shape := ⟨3, ![32768, 8, 16]⟩
abbrev S1x32 : Shape := ⟨2, ![1, 32]⟩
abbrev S32768x1x32 : Shape := ⟨3, ![32768, 1, 32]⟩

abbrev nBuf : Space → Nat
  | .hbm => 162
  | .vmem => 0
  | .smem => 0
  | _ => 0

abbrev hbmTy0_0 (i : Nat) : BufTy := match i % 128 with
  | 0 => ⟨S32768x4864, .bf16⟩
  | 1 => ⟨S32768x128, .f32⟩
  | 2 => ⟨S32768x128, .f32⟩
  | 3 => ⟨S512, .f32⟩
  | 4 => ⟨S512x768, .f32⟩
  | 5 => ⟨S256, .f32⟩
  | 6 => ⟨S256x1024, .f32⟩
  | 7 => ⟨S96, .f32⟩
  | 8 => ⟨S96, .f32⟩
  | 9 => ⟨S32768x4864, .f32⟩
  | 10 => ⟨S32768x512, .f32⟩
  | 11 => ⟨S32768x256, .f32⟩
  | 12 => ⟨S32768x32, .f32⟩
  | 13 => ⟨S32768x16, .f32⟩
  | 14 => ⟨S32768x16, .f32⟩
  | 15 => ⟨S32768x512, .f32⟩
  | 16 => ⟨S_, .f32⟩
  | 17 => ⟨S32768, .f32⟩
  | 18 => ⟨S32768x1, .f32⟩
  | 19 => ⟨S_, .f32⟩
  | 20 => ⟨S32768x1, .f32⟩
  | 21 => ⟨S32768x1, .f32⟩
  | 22 => ⟨S_, .f32⟩
  | 23 => ⟨S32768x1, .f32⟩
  | 24 => ⟨S32768x1, .f32⟩
  | 25 => ⟨S32768x1, .f32⟩
  | 26 => ⟨S32768x512, .f32⟩
  | 27 => ⟨S32768x512, .f32⟩
  | 28 => ⟨S1x512, .f32⟩
  | 29 => ⟨S32768x512, .f32⟩
  | 30 => ⟨S32768x512, .f32⟩
  | 31 => ⟨S32768x768, .f32⟩
  | 32 => ⟨S32768x8x96, .f32⟩
  | 33 => ⟨S32768x256, .f32⟩
  | 34 => ⟨S_, .f32⟩
  | 35 => ⟨S32768, .f32⟩
  | 36 => ⟨S32768x1, .f32⟩
  | 37 => ⟨S_, .f32⟩
  | 38 => ⟨S32768x1, .f32⟩
  | 39 => ⟨S32768x1, .f32⟩
  | 40 => ⟨S_, .f32⟩
  | 41 => ⟨S32768x1, .f32⟩
  | 42 => ⟨S32768x1, .f32⟩
  | 43 => ⟨S32768x1, .f32⟩
  | 44 => ⟨S32768x256, .f32⟩
  | 45 => ⟨S32768x256, .f32⟩
  | 46 => ⟨S1x256, .f32⟩
  | 47 => ⟨S32768x256, .f32⟩
  | 48 => ⟨S32768x256, .f32⟩
  | 49 => ⟨S32768x1024, .f32⟩
  | 50 => ⟨S32768x8x128, .f32⟩
  | 51 => ⟨S32768x8x64, .f32⟩
  | 52 => ⟨S64, .f32⟩
  | 53 => ⟨S32768x8x64, .f32⟩
  | 54 => ⟨S_, .f32⟩
  | 55 => ⟨S32768x8, .f32⟩
  | 56 => ⟨S32768x8x1, .f32⟩
  | 57 => ⟨S_, .f32⟩
  | 58 => ⟨S32768x8x1, .f32⟩
  | 59 => ⟨S32768x8x1, .f32⟩
  | 60 => ⟨S_, .f32⟩
  | 61 => ⟨S32768x8x1, .f32⟩
  | 62 => ⟨S32768x8x1, .f32⟩
  | 63 => ⟨S32768x8x1, .f32⟩
  | 64 => ⟨S32768x8x64, .f32⟩
  | 65 => ⟨S32768x8x64, .f32⟩
  | 66 => ⟨S1x1x64, .f32⟩
  | 67 => ⟨S32768x8x64, .f32⟩
  | 68 => ⟨S32768x8x64, .f32⟩
  | 69 => ⟨S32768x8x32, .f32⟩
  | 70 => ⟨S32, .f32⟩
  | 71 => ⟨S32768x8x32, .f32⟩
  | 72 => ⟨S_, .f32⟩
  | 73 => ⟨S32768x8, .f32⟩
  | 74 => ⟨S32768x8x1, .f32⟩
  | 75 => ⟨S_, .f32⟩
  | 76 => ⟨S32768x8x1, .f32⟩
  | 77 => ⟨S32768x8x1, .f32⟩
  | 78 => ⟨S_, .f32⟩
  | 79 => ⟨S32768x8x1, .f32⟩
  | 80 => ⟨S32768x8x1, .f32⟩
  | 81 => ⟨S32768x8x1, .f32⟩
  | 82 => ⟨S32768x8x32, .f32⟩
  | 83 => ⟨S32768x8x32, .f32⟩
  | 84 => ⟨S1x1x32, .f32⟩
  | 85 => ⟨S32768x8x32, .f32⟩
  | 86 => ⟨S32768x8x32, .f32⟩
  | 87 => ⟨S32768x1x16, .f32⟩
  | 88 => ⟨S32768x1x16, .f32⟩
  | 89 => ⟨S32768x8x16, .f32⟩
  | 90 => ⟨S32768x8x16, .f32⟩
  | 91 => ⟨S32768x8x16, .f32⟩
  | 92 => ⟨S32768x8x16, .f32⟩
  | 93 => ⟨S32768x8x16, .f32⟩
  | 94 => ⟨S32768x8x16, .f32⟩
  | 95 => ⟨S32768x8x16, .f32⟩
  | 96 => ⟨S32768x8x16, .f32⟩
  | 97 => ⟨S32768x8x16, .f32⟩
  | 98 => ⟨S32768x8x16, .f32⟩
  | 99 => ⟨S32768x8x16, .f32⟩
  | 100 => ⟨S32768x8x16, .f32⟩
  | 101 => ⟨S32768x8x32, .f32⟩
  | 102 => ⟨S32768x8x64, .f32⟩
  | 103 => ⟨S64, .f32⟩
  | 104 => ⟨S32768x8x64, .f32⟩
  | 105 => ⟨S_, .f32⟩
  | 106 => ⟨S32768x8, .f32⟩
  | 107 => ⟨S32768x8x1, .f32⟩
  | 108 => ⟨S_, .f32⟩
  | 109 => ⟨S32768x8x1, .f32⟩
  | 110 => ⟨S32768x8x1, .f32⟩
  | 111 => ⟨S_, .f32⟩
  | 112 => ⟨S32768x8x1, .f32⟩
  | 113 => ⟨S32768x8x1, .f32⟩
  | 114 => ⟨S32768x8x1, .f32⟩
  | 115 => ⟨S32768x8x64, .f32⟩
  | 116 => ⟨S32768x8x64, .f32⟩
  | 117 => ⟨S1x1x64, .f32⟩
  | 118 => ⟨S32768x8x64, .f32⟩
  | 119 => ⟨S32768x8x64, .f32⟩
  | 120 => ⟨S32, .f32⟩
  | 121 => ⟨S32768x32, .f32⟩
  | 122 => ⟨S_, .f32⟩
  | 123 => ⟨S32768, .f32⟩
  | 124 => ⟨S32768x1, .f32⟩
  | 125 => ⟨S_, .f32⟩
  | 126 => ⟨S32768x1, .f32⟩
  | 127 => ⟨S32768x1, .f32⟩
  | _ => ⟨S32768x4864, .bf16⟩

abbrev hbmTy0_1 (i : Nat) : BufTy := match i % 128 with
  | 0 => ⟨S_, .f32⟩
  | 1 => ⟨S32768x1, .f32⟩
  | 2 => ⟨S32768x1, .f32⟩
  | 3 => ⟨S32768x1, .f32⟩
  | 4 => ⟨S32768x32, .f32⟩
  | 5 => ⟨S32768x32, .f32⟩
  | 6 => ⟨S1x32, .f32⟩
  | 7 => ⟨S32768x32, .f32⟩
  | 8 => ⟨S32768x32, .f32⟩
  | 9 => ⟨S32768x16, .f32⟩
  | 10 => ⟨S32768x16, .f32⟩
  | 11 => ⟨S32768x16, .f32⟩
  | 12 => ⟨S32768x16, .f32⟩
  | 13 => ⟨S32768x16, .f32⟩
  | 14 => ⟨S32768x16, .f32⟩
  | 15 => ⟨S32768x16, .f32⟩
  | 16 => ⟨S32768x16, .f32⟩
  | 17 => ⟨S32768x32, .f32⟩
  | 18 => ⟨S32768x1x32, .f32⟩
  | 19 => ⟨S32768x8x32, .f32⟩
  | 20 => ⟨S_, .f32⟩
  | 21 => ⟨S32768x8x32, .f32⟩
  | 22 => ⟨S32768x8x128, .f32⟩
  | 23 => ⟨S_, .f32⟩
  | 24 => ⟨S32768x8x128, .f32⟩
  | 25 => ⟨S32768x8x128, .f32⟩
  | 26 => ⟨S32768x8x128, .f32⟩
  | 27 => ⟨S32768x1024, .f32⟩
  | 28 => ⟨S32768x1024, .bf16⟩
  | 29 => ⟨S32768x1024, .f32⟩
  | 30 => ⟨S32768x1024, .bf16⟩
  | 31 => ⟨S32768x8x64, .f32⟩
  | 32 => ⟨S32768x512, .f32⟩
  | 33 => ⟨S32768x512, .bf16⟩
  | _ => ⟨S32768x4864, .bf16⟩

abbrev hbmTy (i : Nat) : BufTy := match i / 128 with
  | 0 => hbmTy0_0 i
  | 1 => hbmTy0_1 i
  | _ => ⟨S32768x4864, .bf16⟩

abbrev bufTy : (tb : Table) → Fin (tcTables nBuf tb) → BufTy
  | .hbm, ⟨i, _⟩ => hbmTy i
  | _, _ => ⟨S32768x4864, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_11 : Ref sig .tc := ⟨.hbm, 105, rfl⟩
abbrev main_v84 : Ref sig .tc := ⟨.hbm, 106, rfl⟩
abbrev main_v85 : Ref sig .tc := ⟨.hbm, 107, rfl⟩
abbrev main_cst_12 : Ref sig .tc := ⟨.hbm, 108, rfl⟩
abbrev main_v86 : Ref sig .tc := ⟨.hbm, 109, rfl⟩
abbrev main_v87 : Ref sig .tc := ⟨.hbm, 110, rfl⟩
abbrev main_cst_13 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_cst_14 : Ref sig .tc := ⟨.hbm, 122, rfl⟩
abbrev main_v98 : Ref sig .tc := ⟨.hbm, 123, rfl⟩
abbrev main_v99 : Ref sig .tc := ⟨.hbm, 124, rfl⟩
abbrev main_cst_15 : Ref sig .tc := ⟨.hbm, 125, rfl⟩
abbrev main_v100 : Ref sig .tc := ⟨.hbm, 126, rfl⟩
abbrev main_v101 : Ref sig .tc := ⟨.hbm, 127, rfl⟩
abbrev main_cst_16 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_cst_17 : Ref sig .tc := ⟨.hbm, 148, rfl⟩
abbrev main_v121 : Ref sig .tc := ⟨.hbm, 149, rfl⟩
abbrev main_v122 : Ref sig .tc := ⟨.hbm, 150, rfl⟩
abbrev main_cst_18 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩

abbrev nD : Nat := 1
abbrev τ : Topo := Topo.v7x

variable {F : FTy → Type} [FloatOps F]
-- ==== Mod.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S2x16x6144 : Shape := ⟨3, ![2, 16, 6144]⟩

abbrev nBuf : Space → Nat
  | .hbm => 31
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x6144, .f32⟩
  | .hbm, ⟨13, _⟩ => ⟨S1024x6144, .f32⟩
  | .hbm, ⟨14, _⟩ => ⟨S16x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S16x6144, .f32⟩
  | .hbm, ⟨19, _⟩ => ⟨S16x6144, .f32⟩
  | .hbm, ⟨20, _⟩ => ⟨S1x1024x6144, .f32⟩
  | .hbm, ⟨21, _⟩ => ⟨S1024x6144, .f32⟩
  | .hbm, ⟨22, _⟩ => ⟨S16x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S16x6144, .f32⟩
  | .hbm, ⟨27, _⟩ => ⟨S16x6144, .f32⟩
  | .hbm, ⟨28, _⟩ => ⟨S1x16x6144, .f32⟩
  | .hbm, ⟨29, _⟩ => ⟨S1x16x6144, .f32⟩
  | .hbm, ⟨30, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Rope.lean ====
abbrev S16x2048 : Shape := ⟨2, ![16, 2048]⟩
abbrev S16 : Shape := ⟨1, ![16]⟩
abbrev S_ : Shape := ⟨0, ![]⟩
abbrev S64 : Shape := ⟨1, ![64]⟩
abbrev S32 : Shape := ⟨1, ![32]⟩
abbrev S128 : Shape := ⟨1, ![128]⟩
abbrev S1x128 : Shape := ⟨2, ![1, 128]⟩
abbrev S32768x1 : Shape := ⟨2, ![32768, 1]⟩
abbrev S32768x128 : Shape := ⟨2, ![32768, 128]⟩
abbrev S1024x1 : Shape := ⟨2, ![1024, 1]⟩
abbrev S1024x128 : Shape := ⟨2, ![1024, 128]⟩

abbrev nBuf : Space → Nat
  | .hbm => 18
  | .vmem => 7
  | .smem => 0
  | _ => 0

abbrev bufTy : (tb : Table) → Fin (tcTables nBuf tb) → BufTy
  | .hbm, ⟨0, _⟩ => ⟨S16x2048, .i32⟩
  | .hbm, ⟨1, _⟩ => ⟨S16, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S64, .f32⟩
  | .hbm, ⟨11, _⟩ => ⟨S_, .f32⟩
  | .hbm, ⟨12, _⟩ => ⟨S32, .f32⟩
  | .hbm, ⟨13, _⟩ => ⟨S128, .f32⟩
  | .hbm, ⟨14, _⟩ => ⟨S1x128, .f32⟩
  | .hbm, ⟨15, _⟩ => ⟨S32768x1, .i32⟩
  | .hbm, ⟨16, _⟩ => ⟨S32768x128, .f32⟩
  | .hbm, ⟨17, _⟩ => ⟨S32768x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeRefIdeal.lean ====
abbrev S16x2048 : Shape := ⟨2, ![16, 2048]⟩
abbrev S32768x1 : Shape := ⟨2, ![32768, 1]⟩
abbrev S16 : Shape := ⟨1, ![16]⟩
abbrev S_ : Shape := ⟨0, ![]⟩
abbrev S1x16 : Shape := ⟨2, ![1, 16]⟩
abbrev S32768x16 : Shape := ⟨2, ![32768, 16]⟩
abbrev S32768x64 : Shape := ⟨2, ![32768, 64]⟩
abbrev S32768x32 : Shape := ⟨2, ![32768, 32]⟩
abbrev S32768x128 : Shape := ⟨2, ![32768, 128]⟩

abbrev nBuf : Space → Nat
  | .hbm => 27
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S16x2048, .f32⟩
  | .hbm, ⟨2, _⟩ => ⟨S32768x1, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S1x16, .f32⟩
  | .hbm, ⟨12, _⟩ => ⟨S32768x16, .f32⟩
  | .hbm, ⟨13, _⟩ => ⟨S32768x16, .f32⟩
  | .hbm, ⟨14, _⟩ => ⟨S32768x16, .f32⟩
  | .hbm, ⟨15, _⟩ => ⟨S32768x16, .f32⟩
  | .hbm, ⟨16, _⟩ => ⟨S32768x16, .f32⟩
  | .hbm, ⟨17, _⟩ => ⟨S_, .f32⟩
  | .hbm, ⟨18, _⟩ => ⟨S32768x64, .f32⟩
  | .hbm, ⟨19, _⟩ => ⟨S_, .f32⟩
  | .hbm, ⟨20, _⟩ => ⟨S32768x32, .f32⟩
  | .hbm, ⟨21, _⟩ => ⟨S32768x128, .f32⟩
  | .hbm, ⟨22, _⟩ => ⟨S_, .f32⟩
  | .hbm, ⟨23, _⟩ => ⟨S32768x64, .f32⟩
  | .hbm, ⟨24, _⟩ => ⟨S_, .f32⟩
  | .hbm, ⟨25, _⟩ => ⟨S32768x32, .f32⟩
  | .hbm, ⟨26, _⟩ => ⟨S32768x128, .f32⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_cst_3 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Layout.lean ====
abbrev S2x1024x6944 : Shape := ⟨3, ![2, 1024, 6944]⟩
abbrev S2x1024x4864 : Shape := ⟨3, ![2, 1024, 4864]⟩
abbrev S2x1024x2304 : Shape := ⟨3, ![2, 1024, 2304]⟩
abbrev S1x256x6944 : Shape := ⟨3, ![1, 256, 6944]⟩
abbrev S1x256x4864 : Shape := ⟨3, ![1, 256, 4864]⟩
abbrev S1x256x2304 : Shape := ⟨3, ![1, 256, 2304]⟩
abbrev S1x256x3072 : Shape := ⟨3, ![1, 256, 3072]⟩
abbrev S256x3072 : Shape := ⟨2, ![256, 3072]⟩
abbrev S1x256x512 : Shape := ⟨3, ![1, 256, 512]⟩
abbrev S256x512 : Shape := ⟨2, ![256, 512]⟩
abbrev S1x256x256 : Shape := ⟨3, ![1, 256, 256]⟩
abbrev S256x256 : Shape := ⟨2, ![256, 256]⟩
abbrev S256x64 : Shape := ⟨2, ![256, 64]⟩
abbrev S1x256x32 : Shape := ⟨3, ![1, 256, 32]⟩
abbrev S256x32 : Shape := ⟨2, ![256, 32]⟩
abbrev S256x160 : Shape := ⟨2, ![256, 160]⟩
abbrev S256x2304 : Shape := ⟨2, ![256, 2304]⟩

abbrev nBuf : Space → Nat
  | .hbm => 3
  | .vmem => 6
  | .smem => 0
  | _ => 0

abbrev bufTy : (tb : Table) → Fin (tcTables nBuf tb) → BufTy
  | .hbm, ⟨0, _⟩ => ⟨S2x1024x6944, .f32⟩
  | .hbm, ⟨1, _⟩ => ⟨S2x1024x4864, .bf16⟩
  | .hbm, ⟨2, _⟩ => ⟨S2x1024x2304, .bf16⟩
  | .local _ .vmem, ⟨0, _⟩ => ⟨S1x256x6944, .f32⟩
  | .local _ .vmem, ⟨1, _⟩ => ⟨S1x256x6944, .f32⟩
  | .local _ .vmem, ⟨2, _⟩ => ⟨S1x256x4864, .bf16⟩
  | .local _ .vmem, ⟨3, _⟩ => ⟨S1x256x4864, .bf16⟩
  | .local _ .vmem, ⟨4, _⟩ => ⟨S1x256x2304, .bf16⟩
  | .local _ .vmem, ⟨5, _⟩ => ⟨S1x256x2304, .bf16⟩
  | _, _ => ⟨S2x1024x6944, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x6944 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4864 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LayoutRefIdeal.lean ====
abbrev S2x1024x6944 : Shape := ⟨3, ![2, 1024, 6944]⟩
abbrev S2x1024x512 : Shape := ⟨3, ![2, 1024, 512]⟩
abbrev S2x1024x256 : Shape := ⟨3, ![2, 1024, 256]⟩
abbrev S2x1024x32 : Shape := ⟨3, ![2, 1024, 32]⟩
abbrev S2x1024x2304 : Shape := ⟨3, ![2, 1024, 2304]⟩
abbrev S2x1024x768 : Shape := ⟨3, ![2, 1024, 768]⟩
abbrev S2x1024x3072 : Shape := ⟨3, ![2, 1024, 3072]⟩
abbrev S_ : Shape := ⟨0, ![]⟩
abbrev S2x1024x4864 : Shape := ⟨3, ![2, 1024, 4864]⟩

abbrev nBuf : Space → Nat
  | .hbm => 15
  | .vmem => 0
  | .smem => 0
  | _ => 0

abbrev bufTy : (tb : Table) → Fin (tcTables nBuf tb) → BufTy
  | .hbm, ⟨0, _⟩ => ⟨S2x1024x6944, .f32⟩
  | .hbm, ⟨1, _⟩ => ⟨S2x1024x512, .f32⟩
  | .hbm, ⟨2, _⟩ => ⟨S2x1024x256, .f32⟩
  | .hbm, ⟨3, _⟩ => ⟨S2x1024x32, .f32⟩
  | .hbm, ⟨4, _⟩ => ⟨S2x1024x2304, .f32⟩
  | .hbm, ⟨5, _⟩ => ⟨S2x1024x768, .f32⟩
  | .hbm, ⟨6, _⟩ => ⟨S2x1024x3072, .f32⟩
  | .hbm, ⟨7, _⟩ => ⟨S2x1024x512, .f32⟩
  | .hbm, ⟨8, _⟩ => ⟨S2x1024x256, .f32⟩
  | .hbm, ⟨9, _⟩ => ⟨S_, .i32⟩
  | .hbm, ⟨10, _⟩ => ⟨S_, .f32⟩
  | .hbm, ⟨11, _⟩ => ⟨S2x1024x256, .f32⟩
  | .hbm, ⟨12, _⟩ => ⟨S2x1024x4864, .f32⟩
  | .hbm, ⟨13, _⟩ => ⟨S2x1024x4864, .bf16⟩
  | .hbm, ⟨14, _⟩ => ⟨S2x1024x2304, .bf16⟩
  | _, _ => ⟨S2x1024x6944, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_call0_v0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Ffn.lean ====
abbrev S224 : Shape := ⟨1, ![224]⟩
abbrev S1 : Shape := ⟨1, ![1]⟩
abbrev S114688x1024 : Shape := ⟨2, ![114688, 1024]⟩
abbrev S64x1024x384 : Shape := ⟨3, ![64, 1024, 384]⟩
abbrev S64x384x1024 : Shape := ⟨3, ![64, 384, 1024]⟩
abbrev S512x1024 : Shape := ⟨2, ![512, 1024]⟩
abbrev S1x1024x384 : Shape := ⟨3, ![1, 1024, 384]⟩
abbrev S1x384x1024 : Shape := ⟨3, ![1, 384, 1024]⟩
abbrev S1024x768 : Shape := ⟨2, ![1024, 768]⟩
abbrev S384x1024 : Shape := ⟨2, ![384, 1024]⟩
abbrev S1024x384 : Shape := ⟨2, ![1024, 384]⟩
abbrev S512x768 : Shape := ⟨2, ![512, 768]⟩
abbrev S512x384 : Shape := ⟨2, ![512, 384]⟩

abbrev nBuf : Space → Nat
  | .hbm => 5
  | .vmem => 12
  | .smem => 2
  | _ => 0

abbrev bufTy : (tb : Table) → Fin (tcTables nBuf tb) → BufTy
  | .hbm, ⟨0, _⟩ => ⟨S114688x1024, .bf16⟩
  | .hbm, ⟨1, _⟩ => ⟨S64x1024x384, .f32⟩
  | .hbm, ⟨2, _⟩ => ⟨S64x1024x384, .f32⟩
  | .hbm, ⟨3, _⟩ => ⟨S64x384x1024, .f32⟩
  | .hbm, ⟨4, _⟩ => ⟨S114688x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x384, .f32⟩
  | .local _ .vmem, ⟨3, _⟩ => ⟨S1x1024x384, .f32⟩
  | .local _ .vmem, ⟨4, _⟩ => ⟨S1x1024x384, .f32⟩
  | .local _ .vmem, ⟨5, _⟩ => ⟨S1x1024x384, .f32⟩
  | .local _ .vmem, ⟨6, _⟩ => ⟨S1x384x1024, .f32⟩
  | .local _ .vmem, ⟨7, _⟩ => ⟨S1x384x1024, .f32⟩
  | .local _ .vmem, ⟨8, _⟩ => ⟨S512x1024, .bf16⟩
  | .local _ .vmem, ⟨9, _⟩ => ⟨S512x1024, .bf16⟩
  | .local _ .vmem, ⟨10, _⟩ => ⟨S1024x768, .bf16⟩
  | .local _ .vmem, ⟨11, _⟩ => ⟨S384x1024, .bf16⟩
  | .local _ .smem, ⟨0, _⟩ => ⟨S224, .i32⟩
  | .local _ .smem, ⟨1, _⟩ => ⟨S1, .i32⟩
  | _, _ => ⟨S114688x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![224], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S224.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S224.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S224.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S224 : Shape := ⟨1, ![224]⟩
abbrev S1 : Shape := ⟨1, ![1]⟩
abbrev S114688x1024 : Shape := ⟨2, ![114688, 1024]⟩
abbrev S64x1024x384 : Shape := ⟨3, ![64, 1024, 384]⟩
abbrev S64x384x1024 : Shape := ⟨3, ![64, 384, 1024]⟩
abbrev S224x512x1024 : Shape := ⟨3, ![224, 512, 1024]⟩
abbrev S_ : Shape := ⟨0, ![]⟩
abbrev S224x1 : Shape := ⟨2, ![224, 1]⟩
abbrev S224x1024x384 : Shape := ⟨3, ![224, 1024, 384]⟩
abbrev S224x512x384 : Shape := ⟨3, ![224, 512, 384]⟩
abbrev S224x384x1024 : Shape := ⟨3, ![224, 384, 1024]⟩
abbrev S224x1x1 : Shape := ⟨3, ![224, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S224, .i32⟩
  | .hbm, ⟨1, _⟩ => ⟨S1, .i32⟩
  | .hbm, ⟨2, _⟩ => ⟨S114688x1024, .bf16⟩
  | .hbm, ⟨3, _⟩ => ⟨S64x1024x384, .f32⟩
  | .hbm, ⟨4, _⟩ => ⟨S64x1024x384, .f32⟩
  | .hbm, ⟨5, _⟩ => ⟨S64x384x1024, .f32⟩
  | .hbm, ⟨6, _⟩ => ⟨S114688x1024, .f32⟩
  | .hbm, ⟨7, _⟩ => ⟨S224x512x1024, .f32⟩
  | .hbm, ⟨8, _⟩ => ⟨S_, .i32⟩
  | .hbm, ⟨9, _⟩ => ⟨S224, .i32⟩
  | .hbm, ⟨10, _⟩ => ⟨S224, .i1⟩
  | .hbm, ⟨11, _⟩ => ⟨S_, .i32⟩
  | .hbm, ⟨12, _⟩ => ⟨S224, .i32⟩
  | .hbm, ⟨13, _⟩ => ⟨S224, .i32⟩
  | .hbm, ⟨14, _⟩ => ⟨S224, .i32⟩
  | .hbm, ⟨15, _⟩ => ⟨S224x1, .i32⟩
  | .hbm, ⟨16, _⟩ => ⟨S224x1024x384, .f32⟩
  | .hbm, ⟨17, _⟩ => ⟨S224x512x384, .f32⟩
  | .hbm, ⟨18, _⟩ => ⟨S224x512x384, .f32⟩
  | .hbm, ⟨19, _⟩ => ⟨S224x512x384, .f32⟩
  | .hbm, ⟨20, _⟩ => ⟨S_, .f32⟩
  | .hbm, ⟨21, _⟩ => ⟨S224x512x384, .f32⟩
  | .hbm, ⟨22, _⟩ => ⟨S224x512x384, .f32⟩
  | .hbm, ⟨23, _⟩ => ⟨S_, .f32⟩
  | .hbm, ⟨24, _⟩ => ⟨S224x512x384, .f32⟩
  | .hbm, ⟨25, _⟩ => ⟨S224x512x384, .f32⟩
  | .hbm, ⟨26, _⟩ => ⟨S224x512x384, .f32⟩
  | .hbm, ⟨27, _⟩ => ⟨S_, .i32⟩
  | .hbm, ⟨28, _⟩ => ⟨S224, .i32⟩
  | .hbm, ⟨29, _⟩ => ⟨S224, .i1⟩
  | .hbm, ⟨30, _⟩ => ⟨S_, .i32⟩
  | .hbm, ⟨31, _⟩ => ⟨S224, .i32⟩
  | .hbm, ⟨32, _⟩ => ⟨S224, .i32⟩
  | .hbm, ⟨33, _⟩ => ⟨S224, .i32⟩
  | .hbm, ⟨34, _⟩ => ⟨S224x1, .i32⟩
  | .hbm, ⟨35, _⟩ => ⟨S224x1024x384, .f32⟩
  | .hbm, ⟨36, _⟩ => ⟨S224x512x384, .f32⟩
  | .hbm, ⟨37, _⟩ => ⟨S224x512x384, .f32⟩
  | .hbm, ⟨38, _⟩ => ⟨S_, .i32⟩
  | .hbm, ⟨39, _⟩ => ⟨S224, .i32⟩
  | .hbm, ⟨40, _⟩ => ⟨S224, .i1⟩
  | .hbm, ⟨41, _⟩ => ⟨S_, .i32⟩
  | .hbm, ⟨42, _⟩ => ⟨S224, .i32⟩
  | .hbm, ⟨43, _⟩ => ⟨S224, .i32⟩
  | .hbm, ⟨44, _⟩ => ⟨S224, .i32⟩
  | .hbm, ⟨45, _⟩ => ⟨S224x1, .i32⟩
  | .hbm, ⟨46, _⟩ => ⟨S224x384x1024, .f32⟩
  | .hbm, ⟨47, _⟩ => ⟨S224x512x1024, .f32⟩
  | .hbm, ⟨48, _⟩ => ⟨S224, .i32⟩
  | .hbm, ⟨49, _⟩ => ⟨S224x1x1, .i32⟩
  | .hbm, ⟨50, _⟩ => ⟨S_, .i32⟩
  | .hbm, ⟨51, _⟩ => ⟨S224x1x1, .i32⟩
  | .hbm, ⟨52, _⟩ => ⟨S224x1x1, .i1⟩
  | .hbm, ⟨53, _⟩ => ⟨S_, .f32⟩
  | .hbm, ⟨54, _⟩ => ⟨S_, .f32⟩
  | .hbm, ⟨55, _⟩ => ⟨S224x512x1024, .i1⟩
  | .hbm, ⟨56, _⟩ => ⟨S224x512x1024, .f32⟩
  | .hbm, ⟨57, _⟩ => ⟨S224x512x1024, .f32⟩
  | .hbm, ⟨58, _⟩ => ⟨S114688x1024, .f32⟩
  | .hbm, ⟨59, _⟩ => ⟨S114688x1024, .bf16⟩
  | _, _ => ⟨S224, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩

abbrev nD : Nat := 1
abbrev τ : Topo := Topo.v7x

variable {F : FTy → Type} [FloatOps F]
-- ==== Proof.Softmax.lean ====
/-
  The weighted mean of a softmax over finitely many scores, over the extended reals: what an online or base-2 softmax
  and the textbook one have in common. The scores are real numbers; the values averaged may be infinite.
-/
module

public import Idealize.ShloMosaic.Lib.Pointwise
public import Idealize.ShloMosaic.Lib.IdealHost

@[expose] public section

noncomputable section

namespace Cert.Softmax

open Idealize.ShloMosaic

variable {ι : Type} [Fintype ι]

/-- The largest of the scores. -/
def top (s : ι → EReal) : EReal := Finset.univ.fold max ⊥ s

/-- The mean of `v` with the weights `2 ^ (s - max s)`, the division made once, at the end. -/
def attend (s v : ι → EReal) : EReal :=
  Ideal.div (∑ j, Ideal.exp2 (s j - top s) * v j) (∑ j, Ideal.exp2 (s j - top s))

theorem ofBits_negInf : Ideal.ofBits .f32 0xFF800000#32 = ⊥ := by simp [Ideal.ofBits, Ideal.ieee]

theorem ofBits_inf : Ideal.ofBits .f32 0x7F800000#32 = ⊤ := by simp [Ideal.ofBits, Ideal.ieee]

theorem ofBits_two : Ideal.ofBits .f32 0x40000000#32 = ((2 : ℝ) : EReal) := by
  simp [Ideal.ofBits, Ideal.ieee, -EReal.coe_mul]; norm_num

theorem log_two : Ideal.log ((2 : ℝ) : EReal) = ((Real.log 2 : ℝ) : EReal) := by
  show (if (2 : ℝ) ≤ 0 then (⊥ : EReal) else (Real.log 2 : EReal)) = _
  rw [if_neg (by norm_num)]

theorem sum_coe (f : ι → ℝ) : ∑ j, ((f j : ℝ) : EReal) = ((∑ j, f j : ℝ) : EReal) := by
  classical
  refine Finset.induction_on (Finset.univ : Finset ι) (by simp) fun a s ha ih => ?_
  rw [Finset.sum_insert ha, Finset.sum_insert ha, ih, EReal.coe_add]

/-- A factor that is a real number, not negative, moves into a sum of extended reals. -/
theorem sum_mul_coe (f : ι → EReal) {c : ℝ} (hc : 0 ≤ c) : (∑ j, f j) * (c : EReal) = ∑ j, f j * (c : EReal) := by
  classical
  refine Finset.induction_on (Finset.univ : Finset ι) (by simp) fun a s ha ih => ?_
  rw [Finset.sum_insert ha, Finset.sum_insert ha,
    EReal.right_distrib_of_nonneg_of_ne_top (EReal.coe_nonneg.mpr hc) (EReal.coe_ne_top _), ih]

/-- An extended real whose absolute value is below infinity is a real number. -/
theorem exists_real {x : EReal} (h : max x (-x) < ⊤) : ∃ r : ℝ, x = r := by
  induction x with
  | bot => simp at h
  | top => simp at h
  | coe r => exact ⟨r, rfl⟩

/-- A comparison's bit that is one says that the comparison holds. -/
theorem lt_of_bit {x y : EReal} (h : BitVec.ofBool (decide (x < y)) = 1#1) : x < y := by
  by_contra hn
  rw [decide_eq_false hn] at h
  exact absurd h (by decide)

/-- A product of two families of real numbers, summed, is a real number. -/
theorem exists_dot {f g : ι → EReal} (hf : ∀ k, ∃ r : ℝ, f k = r) (hg : ∀ k, ∃ r : ℝ, g k = r) :
    ∃ r : ℝ, ∑ k, f k * g k = r := by
  choose a ha using hf
  choose b hb using hg
  exact ⟨∑ k, a k * b k, by rw [← sum_coe]; exact Finset.sum_congr rfl fun k _ => by rw [ha, hb, EReal.coe_mul]⟩

theorem top_eq [Nonempty ι] (r : ι → ℝ) : ∃ i, top (fun j => (r j : EReal)) = (r i : EReal) ∧ ∀ j, r j ≤ r i := by
  obtain ⟨i, -, hi⟩ := Finset.exists_mem_eq_sup (Finset.univ : Finset ι) Finset.univ_nonempty (fun j => (r j : EReal))
  have ht : top (fun j => (r j : EReal)) = (r i : EReal) := hi
  refine ⟨i, ht, fun j => ?_⟩
  have := Finset.le_sup (f := fun j => (r j : EReal)) (Finset.mem_univ j)
  rw [hi] at this
  exact EReal.coe_le_coe_iff.mp this

/-- The largest of the scores each multiplied by a positive number. -/
theorem top_mul [Nonempty ι] (r : ι → ℝ) {i : ι} (hi : ∀ j, r j ≤ r i) {c : ℝ} (hc : 0 ≤ c) :
    top (fun j => (r j : EReal) * (c : EReal)) = (r i : EReal) * (c : EReal) := by
  refine le_antisymm (Finset.sup_le fun j _ => ?_) (Finset.le_sup (f := fun j => (r j : EReal) * (c : EReal)) (Finset.mem_univ i))
  rw [← EReal.coe_mul, ← EReal.coe_mul]
  exact EReal.coe_le_coe_iff.mpr (mul_le_mul_of_nonneg_right (hi j) hc)

/-- The textbook softmax of the scores times `ln 2`, each weight divided by the sum before the values are averaged, is
    the base-2 softmax of the scores with one division at the end. -/
theorem softmax_eq [Nonempty ι] (s v : ι → EReal) (hs : ∀ j, ∃ r : ℝ, s j = r) :
    ∑ j, v j * Ideal.div
        (Ideal.exp (s j * (Real.log 2 : ℝ) - max ⊥ (top fun j => s j * (Real.log 2 : ℝ))))
        (∑ j, Ideal.exp (s j * (Real.log 2 : ℝ) - max ⊥ (top fun j => s j * (Real.log 2 : ℝ))))
      = attend s v := by
  choose r hr using hs
  obtain rfl : s = fun j => (r j : EReal) := funext hr
  obtain ⟨i, hi, hle⟩ := top_eq r
  have hlog : 0 ≤ Real.log 2 := Real.log_nonneg (by norm_num)
  have e1 : ∀ j, Ideal.exp ((r j : EReal) * (Real.log 2 : ℝ) - max ⊥ (top fun j => (r j : EReal) * (Real.log 2 : ℝ)))
      = ((Real.rpow 2 (r j - r i) : ℝ) : EReal) := fun j => by
    rw [top_mul r hle hlog, max_eq_right bot_le, ← EReal.coe_mul, ← EReal.coe_mul, ← EReal.coe_sub, Ideal.exp_coe]
    congr 1
    show _ = (2 : ℝ) ^ (r j - r i)
    rw [Real.rpow_def_of_pos (by norm_num)]
    ring_nf
  have e2 : ∀ j, Ideal.exp2 ((r j : EReal) - top fun j => (r j : EReal)) = ((Real.rpow 2 (r j - r i) : ℝ) : EReal) := fun j => by
    rw [hi, ← EReal.coe_sub, Ideal.exp2_coe]
  have hp : ∀ j, 0 < Real.rpow 2 (r j - r i) := fun j => Real.rpow_pos_of_pos (by norm_num) _
  have hL : 0 < ∑ j, Real.rpow 2 (r j - r i) := Finset.sum_pos (fun j _ => hp j) Finset.univ_nonempty
  unfold attend
  simp only [e1, e2, sum_coe, Ideal.div_coe hL.ne']
  rw [sum_mul_coe _ (by positivity)]
  exact Finset.sum_congr rfl fun j _ => by rw [← mul_assoc, mul_comm (v j)]

/-- The mean of `o` with the weights `e ^ (l - max l)`, the division made once, at the end. -/
def mix (l o : ι → EReal) : EReal :=
  Ideal.div (∑ j, Ideal.exp (l j - top l) * o j) (∑ j, Ideal.exp (l j - top l))

/-- The textbook softmax, each weight divided by the sum before the values are averaged, is the mean with one division
    at the end. -/
theorem mix_eq [Nonempty ι] (l o : ι → EReal) (hl : ∀ j, ∃ r : ℝ, l j = r) :
    ∑ j, Ideal.div (Ideal.exp (l j - max ⊥ (top l))) (∑ j, Ideal.exp (l j - max ⊥ (top l))) * o j = mix l o := by
  choose r hr using hl
  obtain rfl : l = fun j => (r j : EReal) := funext hr
  obtain ⟨i, hi, -⟩ := top_eq r
  have e : ∀ j, Ideal.exp ((r j : EReal) - top fun j => (r j : EReal)) = ((Real.exp (r j - r i) : ℝ) : EReal) := fun j => by
    rw [hi, ← EReal.coe_sub, Ideal.exp_coe]
  have hL : 0 < ∑ j, Real.exp (r j - r i) := Finset.sum_pos (fun j _ => Real.exp_pos _) Finset.univ_nonempty
  unfold mix
  simp only [max_eq_right bot_le, e, sum_coe, Ideal.div_coe hL.ne']
  rw [sum_mul_coe _ (by positivity)]
  exact Finset.sum_congr rfl fun j _ => by rw [mul_assoc, mul_assoc, mul_comm (o j)]

/-- The mean of three values written out. -/
theorem mix_three (l o : Fin 3 → EReal) :
    Ideal.div (Ideal.exp (l 0 - max (max (l 0) (l 1)) (l 2)) * o 0 + Ideal.exp (l 1 - max (max (l 0) (l 1)) (l 2)) * o 1
        + Ideal.exp (l 2 - max (max (l 0) (l 1)) (l 2)) * o 2)
      (Ideal.exp (l 0 - max (max (l 0) (l 1)) (l 2)) + Ideal.exp (l 1 - max (max (l 0) (l 1)) (l 2))
        + Ideal.exp (l 2 - max (max (l 0) (l 1)) (l 2))) = mix l o := by
  have ht : top l = max (max (l 0) (l 1)) (l 2) := by
    refine le_antisymm (Finset.sup_le fun j _ => ?_) (max_le (max_le ?_ ?_) ?_)
    · fin_cases j
      · exact le_max_of_le_left (le_max_left _ _)
      · exact le_max_of_le_left (le_max_right _ _)
      · exact le_max_right _ _
    all_goals exact Finset.le_sup (f := l) (Finset.mem_univ _)
  unfold mix
  rw [ht, Fin.sum_univ_three, Fin.sum_univ_three]

end Cert.Softmax

end
-- ==== Proof.AttnValue.lean ====
/-
  The attention over latent keys and values: what one head's body computes (a base-2 softmax with the division made at
  the end), that the array left is the attention of every head, and that the reference's softmax computes the same where
  queries and keys are finite.
-/
module

public import proofs.«01_k».proof.Defs
public import proofs.«01_k».proof.Proof.Softmax
public import proofs.«01_k».proof.Proof.Gen.Attn.Frame
public import proofs.«01_k».proof.Proof.Gen.AttnIdeal.Value
public import proofs.«01_k».proof.Proof.Gen.AttnRefIdeal.Run
public import proofs.«01_k».proof.Proof.Gen.Pre_finite_qk
public import Idealize.ShloMosaic.Lib.Pointwise
public import Idealize.ShloMosaic.Lib.Pipeline.ValueKit
public import Idealize.ShloMosaic.Lib.Claim
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.AttnIdeal.RefValue

open Cert.AttnIdeal Cert.AttnIdeal.Gen

/-- One head's mean of the values in lane `l`, from the lanes of its queries and keys. -/
def head (v : FVec Ideal S1x2048x128 .bf16) (q : FVec Ideal S1x512x128 .bf16) (k : FVec Ideal S1x2048x128 .bf16)
    (r : Fin 512) (l : Fin 128) : EReal :=
  Softmax.attend (fun j : Fin 2048 => ∑ d : Fin 128, q (ix3 0 r d) * k (ix3 0 j d)) (fun j => v (ix3 0 j l))

theorem select_lane (l : Fin 128) (a b : EReal) :
    Scalar.select (IntOp.cmpi .slt (BitVec.ofNat 32 l.val) 64#32) a b = if l.val < 64 then a else b := by
  have h : ∀ l : Fin 128, IntOp.cmpi .slt (BitVec.ofNat 32 l.val) 64#32 = if l.val < 64 then 1#1 else 0#1 := by decide
  rw [h l]
  split <;> rfl

section

variable (v : FVec Ideal S1x2048x128 .bf16) (q q' : FVec Ideal S1x512x128 .bf16) (k k' : FVec Ideal S1x2048x128 .bf16)
  (r : Fin 512) (l : Fin 128)

/-- A lane of a pair of heads: the first 64 lanes are the first head's, the others the second's. -/
def pair : EReal := if l.val < 64 then head v q k r l else head v q' k' r l

theorem pair0 : k0_pay7 (F := Ideal) (iota .tc S1x128 32 [1] iota_S1x128_d1_w32) (k0_pay3 v q k) (k0_pay5 v q' k')
    (k0_pay6 q' k') (ix3 0 r l) = pair v q q' k k' r l := by
  unfold_payloads
  unfold pair head Softmax.attend Softmax.top
  rw [← select_lane]
  pointwise [Softmax.ofBits_negInf]
  rfl

theorem pair1 : k0_pay12 (F := Ideal) (iota .tc S1x128 32 [1] iota_S1x128_d1_w32) (k0_pay8 v) (k0_pay9 v q k)
    (k0_pay10 q' k') (k0_pay11 q' k') (ix3 0 r l) = pair v q q' k k' r l := by
  unfold_payloads
  unfold pair head Softmax.attend Softmax.top
  rw [← select_lane]
  pointwise [Softmax.ofBits_negInf]
  rfl

theorem pair2 : k0_pay15 (F := Ideal) (iota .tc S1x128 32 [1] iota_S1x128_d1_w32) (k0_pay13 v) (k0_pay14 v q k)
    q' k' (ix3 0 r l) = pair v q q' k k' r l := by
  unfold_payloads
  unfold pair head Softmax.attend Softmax.top
  rw [← select_lane]
  pointwise [Softmax.ofBits_negInf]
  rfl

theorem pair3 : k0_pay1 (F := Ideal) (iota .tc S1x128 32 [1] iota_S1x128_d1_w32) (k0_pay16 v) (k0_pay17 q k)
    q' k' (ix3 0 r l) = pair v q q' k k' r l := by
  unfold_payloads
  unfold pair head Softmax.attend Softmax.top
  rw [← select_lane]
  pointwise [Softmax.ofBits_negInf]
  rfl

/-- Lane `j` of the block the body leaves: the lanes of head `j / 64` of the queries and keys, lane `j` of the values. -/
def lane (x0 : FVec Ideal S1x512x1024 .bf16) (x1 : FVec Ideal S1x2048x1024 .bf16) (x2 : FVec Ideal S1x2048x512 .bf16)
    (r : Fin 512) (j : Fin 512) : EReal :=
  Softmax.attend (fun t : Fin 2048 => ∑ d : Fin 128, x0 (ix3 0 r ⟨128 * (j.val / 64) + d.val, by omega⟩)
    * x1 (ix3 0 t ⟨128 * (j.val / 64) + d.val, by omega⟩)) (fun t => x2 (ix3 0 t j))

/-- A pair of heads whose lanes are those of pair `p` of a block gives that block's lane. -/
theorem pair_lane (x0 : FVec Ideal S1x512x1024 .bf16) (x1 : FVec Ideal S1x2048x1024 .bf16) (x2 : FVec Ideal S1x2048x512 .bf16)
    (j : Fin 512) (p : Nat) (hj : j.val = 128 * p + l.val)
    (hv : ∀ (t : Fin 2048) (i : Fin 512), i.val = 128 * p + l.val → v (ix3 0 t l) = x2 (ix3 0 t i))
    (hq : ∀ (d : Fin 128) (i : Fin 1024), i.val = 256 * p + d.val → q (ix3 0 r d) = x0 (ix3 0 r i))
    (hq' : ∀ (d : Fin 128) (i : Fin 1024), i.val = 256 * p + 128 + d.val → q' (ix3 0 r d) = x0 (ix3 0 r i))
    (hk : ∀ (t : Fin 2048) (d : Fin 128) (i : Fin 1024), i.val = 256 * p + d.val → k (ix3 0 t d) = x1 (ix3 0 t i))
    (hk' : ∀ (t : Fin 2048) (d : Fin 128) (i : Fin 1024), i.val = 256 * p + 128 + d.val → k' (ix3 0 t d) = x1 (ix3 0 t i)) :
    pair v q q' k k' r l = lane x0 x1 x2 r j := by
  have hV : (fun t => v (ix3 0 t l)) = fun t => x2 (ix3 0 t j) := funext fun t => hv t j hj
  unfold pair head lane
  split
  · rename_i h
    refine congrArg₂ Softmax.attend (funext fun t => Finset.sum_congr rfl fun d _ => ?_) hV
    rw [hq d ⟨128 * (j.val / 64) + d.val, by omega⟩ (by show 128 * (j.val / 64) + d.val = _; omega),
      hk t d ⟨128 * (j.val / 64) + d.val, by omega⟩ (by show 128 * (j.val / 64) + d.val = _; omega)]
  · rename_i h
    refine congrArg₂ Softmax.attend (funext fun t => Finset.sum_congr rfl fun d _ => ?_) hV
    rw [hq' d ⟨128 * (j.val / 64) + d.val, by omega⟩ (by show 128 * (j.val / 64) + d.val = _; omega),
      hk' t d ⟨128 * (j.val / 64) + d.val, by omega⟩ (by show 128 * (j.val / 64) + d.val = _; omega)]

theorem out_apply (x0 : FVec Ideal S1x512x1024 .bf16) (x1 : FVec Ideal S1x2048x1024 .bf16) (x2 : FVec Ideal S1x2048x512 .bf16)
    (r : Fin 512) (j : Fin 512) : out0_3 (F := Ideal) x0 x1 x2 (ix3 0 r j) = lane x0 x1 x2 r j := by
  unfold out0_3 k0_pay18
  canon_tiles x h
  all_goals
    obtain ⟨a, b, c, rfl⟩ : ∃ (a : Fin 1) (b : Fin 512) (c : Fin 128), x = ix3 a b c := ⟨x 0, x 1, x 2, eq_ix3 x⟩
    obtain rfl : a = 0 := Subsingleton.elim _ _
    simp only [ix3_0, ix3_1, ix3_2] at h1 h2
    obtain rfl : r = b := Fin.ext h1
  · rw [pair3]
    refine pair_lane _ _ _ _ _ _ _ _ _ _ _ 3 (by omega) ?_ ?_ ?_ ?_ ?_ <;> intros <;> rename_i hi <;> pointwise <;>
      refine congrArg _ (congrArg (ix3 0 _) (Fin.ext ?_)) <;> simp only [hi] <;> omega
  · rw [pair2]
    refine pair_lane _ _ _ _ _ _ _ _ _ _ _ 2 (by omega) ?_ ?_ ?_ ?_ ?_ <;> intros <;> rename_i hi <;> pointwise <;>
      refine congrArg _ (congrArg (ix3 0 _) (Fin.ext ?_)) <;> simp only [hi] <;> omega
  · rw [pair1]
    refine pair_lane _ _ _ _ _ _ _ _ _ _ _ 1 (by omega) ?_ ?_ ?_ ?_ ?_ <;> intros <;> rename_i hi <;> pointwise <;>
      refine congrArg _ (congrArg (ix3 0 _) (Fin.ext ?_)) <;> simp only [hi] <;> omega
  · rw [pair0]
    refine pair_lane _ _ _ _ _ _ _ _ _ _ _ 0 (by omega) ?_ ?_ ?_ ?_ ?_ <;> intros <;> rename_i hi <;> pointwise <;>
      refine congrArg _ (congrArg (ix3 0 _) (Fin.ext ?_)) <;> simp only [hi] <;> omega

end

/-- Lane `j` of token `s` of batch entry `b`: the attention of head `j / 64`. -/
def attn (q k : FVec Ideal S32768x1024 .bf16) (v : FVec Ideal S32768x512 .bf16) (b : Fin 16) (s : Fin 2048) (j : Fin 512) : EReal :=
  Softmax.attend
    (fun t : Fin 2048 => ∑ d : Fin 128, q (ix2 ⟨2048 * b.val + s.val, by omega⟩ ⟨128 * (j.val / 64) + d.val, by omega⟩)
      * k (ix2 ⟨2048 * b.val + t.val, by omega⟩ ⟨128 * (j.val / 64) + d.val, by omega⟩))
    (fun t => v (ix2 ⟨2048 * b.val + t.val, by omega⟩ j))

variable (m : (ℓ : Loc nD τ sig) → Buf (Elt Ideal) ℓ) (ρ : Dev nD → PrngReg)

abbrev G (c : Dev nD) : Buf (Elt Ideal) ((c : Thread nD τ).loc main_v3) :=
  fun i : S16x2048x512.Idx => attn (m ((c : Thread nD τ).loc main_arg0)) (m ((c : Thread nD τ).loc main_arg1))
    (m ((c : Thread nD τ).loc main_arg2)) (i 0) (i 1) (i 2)

theorem idx : ∀ t : Fin grid0.N, win0_0.index t = ![t.val / 4, t.val % 4, 0] ∧ win0_1.index t = ![t.val / 4, 0, 0]
    ∧ win0_2.index t = ![t.val / 4, 0, 0] ∧ win0_3.index t = ![t.val / 4, t.val % 4, 0] := by decide +kernel

theorem q_read (c : Dev nD) (t : Fin cfg0.N) (r : Fin 512) (d : Fin 1024) (h : 2048 * (t.val / 4) + (512 * (t.val % 4) + r.val) < 32768) :
    iblk m c 0 t (ix3 0 r d) = m ((c : Thread nD τ).loc main_arg0) (ix2 ⟨2048 * (t.val / 4) + (512 * (t.val % 4) + r.val), h⟩ d) := by
  blk_simp [iblk, idx t]
  entry_read
  pointwise
  blk_ext [idx t]

theorem k_read (c : Dev nD) (t : Fin cfg0.N) (r : Fin 2048) (d : Fin 1024) (h : 2048 * (t.val / 4) + r.val < 32768) :
    iblk m c 1 t (ix3 0 r d) = m ((c : Thread nD τ).loc main_arg1) (ix2 ⟨2048 * (t.val / 4) + r.val, h⟩ d) := by
  blk_simp [iblk, idx t]
  entry_read
  pointwise
  blk_ext [idx t]

theorem v_read (c : Dev nD) (t : Fin cfg0.N) (r : Fin 2048) (d : Fin 512) (h : 2048 * (t.val / 4) + r.val < 32768) :
    iblk m c 2 t (ix3 0 r d) = m ((c : Thread nD τ).loc main_arg2) (ix2 ⟨2048 * (t.val / 4) + r.val, h⟩ d) := by
  blk_simp [iblk, idx t]
  entry_read
  pointwise
  blk_ext [idx t]

theorem final (c : Dev nD) : (dats m 0 c).arrAt 3 cfg0.N = G m c := by
  refine (dats m 0 c).arrAt_eq_of_covers 3 _ (by decide +kernel) fun t hf y => ?_
  have ht : t.val < 64 := t.isLt
  blk_simp
  rw [after0_3]
  obtain ⟨a, r, j, rfl⟩ : ∃ (a : Fin 1) (r : Fin 512) (j : Fin 512), y = ix3 a r j := ⟨y 0, y 1, y 2, eq_ix3 y⟩
  obtain rfl : a = 0 := Subsingleton.elim _ _
  have e : ((View.whole main_v3).slice (win0_3.rect t)).emb (ix3 0 r j)
      = ix3 ⟨t.val / 4, by omega⟩ ⟨512 * (t.val % 4) + r.val, by omega⟩ j := by
    blk_ext [idx t]
  rw [out_apply, e]
  unfold lane G attn
  simp only [ix3_0, ix3_1, ix3_2]
  refine congrArg₂ Softmax.attend (funext fun u => Finset.sum_congr rfl fun d _ => ?_) (funext fun u => ?_)
  · rw [q_read m c t r _ (by omega), k_read m c t u _ (by omega)]
  · rw [v_read m c t u _ (by omega)]

/-- The kernel's run: its result is `G` of the arguments, which are unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.AttnIdeal.RefValue

namespace Cert.AttnRefIdeal.RefValue

open Cert.AttnRefIdeal Cert.AttnRefIdeal.Gen

/-- The queries' products with the keys, times `ln 2`. -/
def scores (q k : FVec Ideal S32768x1024 .bf16) : FVec Ideal S16x8x2048x2048 .f32 :=
  mulf
    (Host.dotGeneral dot_S16x2048x8x128_S16x2048x8x128_S16x8x2048x2048_3_3_1_1_02_02 none
      (shapeCast S16x2048x8x128 (extf .f32 q bitsLt_bf16_f32) shapeCasts_S32768x1024_S16x2048x8x128)
      (shapeCast S16x2048x8x128 (extf .f32 k bitsLt_bf16_f32) shapeCasts_S32768x1024_S16x2048x8x128))
    (broadcastInDim S16x8x2048x2048 ![] bcast_S_S16x8x2048x2048 (Host.log (constant S_ .f32 0x40000000#32)))

/-- The exponentials of the scores less their largest. -/
def expo (s : FVec Ideal S16x8x2048x2048 .f32) : FVec Ideal S16x8x2048x2048 .f32 :=
  Host.exp (subf s (broadcastInDim S16x8x2048x2048 ![0, 1, 2, 3] bcast_S16x8x2048x1_S16x8x2048x2048_0_1_2_3
    (broadcastInDim S16x8x2048x1 ![0, 1, 2] bcast_S16x8x2048_S16x8x2048x1_0_1_2
      (maximumf (broadcastInDim S16x8x2048 ![] bcast_S_S16x8x2048 (constant S_ .f32 0xFF800000#32))
        (Host.reduce FloatOps.maximumf s (constant S_ .f32 0xFF800000#32) reducesTo_S16x8x2048x2048_S16x8x2048_d3 h_S_)))))

/-- The values averaged with weights `p`, divided by their sum. -/
def mean (p : FVec Ideal S16x8x2048x2048 .f32) (v : FVec Ideal S32768x512 .bf16) : FVec Ideal S16x2048x512 .bf16 :=
  truncf .bf16 (shapeCast S16x2048x512 (transpose S16x2048x8x64 [0, 3, 1, 2]
    (Host.dotGeneral dot_S16x2048x8x64_S16x8x2048x2048_S16x8x64x2048_1_3_3_2_02_01 none
      (shapeCast S16x2048x8x64 (extf .f32 v bitsLt_bf16_f32) shapeCasts_S32768x512_S16x2048x8x64)
      (Host.divf p (broadcastInDim S16x8x2048x2048 ![0, 1, 2, 3] bcast_S16x8x2048x1_S16x8x2048x2048_0_1_2_3
        (broadcastInDim S16x8x2048x1 ![0, 1, 2] bcast_S16x8x2048_S16x8x2048x1_0_1_2
          (Host.reduceAdd p (constant S_ .f32 0x00000000#32) reducesTo_S16x8x2048x2048_S16x8x2048_d3 h_S_)))))
    transposes_S16x8x64x2048_S16x2048x8x64_0_3_1_2) shapeCasts_S16x2048x8x64_S16x2048x512) bitsLt_bf16_f32

theorem scores_apply (q k : FVec Ideal S32768x1024 .bf16) (b : Fin 16) (h : Fin 8) (s t : Fin 2048) :
    scores q k (ix4 b h s t) = (∑ d : Fin 128, q (ix2 ⟨2048 * b.val + s.val, by omega⟩ ⟨128 * h.val + d.val, by omega⟩)
      * k (ix2 ⟨2048 * b.val + t.val, by omega⟩ ⟨128 * h.val + d.val, by omega⟩)) * (Real.log 2 : ℝ) := by
  rw [← Softmax.log_two, ← Softmax.ofBits_two]
  pointwise [scores]
  simp only [Nat.mul_comm]

theorem max_apply (x : FVec Ideal S16x8x2048x2048 .f32) (b : Fin 16) (h : Fin 8) (s : Fin 2048) :
    Host.reduce FloatOps.maximumf x (constant S_ .f32 0xFF800000#32) reducesTo_S16x8x2048x2048_S16x8x2048_d3 h_S_ (ix3 b h s)
      = Softmax.top fun u : Fin 2048 => x (ix4 b h s u) := by
  rw [show (Softmax.top fun u : Fin 2048 => x (ix4 b h s u))
    = Finset.univ.fold max (Ideal.ofBits .f32 0xFF800000#32) fun u : Fin 2048 => x (ix4 b h s u) by
      rw [Softmax.ofBits_negInf]; rfl]
  pointwise

theorem most_apply (R : FVec Ideal S16x8x2048 .f32) (b : Fin 16) (h : Fin 8) (s t : Fin 2048) :
    broadcastInDim S16x8x2048x2048 ![0, 1, 2, 3] bcast_S16x8x2048x1_S16x8x2048x2048_0_1_2_3
      (broadcastInDim S16x8x2048x1 ![0, 1, 2] bcast_S16x8x2048_S16x8x2048x1_0_1_2
      (maximumf (broadcastInDim S16x8x2048 ![] bcast_S_S16x8x2048 (constant S_ .f32 0xFF800000#32)) R)) (ix4 b h s t)
      = max (Ideal.ofBits .f32 0xFF800000#32) (R (ix3 b h s)) := by
  pointwise

theorem expo_apply (x : FVec Ideal S16x8x2048x2048 .f32) (b : Fin 16) (h : Fin 8) (s t : Fin 2048) :
    expo x (ix4 b h s t) = Ideal.exp (x (ix4 b h s t) - max ⊥ (Softmax.top fun u : Fin 2048 => x (ix4 b h s u))) := by
  rw [← max_apply, ← Softmax.ofBits_negInf, ← most_apply _ b h s t]
  rfl

theorem mean_apply (p : FVec Ideal S16x8x2048x2048 .f32) (v : FVec Ideal S32768x512 .bf16) (b : Fin 16) (s : Fin 2048) (j : Fin 512) :
    mean p v (ix3 b s j) = ∑ t : Fin 2048, v (ix2 ⟨2048 * b.val + t.val, by omega⟩ j)
      * Ideal.div (p (ix4 b ⟨j.val / 64, by omega⟩ s t)) (∑ u : Fin 2048, p (ix4 b ⟨j.val / 64, by omega⟩ s u)) := by
  pointwise [mean]
  simp only [Nat.mul_comm]

theorem ref_eq (q k : FVec Ideal S32768x1024 .bf16) (v : FVec Ideal S32768x512 .bf16)
    (hq : ∀ i j, ∃ r : ℝ, q (ix2 i j) = r) (hk : ∀ i j, ∃ r : ℝ, k (ix2 i j) = r) :
    mean (expo (scores q k)) v = fun i : S16x2048x512.Idx => AttnIdeal.RefValue.attn q k v (i 0) (i 1) (i 2) := by
  funext i
  obtain ⟨b, s, j, rfl⟩ : ∃ (b : Fin 16) (s : Fin 2048) (j : Fin 512), i = ix3 b s j := ⟨i 0, i 1, i 2, eq_ix3 i⟩
  rw [mean_apply]
  simp only [expo_apply, scores_apply, ix3_0, ix3_1, ix3_2]
  exact Softmax.softmax_eq _ _ fun t => Softmax.exists_dot (fun d => hq _ _) fun d => hk _ _

variable (m : (ℓ : Loc nD τ sig) → Buf (Elt Ideal) ℓ) (ρ : Dev nD → PrngReg)

/-- The reference's run, its result named stage by stage. -/
theorem run : θ_run defs (onTc (τ := τ) (main (F := Ideal))) ⟨m, fun _ => 0, ρ⟩ fun r => ∀ c : Dev nD,
      r.2.mem ((c : Thread nD τ).loc main_v24) = mean (expo (scores (m ((c : Thread nD τ).loc main_arg0))
        (m ((c : Thread nD τ).loc main_arg1)))) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1, (h c).2⟩) (Value.run m ρ)

end Cert.AttnRefIdeal.RefValue

/-! ## The claims -/

namespace Cert.Proof.AttnClaims

theorem frame_k : Cert.quiescent_Attn := fun m ρ _ => Cert.Attn.Gen.frame m ρ

theorem frame_i : Cert.quiescent_AttnIdeal := fun m ρ _ => Cert.AttnIdeal.Gen.frame m ρ

theorem frame_ip : Cert.quiescent_AttnIdeal_pre_finite_qk := fun m ρ _ => Cert.AttnIdeal.Gen.frame m ρ

theorem frame_r : Cert.quiescent_AttnRefIdeal := fun m ρ _ => (θ_run Cert.AttnRefIdeal.defs _ _).mono
  (fun r h => ⟨fun c => (h c).2, Idealize.ShloMosaic.sem_eq_zero_of_no_sems (by decide) r.2⟩)
  (Cert.AttnRefIdeal.Value.run (F := Ideal) m ρ)

theorem frame_rp : Cert.quiescent_AttnRefIdeal_pre_finite_qk := fun m ρ _ => frame_r m ρ trivial

/-- What the precondition says: every query and key is a real number. -/
theorem finite (q k : FVec Ideal AttnIdeal.S32768x1024 .bf16) (v : FVec Ideal AttnIdeal.S32768x512 .bf16)
    (h : Cert.Pre_finite_qk.fn q k v = fun _ => 1#1) :
    (∀ i j, ∃ r : ℝ, q (ix2 i j) = r) ∧ ∀ i j, ∃ r : ℝ, k (ix2 i j) = r := by
  have h0 := congrFun h ix0
  dsimp only [Cert.Pre_finite_qk.fn] at h0
  have h1 := (by decide : ∀ a b : BitVec 1, IntOp.andi a b = 1#1 → a = 1#1 ∧ b = 1#1) _ _ h0
  refine ⟨fun i j => ?_, fun i j => ?_⟩
  · have h2 := Host.reduce_andi_all _ _ _ _ _ h1.1 (ix2 i j)
    pointwise [Softmax.ofBits_inf] at h2
    exact Softmax.exists_real (Softmax.lt_of_bit h2)
  · have h2 := Host.reduce_andi_all _ _ _ _ _ h1.2 (ix2 i j)
    pointwise [Softmax.ofBits_inf] at h2
    exact Softmax.exists_real (Softmax.lt_of_bit h2)

theorem algebraic : Cert.algebraic_AttnIdeal_AttnRefIdeal_pre_finite_qk := fun m ρ m' ρ' hpre hag =>
  ⟨fun c => Cert.AttnIdeal.RefValue.G m c, Cert.AttnIdeal.RefValue.run m ρ,
    (θ_run _ _ _).mono (fun _ h c => ⟨(h c).1.trans (by
      rw [(hag c).1, (hag c).2.1, (hag c).2.2]
      have hf := finite _ _ _ (hpre c)
      exact AttnRefIdeal.RefValue.ref_eq _ _ _ hf.1 hf.2), (h c).2⟩)
      (Cert.AttnRefIdeal.RefValue.run m' ρ')⟩

end Cert.Proof.AttnClaims

end
-- ==== Proof.Norm.lean ====
/-
  The normalised and modulated row that opens a block of the layer: a row of 1024 numbers is divided by its root mean
  square, multiplied by a gain, and scaled and shifted by the two vectors the conditioning gives for its batch entry.
  Stated over the extended reals, once, and read out of the programs by InProjValue.lean and InDilValue.lean.
-/
module

public import Idealize.ShloMosaic.Lib.Pointwise

@[expose] public section

noncomputable section

namespace Cert.Norm

open Idealize.ShloMosaic

/-- The mean of the squares of a row of 1024 numbers, plus 1e-6 (the number the f32 word stands for). -/
def meanSq (x : Fin 1024 → EReal) : EReal :=
  Ideal.div (∑ k, x k * x k) (Ideal.ofBits .f32 0x44800000#32) + Ideal.ofBits .f32 0x358637BD#32

/-- Entry `d` of the row normalised, multiplied by the gain `g`, scaled by `1 + sc` and shifted by `sh`. -/
def row (x g sc sh : Fin 1024 → EReal) (d : Fin 1024) : EReal :=
  x d * Ideal.rsqrt (meanSq x) * g d * (1 + sc d) + sh d

/-- Column `j` of the product of row `r` of `x`, normalised and modulated, with the weights `w`: 2048 consecutive rows
    share one entry of the conditioning, whose first vector shifts and whose second scales. -/
def proj {N : Nat} (x : FVec Ideal ⟨2, ![32768, 1024]⟩ .f32) (md : FVec Ideal ⟨3, ![16, 6, 1024]⟩ .f32)
    (g : FVec Ideal ⟨1, ![1024]⟩ .f32) (w : FVec Ideal ⟨2, ![1024, N]⟩ .bf16) (r : Fin 32768) (j : Fin N) : EReal :=
  ∑ d, row (fun k => x (ix2 r k)) (fun k => g (ix1 k)) (fun k => md (ix3 ⟨r.val / 2048, by omega⟩ 1 k))
    (fun k => md (ix3 ⟨r.val / 2048, by omega⟩ 0 k)) d * w (ix2 d j)

end Cert.Norm

end
-- ==== Proof.InProjValue.lean ====
/-
  The main input projection: what the call's blocks hold (the layer norm, modulated, times the weight columns), that the
  array left is that function of the arguments, and that the reference computes the same.
-/
module

public import proofs.«01_k».proof.Defs
public import proofs.«01_k».proof.Proof.Norm
public import proofs.«01_k».proof.Proof.Gen.InProj.Frame
public import proofs.«01_k».proof.Proof.Gen.InProjIdeal.Value
public import proofs.«01_k».proof.Proof.Gen.InProjRefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.RefValue

open Cert.InProjIdeal Cert.InProjIdeal.Gen

/-- One block of the normalised rows. -/
theorem pay1_apply (v8 : FVec Ideal S1x6x1024 .f32) (v10 : FVec Ideal S512x1024 .f32) (v11 : FVec Ideal S1x1024 .f32)
    (r : Fin 512) (d : Fin 1024) :
    k0_pay1 (F := Ideal) v8 v10 v11 (ix2 r d) = Norm.row (fun k => v10 (ix2 r k)) (fun k => v11 (ix2 0 k))
      (fun k => v8 (ix3 0 1 k)) (fun k => v8 (ix3 0 0 k)) d := by
  unfold Norm.row Norm.meanSq
  pointwise [k0_pay1]

theorem pay2_apply (v3 : FVec Ideal S512x1024 .bf16) (v4 : FVec Ideal S1024x4864 .bf16) (r : Fin 512) (j : Fin 4864) :
    k0_pay2 (F := Ideal) v3 v4 (ix2 r j) = ∑ d, v3 (ix2 r d) * v4 (ix2 d j) := by
  pointwise [k0_pay2]

variable (m : (ℓ : Loc nD τ sig) → Buf (Elt Ideal) ℓ) (ρ : Dev nD → PrngReg)

abbrev G (c : Dev nD) : Buf (Elt Ideal) ((c : Thread nD τ).loc main_v1) :=
  fun i : S32768x4864.Idx => Norm.proj (m ((c : Thread nD τ).loc main_arg0)) (m ((c : Thread nD τ).loc main_arg1))
    (m ((c : Thread nD τ).loc main_arg2)) (m ((c : Thread nD τ).loc main_arg3)) (i 0) (i 1)

theorem idx : ∀ t : Fin grid0.N, win0_0.index t = ![t.val, 0] ∧ win0_1.index t = ![t.val / 4, 0, 0]
    ∧ win0_2.index t = ![0, 0] ∧ win0_3.index t = ![0, 0] ∧ win0_4.index t = ![t.val, 0] := by decide +kernel

/-- Block `t` of the rows is rows `512 t …` of the array. -/
theorem x_read (c : Dev nD) (t : Fin cfg0.N) (r : Fin 512) (k : Fin 1024) (h : 512 * t.val + r.val < 32768) :
    iblk m c 0 t (ix2 r k) = m ((c : Thread nD τ).loc main_arg0) (ix2 ⟨512 * t.val + r.val, h⟩ k) := by
  blk_ext [iblk, V, idx t]

/-- The conditioning's block at point `t` is that of batch entry `t / 4`. -/
theorem md_read (c : Dev nD) (t : Fin cfg0.N) (s : Fin 6) (k : Fin 1024) (h : t.val / 4 < 16) :
    iblk m c 1 t (ix3 0 s k) = m ((c : Thread nD τ).loc main_arg1) (ix3 ⟨t.val / 4, h⟩ s k) := by
  blk_ext [iblk, V, idx t]

/-- The gain's block is the whole gain. -/
theorem g_read (c : Dev nD) (t : Fin cfg0.N) (k : Fin 1024) :
    iblk m c 2 t (ix2 0 k) = m ((c : Thread nD τ).loc main_arg2) (ix1 k) := by
  blk_simp [iblk, idx t]
  entry_read
  pointwise
  blk_ext [idx t]

/-- The weights' block is the whole array. -/
theorem w_read (c : Dev nD) (t : Fin cfg0.N) (d : Fin 1024) (j : Fin 4864) :
    iblk m c 3 t (ix2 d j) = m ((c : Thread nD τ).loc main_arg3) (ix2 d j) := by
  blk_ext [iblk, V, idx t]

theorem final (c : Dev nD) : (dats m 0 c).arrAt 4 cfg0.N = G m c := by
  refine (dats m 0 c).arrAt_eq_of_covers 4 _ (by decide +kernel) fun t hf y => ?_
  have ht : t.val < 64 := t.isLt
  blk_simp
  rw [after0_4]
  unfold outsAt0
  frame_out
  obtain ⟨r, j, rfl⟩ : ∃ (r : Fin 512) (j : Fin 4864), y = ix2 r j := ⟨y 0, y 1, eq_ix2 y⟩
  have e : ((View.whole main_v1).slice (win0_4.rect t)).emb (ix2 r j) = ix2 ⟨512 * t.val + r.val, by omega⟩ j := by
    blk_ext [idx t]
  rw [pay2_apply, e]
  have hb : (512 * t.val + r.val) / 2048 = t.val / 4 := by omega
  simp only [pay1_apply, x_read m c t r _ (by omega), md_read m c t _ _ (by omega), g_read, w_read, G, Norm.proj, hb,
    ix2_0, ix2_1]

/-- The kernel's run: its result is `G` of the arguments, which are unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.InProjIdeal.RefValue

namespace Cert.InProjRefIdeal.RefValue

open Cert.InProjRefIdeal Cert.InProjRefIdeal.Gen

/-- The rows of one token's features, normalised and modulated, as the reference's operations give them. -/
def normed (x : FVec Ideal S16x2048x1024 .f32) (md : FVec Ideal S16x6x1024 .f32) (g : FVec Ideal S1024 .f32) :
    FVec Ideal S16x2048x1024 .f32 :=
  addf
    (mulf
      (mulf
        (mulf x
          (broadcastInDim S16x2048x1024 ![0, 1, 2] bcast_S16x2048x1_S16x2048x1024_0_1_2
            (Host.rsqrt
              (addf
                (Host.divf
                  (broadcastInDim S16x2048x1 ![0, 1] bcast_S16x2048_S16x2048x1_0_1
                    (Host.reduceAdd (mulf x x) (constant S_ FTy.f32 0#32) reducesTo_S16x2048x1024_S16x2048_d2 h_S_))
                  (broadcastInDim S16x2048x1 ![] bcast_S_S16x2048x1 (constant S_ FTy.f32 1149239296#32)))
                (broadcastInDim S16x2048x1 ![] bcast_S_S16x2048x1 (constant S_ FTy.f32 897988541#32))))))
        (broadcastInDim S16x2048x1024 ![0, 1, 2] bcast_S1x1x1024_S16x2048x1024_0_1_2
          (broadcastInDim S1x1x1024 ![2] bcast_S1024_S1x1x1024_2 g)))
      (broadcastInDim S16x2048x1024 ![0, 1, 2] bcast_S16x1x1024_S16x2048x1024_0_1_2
        (addf (broadcastInDim S16x1x1024 ![] bcast_S_S16x1x1024 (constant S_ FTy.f32 1065353216#32))
          (extractStridedSlice S16x1x1024 ![0, 1, 0] md slices_S16x6x1024_S16x1x1024_0_1_0))))
    (broadcastInDim S16x2048x1024 ![0, 1, 2] bcast_S16x1x1024_S16x2048x1024_0_1_2
      (extractStridedSlice S16x1x1024 ![0, 0, 0] md slices_S16x6x1024_S16x1x1024_0_0_0))

theorem normed_apply (x : FVec Ideal S16x2048x1024 .f32) (md : FVec Ideal S16x6x1024 .f32) (g : FVec Ideal S1024 .f32)
    (b : Fin 16) (s : Fin 2048) (d : Fin 1024) :
    normed x md g (ix3 b s d) = Norm.row (fun k => x (ix3 b s k)) (fun k => g (ix1 k))
      (fun k => md (ix3 b 1 k)) (fun k => md (ix3 b 0 k)) d := by
  unfold Norm.row Norm.meanSq
  pointwise [normed]

theorem rows_apply (y : FVec Ideal S16x2048x1024 .f32) (w : FVec Ideal S1024x4864 .f32) (r : Fin 32768) (j : Fin 4864) :
    shapeCast S32768x4864 (Host.dotGeneral dot_S16x2048x1024_S1024x4864_S16x2048x4864_2_0_01_1_n_n none y w)
      shapeCasts_S16x2048x4864_S32768x4864 (ix2 r j)
    = ∑ d, y (ix3 ⟨r.val / 2048, by omega⟩ ⟨r.val % 2048, by omega⟩ d) * w (ix2 d j) := by
  pointwise

theorem x_apply (x : FVec Ideal S32768x1024 .f32) (b : Fin 16) (s : Fin 2048) (d : Fin 1024) :
    shapeCast S16x2048x1024 x shapeCasts_S32768x1024_S16x2048x1024 (ix3 b s d) = x (ix2 ⟨b.val * 2048 + s.val, by omega⟩ d) := by
  pointwise

/-- The reference's array is the product of the normalised and modulated rows with the weights. -/
theorem ref_eq (x : FVec Ideal S32768x1024 .f32) (md : FVec Ideal S16x6x1024 .f32) (g : FVec Ideal S1024 .f32)
    (w : FVec Ideal S1024x4864 .bf16) :
    truncf .bf16 (shapeCast S32768x4864 (Host.dotGeneral dot_S16x2048x1024_S1024x4864_S16x2048x4864_2_0_01_1_n_n none
        (normed (shapeCast S16x2048x1024 x shapeCasts_S32768x1024_S16x2048x1024) md g) (extf .f32 w bitsLt_bf16_f32))
      shapeCasts_S16x2048x4864_S32768x4864) bitsLt_bf16_f32
    = fun i : S32768x4864.Idx => Norm.proj x md g w (i 0) (i 1) := by
  funext i
  obtain ⟨r, j, rfl⟩ : ∃ (r : Fin 32768) (j : Fin 4864), i = ix2 r j := ⟨i 0, i 1, eq_ix2 i⟩
  refine (rows_apply _ _ r j).trans ?_
  have hr : r.val / 2048 * 2048 + r.val % 2048 = r.val := by omega
  simp only [normed_apply, x_apply, hr, Norm.proj, ix2_0, ix2_1]
  rfl

variable (m : (ℓ : Loc nD τ sig) → Buf (Elt Ideal) ℓ) (ρ : Dev nD → PrngReg)

abbrev G (c : Dev nD) : Buf (Elt Ideal) ((c : Thread nD τ).loc main_v25) :=
  fun i : S32768x4864.Idx => Norm.proj (m ((c : Thread nD τ).loc main_arg0)) (m ((c : Thread nD τ).loc main_arg1))
    (m ((c : Thread nD τ).loc main_arg2)) (m ((c : Thread nD τ).loc main_arg3)) (i 0) (i 1)

/-- The reference's run: its result is the same function of its arguments. -/
theorem run : θ_run defs (onTc (τ := τ) (main (F := Ideal))) ⟨m, fun _ => 0, ρ⟩ fun r => ∀ c : Dev nD,
      r.2.mem ((c : Thread nD τ).loc main_v25) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (ref_eq _ _ _ _), (h c).2⟩) (Value.run m ρ)

end Cert.InProjRefIdeal.RefValue

/-! ## The claims -/

namespace Cert.Proof.InProjClaims

theorem frame_k : Cert.quiescent_InProj := fun m ρ _ => Cert.InProj.Gen.frame m ρ

theorem frame_i : Cert.quiescent_InProjIdeal := fun m ρ _ => Cert.InProjIdeal.Gen.frame m ρ

theorem frame_r : Cert.quiescent_InProjRefIdeal := fun m ρ _ =>
  (θ_run Cert.InProjRefIdeal.defs _ _).mono (fun r h => ⟨fun c => (h c).2,
      Idealize.ShloMosaic.sem_eq_zero_of_no_sems (by decide) r.2⟩)
    (Cert.InProjRefIdeal.Value.run (F := Ideal) m ρ)

theorem algebraic : Cert.algebraic_InProjIdeal_InProjRefIdeal := fun m ρ m' ρ' _ hag =>
  ⟨fun c => Cert.InProjIdeal.RefValue.G m c, Cert.InProjIdeal.RefValue.run m ρ,
    (θ_run _ _ _).mono (fun _ h c => ⟨(h c).1.trans (by
      unfold Cert.InProjRefIdeal.RefValue.G Cert.InProjIdeal.RefValue.G
      rw [(hag c).1, (hag c).2.1, (hag c).2.2.1, (hag c).2.2.2]), (h c).2⟩)
      (Cert.InProjRefIdeal.RefValue.run m' ρ')⟩

end Cert.Proof.InProjClaims

end
-- ==== Proof.InDilValue.lean ====
/-
  The input projection of the dilated branch: what the call's blocks hold, that the array left is that function of the
  arguments, and that the reference computes the same.
-/
module

public import proofs.«01_k».proof.Defs
public import proofs.«01_k».proof.Proof.InProjValue
public import proofs.«01_k».proof.Proof.Gen.InDil.Frame
public import proofs.«01_k».proof.Proof.Gen.InDilIdeal.Value
public import proofs.«01_k».proof.Proof.Gen.InDilRefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InDilIdeal.RefValue

open Cert.InDilIdeal Cert.InDilIdeal.Gen

/-- One block of the normalised rows. -/
theorem pay1_apply (v8 : FVec Ideal S1x6x1024 .f32) (v10 : FVec Ideal S1024x1024 .f32) (v11 : FVec Ideal S1x1024 .f32)
    (r : Fin 1024) (d : Fin 1024) :
    k0_pay1 (F := Ideal) v8 v10 v11 (ix2 r d) = Norm.row (fun k => v10 (ix2 r k)) (fun k => v11 (ix2 0 k))
      (fun k => v8 (ix3 0 1 k)) (fun k => v8 (ix3 0 0 k)) d := by
  unfold Norm.row Norm.meanSq
  pointwise [k0_pay1]

theorem pay2_apply (v3 : FVec Ideal S1024x1024 .bf16) (v4 : FVec Ideal S1024x2304 .bf16) (r : Fin 1024) (j : Fin 2304) :
    k0_pay2 (F := Ideal) v3 v4 (ix2 r j) = ∑ d, v3 (ix2 r d) * v4 (ix2 d j) := by
  pointwise [k0_pay2]

variable (m : (ℓ : Loc nD τ sig) → Buf (Elt Ideal) ℓ) (ρ : Dev nD → PrngReg)

abbrev G (c : Dev nD) : Buf (Elt Ideal) ((c : Thread nD τ).loc main_v1) :=
  fun i : S32768x2304.Idx => Norm.proj (m ((c : Thread nD τ).loc main_arg0)) (m ((c : Thread nD τ).loc main_arg1))
    (m ((c : Thread nD τ).loc main_arg2)) (m ((c : Thread nD τ).loc main_arg3)) (i 0) (i 1)

theorem idx : ∀ t : Fin grid0.N, win0_0.index t = ![t.val, 0] ∧ win0_1.index t = ![t.val / 2, 0, 0]
    ∧ win0_2.index t = ![0, 0] ∧ win0_3.index t = ![0, 0] ∧ win0_4.index t = ![t.val, 0] := by decide +kernel

/-- Block `t` of the rows is rows `1024 t …` of the array. -/
theorem x_read (c : Dev nD) (t : Fin cfg0.N) (r : Fin 1024) (k : Fin 1024) (h : 1024 * t.val + r.val < 32768) :
    iblk m c 0 t (ix2 r k) = m ((c : Thread nD τ).loc main_arg0) (ix2 ⟨1024 * t.val + r.val, h⟩ k) := by
  blk_ext [iblk, V, idx t]

/-- The conditioning's block at point `t` is that of batch entry `t / 2`. -/
theorem md_read (c : Dev nD) (t : Fin cfg0.N) (s : Fin 6) (k : Fin 1024) (h : t.val / 2 < 16) :
    iblk m c 1 t (ix3 0 s k) = m ((c : Thread nD τ).loc main_arg1) (ix3 ⟨t.val / 2, h⟩ s k) := by
  blk_ext [iblk, V, idx t]

/-- The gain's block is the whole gain. -/
theorem g_read (c : Dev nD) (t : Fin cfg0.N) (k : Fin 1024) :
    iblk m c 2 t (ix2 0 k) = m ((c : Thread nD τ).loc main_arg2) (ix1 k) := by
  blk_simp [iblk, idx t]
  entry_read
  pointwise
  blk_ext [idx t]

/-- The weights' block is the whole array. -/
theorem w_read (c : Dev nD) (t : Fin cfg0.N) (d : Fin 1024) (j : Fin 2304) :
    iblk m c 3 t (ix2 d j) = m ((c : Thread nD τ).loc main_arg3) (ix2 d j) := by
  blk_ext [iblk, V, idx t]

theorem final (c : Dev nD) : (dats m 0 c).arrAt 4 cfg0.N = G m c := by
  refine (dats m 0 c).arrAt_eq_of_covers 4 _ (by decide +kernel) fun t hf y => ?_
  have ht : t.val < 32 := t.isLt
  blk_simp
  rw [after0_4]
  unfold outsAt0
  frame_out
  obtain ⟨r, j, rfl⟩ : ∃ (r : Fin 1024) (j : Fin 2304), y = ix2 r j := ⟨y 0, y 1, eq_ix2 y⟩
  have e : ((View.whole main_v1).slice (win0_4.rect t)).emb (ix2 r j) = ix2 ⟨1024 * t.val + r.val, by omega⟩ j := by
    blk_ext [idx t]
  rw [pay2_apply, e]
  have hb : (1024 * t.val + r.val) / 2048 = t.val / 2 := by omega
  simp only [pay1_apply, x_read m c t r _ (by omega), md_read m c t _ _ (by omega), g_read, w_read, G, Norm.proj, hb,
    ix2_0, ix2_1]

/-- The kernel's run: its result is `G` of the arguments, which are unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.InDilIdeal.RefValue

namespace Cert.InDilRefIdeal.RefValue

open Cert.InDilRefIdeal Cert.InDilRefIdeal.Gen
open Cert.InProjRefIdeal.RefValue (normed normed_apply x_apply)

theorem rows_apply (y : FVec Ideal S16x2048x1024 .f32) (w : FVec Ideal S1024x2304 .f32) (r : Fin 32768) (j : Fin 2304) :
    shapeCast S32768x2304 (Host.dotGeneral dot_S16x2048x1024_S1024x2304_S16x2048x2304_2_0_01_1_n_n none y w)
      shapeCasts_S16x2048x2304_S32768x2304 (ix2 r j)
    = ∑ d, y (ix3 ⟨r.val / 2048, by omega⟩ ⟨r.val % 2048, by omega⟩ d) * w (ix2 d j) := by
  pointwise

/-- The reference's array is the product of the normalised and modulated rows with the weights. -/
theorem ref_eq (x : FVec Ideal S32768x1024 .f32) (md : FVec Ideal S16x6x1024 .f32) (g : FVec Ideal S1024 .f32)
    (w : FVec Ideal S1024x2304 .bf16) :
    shapeCast S32768x2304 (Host.dotGeneral dot_S16x2048x1024_S1024x2304_S16x2048x2304_2_0_01_1_n_n none
        (normed (shapeCast S16x2048x1024 x shapeCasts_S32768x1024_S16x2048x1024) md g) (extf .f32 w bitsLt_bf16_f32))
      shapeCasts_S16x2048x2304_S32768x2304
    = fun i : S32768x2304.Idx => Norm.proj x md g w (i 0) (i 1) := by
  funext i
  obtain ⟨r, j, rfl⟩ : ∃ (r : Fin 32768) (j : Fin 2304), i = ix2 r j := ⟨i 0, i 1, eq_ix2 i⟩
  refine (rows_apply _ _ r j).trans ?_
  have hr : r.val / 2048 * 2048 + r.val % 2048 = r.val := by omega
  simp only [normed_apply, x_apply, hr, Norm.proj, ix2_0, ix2_1]
  rfl

variable (m : (ℓ : Loc nD τ sig) → Buf (Elt Ideal) ℓ) (ρ : Dev nD → PrngReg)

abbrev G (c : Dev nD) : Buf (Elt Ideal) ((c : Thread nD τ).loc main_v24) :=
  fun i : S32768x2304.Idx => Norm.proj (m ((c : Thread nD τ).loc main_arg0)) (m ((c : Thread nD τ).loc main_arg1))
    (m ((c : Thread nD τ).loc main_arg2)) (m ((c : Thread nD τ).loc main_arg3)) (i 0) (i 1)

/-- The reference's run: its result is the same function of its arguments. -/
theorem run : θ_run defs (onTc (τ := τ) (main (F := Ideal))) ⟨m, fun _ => 0, ρ⟩ fun r => ∀ c : Dev nD,
      r.2.mem ((c : Thread nD τ).loc main_v24) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (ref_eq _ _ _ _), (h c).2⟩) (Value.run m ρ)

end Cert.InDilRefIdeal.RefValue

/-! ## The claims -/

namespace Cert.Proof.InDilClaims

theorem frame_k : Cert.quiescent_InDil := fun m ρ _ => Cert.InDil.Gen.frame m ρ

theorem frame_i : Cert.quiescent_InDilIdeal := fun m ρ _ => Cert.InDilIdeal.Gen.frame m ρ

theorem frame_r : Cert.quiescent_InDilRefIdeal := fun m ρ _ =>
  (θ_run Cert.InDilRefIdeal.defs _ _).mono (fun r h => ⟨fun c => (h c).2,
      Idealize.ShloMosaic.sem_eq_zero_of_no_sems (by decide) r.2⟩)
    (Cert.InDilRefIdeal.Value.run (F := Ideal) m ρ)

theorem algebraic : Cert.algebraic_InDilIdeal_InDilRefIdeal := fun m ρ m' ρ' _ hag =>
  ⟨fun c => Cert.InDilIdeal.RefValue.G m c, Cert.InDilIdeal.RefValue.run m ρ,
    (θ_run _ _ _).mono (fun _ h c => ⟨(h c).1.trans (by
      unfold Cert.InDilRefIdeal.RefValue.G Cert.InDilIdeal.RefValue.G
      rw [(hag c).1, (hag c).2.1, (hag c).2.2.1, (hag c).2.2.2]), (h c).2⟩)
      (Cert.InDilRefIdeal.RefValue.run m' ρ')⟩

end Cert.Proof.InDilClaims

end
-- ==== Proof.MergeValue.lean ====
/-
  The merge of the three branches: the dilated groups' outputs mixed by the softmax of their logarithms, each branch
  projected and gated, the output projection and the residual; that the array left is that function of the arguments,
  and that the reference computes the same where the logarithms are finite.
-/
module

public import proofs.«01_k».proof.Defs
public import proofs.«01_k».proof.Proof.Softmax
public import proofs.«01_k».proof.Proof.Gen.Merge.Frame
public import proofs.«01_k».proof.Proof.Gen.MergeIdeal.Value
public import proofs.«01_k».proof.Proof.Gen.MergeRefIdeal.Run
public import proofs.«01_k».proof.Proof.Gen.Pre_finite_lse
public import Idealize.ShloMosaic.Lib.Pointwise
public import Idealize.ShloMosaic.Lib.Pipeline.ValueKit
public import Idealize.ShloMosaic.Lib.Claim
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.MergeIdeal.RefValue

open Cert.MergeIdeal Cert.MergeIdeal.Gen

theorem pay1_apply (v53 v56 : FVec Ideal S512x1024 .f32) (v57 : FVec Ideal S512x256 .bf16) (v59 : FVec Ideal S256x1024 .bf16)
    (v63 : FVec Ideal S512x1024 .bf16) (v66 : FVec Ideal S512x512 .bf16) (v67 : FVec Ideal S512x1024 .bf16)
    (v73 : FVec Ideal S1024x1024 .bf16) (v76 : FVec Ideal S512x1024 .f32) (v77 : FVec Ideal S1x6x1024 .f32)
    (r : Fin 512) (j : Fin 1024) :
    k0_pay1 (F := Ideal) v53 v56 v57 v59 v63 v66 v67 v73 v76 v77 (ix2 r j) = v76 (ix2 r j) + v77 (ix3 0 2 j)
      * ∑ c : Fin 1024, (v53 (ix2 r c) + v56 (ix2 r c) * (∑ d : Fin 256, v57 (ix2 r d) * v59 (ix2 d c))
        + Ideal.logistic (v63 (ix2 r c)) * ∑ d : Fin 512, v66 (ix2 r d) * v67 (ix2 d c)) * v73 (ix2 c j) := by
  pointwise [k0_pay1]

theorem pay11_apply (v46 : FVec Ideal S512x1024 .bf16) (v49 : FVec Ideal S512x512 .bf16) (v50 : FVec Ideal S512x1024 .bf16)
    (r : Fin 512) (c : Fin 1024) : k0_pay11 (F := Ideal) v46 v49 v50 (ix2 r c)
      = Ideal.logistic (v46 (ix2 r c)) * ∑ d : Fin 512, v49 (ix2 r d) * v50 (ix2 d c) := by
  pointwise [k0_pay11]

theorem pay12_apply (v : FVec Ideal S512x1024 .bf16) (r : Fin 512) (c : Fin 1024) :
    k0_pay12 (F := Ideal) v (ix2 r c) = Ideal.logistic (v (ix2 r c)) := by
  pointwise [k0_pay12]

theorem pay14_apply (v : FVec Ideal S256x1024 .bf16) (r : Fin 256) (c : Fin 1024) :
    k0_pay14 (F := Ideal) v (ix2 r c) = v (ix2 r c) := by
  pointwise [k0_pay14]

/-- Lane `d` of row `r` of a block whose two halves stand side by side. -/
def lane (x : FVec Ideal S1x2x512x128 .f32) (r : Fin 512) (d : Fin 256) : EReal :=
  x (ix4 0 ⟨d.val / 128, by omega⟩ r ⟨d.val % 128, by omega⟩)

/-- The first of a block's two halves, and the second. -/
abbrev fst (x : FVec Ideal S1x2x512x128 .f32) : Vec Ideal S1x1x512x128 .f32 :=
  View.ld x (Rect.unit (s := S1x2x512x128) ![0, 0, 0, 0] S1x1x512x128.size inb_S1x2x512x128_S1x1x512x128_0_0_0_0)
abbrev snd (x : FVec Ideal S1x2x512x128 .f32) : Vec Ideal S1x1x512x128 .f32 :=
  View.ld x (Rect.unit (s := S1x2x512x128) ![0, 1, 0, 0] S1x1x512x128.size inb_S1x2x512x128_S1x1x512x128_0_1_0_0)

theorem pay2_apply (x : FVec Ideal S1x2x512x128 .f32) (r : Fin 512) (d : Fin 256) :
    k0_pay2 (F := Ideal) (fst x) (snd x) (ix2 r d) = lane x r d := by
  unfold lane
  pointwise [k0_pay2]
  split
  · pointwise [fst]
    refine congrArg x ?_
    rw [show (⟨d.val / 128, by omega⟩ : Fin 2) = 0 from Fin.ext (by show d.val / 128 = 0; omega),
      show (⟨d.val % 128, by omega⟩ : Fin 128) = ⟨d.val, by omega⟩ from Fin.ext (by show d.val % 128 = d.val; omega)]
  · pointwise [snd]
    refine congrArg x ?_
    rw [show (⟨d.val / 128, by omega⟩ : Fin 2) = 1 from Fin.ext (by show d.val / 128 = 1; omega),
      show (⟨d.val % 128, by omega⟩ : Fin 128) = ⟨d.val - 128, by omega⟩ from Fin.ext (by show d.val % 128 = d.val - 128; omega)]

/-- The three groups' values in lane `d` of row `r`, merged. -/
theorem pay13_apply (l0 l1 l2 o0 o1 o2 : FVec Ideal S1x2x512x128 .f32) (r : Fin 512) (d : Fin 256) :
    k0_pay13 (F := Ideal) (k0_pay6 (fst l0) (snd l0) (fst l1) (snd l1) (fst l2) (snd l2))
      (k0_pay7 (fst l0) (snd l0) (fst l1) (snd l1) (fst l2) (snd l2))
      (k0_pay8 (fst l0) (snd l0) (fst l1) (snd l1) (fst l2) (snd l2)) (k0_pay9 (fst o0)) (k0_pay10 (snd o0))
      (fst o1) (snd o1) (fst o2) (snd o2) (ix2 r d)
      = Softmax.mix ![lane l0 r d, lane l1 r d, lane l2 r d] ![lane o0 r d, lane o1 r d, lane o2 r d] := by
  rw [← Softmax.mix_three]
  show Ideal.div (Ideal.exp (k0_pay2 (F := Ideal) (fst l0) (snd l0) (ix2 r d) - max (max (k0_pay2 (F := Ideal) (fst l0) (snd l0) (ix2 r d)) (k0_pay2 (F := Ideal) (fst l1) (snd l1) (ix2 r d))) (k0_pay2 (F := Ideal) (fst l2) (snd l2) (ix2 r d))) * k0_pay2 (F := Ideal) (fst o0) (snd o0) (ix2 r d)
    + Ideal.exp (k0_pay2 (F := Ideal) (fst l1) (snd l1) (ix2 r d) - max (max (k0_pay2 (F := Ideal) (fst l0) (snd l0) (ix2 r d)) (k0_pay2 (F := Ideal) (fst l1) (snd l1) (ix2 r d))) (k0_pay2 (F := Ideal) (fst l2) (snd l2) (ix2 r d))) * k0_pay2 (F := Ideal) (fst o1) (snd o1) (ix2 r d)
    + Ideal.exp (k0_pay2 (F := Ideal) (fst l2) (snd l2) (ix2 r d) - max (max (k0_pay2 (F := Ideal) (fst l0) (snd l0) (ix2 r d)) (k0_pay2 (F := Ideal) (fst l1) (snd l1) (ix2 r d))) (k0_pay2 (F := Ideal) (fst l2) (snd l2) (ix2 r d))) * k0_pay2 (F := Ideal) (fst o2) (snd o2) (ix2 r d))
    (Ideal.exp (k0_pay2 (F := Ideal) (fst l0) (snd l0) (ix2 r d) - max (max (k0_pay2 (F := Ideal) (fst l0) (snd l0) (ix2 r d)) (k0_pay2 (F := Ideal) (fst l1) (snd l1) (ix2 r d))) (k0_pay2 (F := Ideal) (fst l2) (snd l2) (ix2 r d)))
    + Ideal.exp (k0_pay2 (F := Ideal) (fst l1) (snd l1) (ix2 r d) - max (max (k0_pay2 (F := Ideal) (fst l0) (snd l0) (ix2 r d)) (k0_pay2 (F := Ideal) (fst l1) (snd l1) (ix2 r d))) (k0_pay2 (F := Ideal) (fst l2) (snd l2) (ix2 r d)))
    + Ideal.exp (k0_pay2 (F := Ideal) (fst l2) (snd l2) (ix2 r d) - max (max (k0_pay2 (F := Ideal) (fst l0) (snd l0) (ix2 r d)) (k0_pay2 (F := Ideal) (fst l1) (snd l1) (ix2 r d))) (k0_pay2 (F := Ideal) (fst l2) (snd l2) (ix2 r d)))) = _
  simp only [pay2_apply]
  rfl

variable (m : (ℓ : Loc nD τ sig) → Buf (Elt Ideal) ℓ) (ρ : Dev nD → PrngReg)

theorem idx : ∀ t : Fin grid0.N, win0_0.index t = ![t.val, 0] ∧ win0_1.index t = ![t.val, 1] ∧ win0_2.index t = ![t.val, 2]
    ∧ win0_3.index t = ![t.val, 0] ∧ win0_4.index t = ![t.val / 4, 0, t.val % 4, 0] ∧ win0_5.index t = ![t.val / 4, 0, t.val % 4, 0]
    ∧ win0_6.index t = ![t.val / 4, 0, t.val % 4, 0] ∧ win0_7.index t = ![t.val / 4, 0, t.val % 4, 0]
    ∧ win0_8.index t = ![t.val / 4, 0, t.val % 4, 0] ∧ win0_9.index t = ![t.val / 4, 0, t.val % 4, 0]
    ∧ win0_10.index t = ![t.val, 0] ∧ win0_11.index t = ![t.val, 0] ∧ win0_12.index t = ![t.val / 4, 0, 0]
    ∧ win0_13.index t = ![0, 0] ∧ win0_14.index t = ![0, 0] ∧ win0_15.index t = ![0, 0] ∧ win0_16.index t = ![0, 0]
    ∧ win0_17.index t = ![t.val, 0] := by decide +kernel

section reads
variable (c : Dev nD) (t : Fin cfg0.N)

theorem gate0_read (r : Fin 512) (j : Fin 1024) (h : 512 * t.val + r.val < 32768) : X0_0 m c t (ix2 r j)
    = m ((c : Thread nD τ).loc main_arg0) (ix2 ⟨512 * t.val + r.val, h⟩ ⟨j.val, by omega⟩) := by
  unfold X0_0 Pipeline.Window.fill
  rw [dif_pos (moved0_0 t _)]
  blk_ext [iblk, V, idx t]

theorem gate1_read (r : Fin 512) (j : Fin 1024) (h : 512 * t.val + r.val < 32768) : X0_1 m c t (ix2 r j)
    = m ((c : Thread nD τ).loc main_arg0) (ix2 ⟨512 * t.val + r.val, h⟩ ⟨1024 + j.val, by omega⟩) := by
  unfold X0_1 Pipeline.Window.fill
  rw [dif_pos (moved0_1 t _)]
  blk_ext [iblk, V, idx t]

theorem gate2_read (r : Fin 512) (j : Fin 1024) (h : 512 * t.val + r.val < 32768) : X0_2 m c t (ix2 r j)
    = m ((c : Thread nD τ).loc main_arg0) (ix2 ⟨512 * t.val + r.val, h⟩ ⟨2048 + j.val, by omega⟩) := by
  unfold X0_2 Pipeline.Window.fill
  rw [dif_pos (moved0_2 t _)]
  blk_ext [iblk, V, idx t]

theorem mla_read (r : Fin 512) (j : Fin 512) (h : 512 * t.val + r.val < 32768) : iblk m c 3 t (ix2 r j)
    = m ((c : Thread nD τ).loc main_arg1) (ix2 ⟨512 * t.val + r.val, h⟩ j) := by
  blk_ext [iblk, V, idx t]

theorem half_read (r : Fin 512) (d : Fin 256) (hb : t.val / 4 < 16) (hs : 512 * (t.val % 4) + r.val < 2048) :
    lane (iblk m c 4 t) r d = m ((c : Thread nD τ).loc main_arg2) (ix4 ⟨t.val / 4, hb⟩ ⟨d.val / 128, by omega⟩ ⟨512 * (t.val % 4) + r.val, hs⟩ ⟨d.val % 128, by omega⟩)
    ∧ lane (iblk m c 5 t) r d = m ((c : Thread nD τ).loc main_arg3) (ix4 ⟨t.val / 4, hb⟩ ⟨d.val / 128, by omega⟩ ⟨512 * (t.val % 4) + r.val, hs⟩ ⟨d.val % 128, by omega⟩)
    ∧ lane (iblk m c 6 t) r d = m ((c : Thread nD τ).loc main_arg4) (ix4 ⟨t.val / 4, hb⟩ ⟨d.val / 128, by omega⟩ ⟨512 * (t.val % 4) + r.val, hs⟩ ⟨d.val % 128, by omega⟩)
    ∧ lane (iblk m c 7 t) r d = m ((c : Thread nD τ).loc main_arg5) (ix4 ⟨t.val / 4, hb⟩ ⟨d.val / 128, by omega⟩ ⟨512 * (t.val % 4) + r.val, hs⟩ ⟨d.val % 128, by omega⟩)
    ∧ lane (iblk m c 8 t) r d = m ((c : Thread nD τ).loc main_arg6) (ix4 ⟨t.val / 4, hb⟩ ⟨d.val / 128, by omega⟩ ⟨512 * (t.val % 4) + r.val, hs⟩ ⟨d.val % 128, by omega⟩)
    ∧ lane (iblk m c 9 t) r d = m ((c : Thread nD τ).loc main_arg7) (ix4 ⟨t.val / 4, hb⟩ ⟨d.val / 128, by omega⟩ ⟨512 * (t.val % 4) + r.val, hs⟩ ⟨d.val % 128, by omega⟩) := by
  unfold lane
  refine ⟨?_, ?_, ?_, ?_, ?_, ?_⟩ <;> blk_ext [iblk, V, idx t]

theorem win_read (r : Fin 512) (j : Fin 512) (h : 512 * t.val + r.val < 32768) : iblk m c 10 t (ix2 r j)
    = m ((c : Thread nD τ).loc main_arg8) (ix2 ⟨512 * t.val + r.val, h⟩ j) := by
  blk_ext [iblk, V, idx t]

theorem x_read (r : Fin 512) (j : Fin 1024) (h : 512 * t.val + r.val < 32768) : iblk m c 11 t (ix2 r j)
    = m ((c : Thread nD τ).loc main_arg9) (ix2 ⟨512 * t.val + r.val, h⟩ j) := by
  blk_ext [iblk, V, idx t]

theorem mod_read (k : Fin 6) (j : Fin 1024) (h : t.val / 4 < 16) : iblk m c 12 t (ix3 0 k j)
    = m ((c : Thread nD τ).loc main_arg10) (ix3 ⟨t.val / 4, h⟩ k j) := by
  blk_ext [iblk, V, idx t]

theorem wm_read (d : Fin 512) (j : Fin 1024) : iblk m c 13 t (ix2 d j) = m ((c : Thread nD τ).loc main_arg11) (ix2 d j) := by
  blk_simp [iblk, idx t]
  entry_read
  pointwise
  blk_ext [idx t]

theorem wd_read (d : Fin 256) (j : Fin 1024) : iblk m c 14 t (ix2 d j) = m ((c : Thread nD τ).loc main_arg12) (ix2 d j) := by
  blk_simp [iblk, idx t]
  entry_read
  pointwise
  blk_ext [idx t]

theorem ww_read (d : Fin 512) (j : Fin 1024) : iblk m c 15 t (ix2 d j) = m ((c : Thread nD τ).loc main_arg13) (ix2 d j) := by
  blk_simp [iblk, idx t]
  entry_read
  pointwise
  blk_ext [idx t]

theorem wo_read (d : Fin 1024) (j : Fin 1024) : iblk m c 16 t (ix2 d j) = m ((c : Thread nD τ).loc main_arg14) (ix2 d j) := by
  blk_simp [iblk, idx t]
  entry_read
  pointwise
  blk_ext [idx t]

end reads

/-- Lane `d` of the merged groups at row `i`. -/
def merged (o0 o1 o2 l0 l1 l2 : FVec Ideal S16x2x2048x128 .f32) (i : Fin 32768) (d : Fin 256) : EReal :=
  let k : S16x2x2048x128.Idx := ix4 ⟨i.val / 2048, by omega⟩ ⟨d.val / 128, by omega⟩ ⟨i.val % 2048, by omega⟩ ⟨d.val % 128, by omega⟩
  Softmax.mix ![l0 k, l1 k, l2 k] ![o0 k, o1 k, o2 k]

/-- The layer's residual sum at row `i`, column `j`. -/
def merge (a0 : FVec Ideal S32768x4864 .bf16) (a1 : FVec Ideal S32768x512 .bf16) (od : Fin 32768 → Fin 256 → EReal)
    (a8 : FVec Ideal S32768x512 .bf16) (a9 : FVec Ideal S32768x1024 .f32) (a10 : FVec Ideal S16x6x1024 .f32)
    (a11 : FVec Ideal S512x1024 .f32) (a12 : FVec Ideal S256x1024 .f32) (a13 : FVec Ideal S512x1024 .f32)
    (a14 : FVec Ideal S1024x1024 .f32) (i : Fin 32768) (j : Fin 1024) : EReal :=
  a9 (ix2 i j) + a10 (ix3 ⟨i.val / 2048, by omega⟩ 2 j) * ∑ c : Fin 1024,
    (Ideal.logistic (a0 (ix2 i ⟨c.val, by omega⟩)) * (∑ d : Fin 512, a1 (ix2 i d) * a11 (ix2 d c))
      + Ideal.logistic (a0 (ix2 i ⟨1024 + c.val, by omega⟩)) * (∑ d : Fin 256, od i d * a12 (ix2 d c))
      + Ideal.logistic (a0 (ix2 i ⟨2048 + c.val, by omega⟩)) * (∑ d : Fin 512, a8 (ix2 i d) * a13 (ix2 d c))) * a14 (ix2 c j)

abbrev G (c : Dev nD) : Buf (Elt Ideal) ((c : Thread nD τ).loc main_v4) := fun i : S32768x1024.Idx =>
  merge (m ((c : Thread nD τ).loc main_arg0)) (m ((c : Thread nD τ).loc main_arg1))
    (merged (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (i 0) (i 1)

theorem final (c : Dev nD) : (dats m 0 c).arrAt 17 cfg0.N = G m c := by
  refine (dats m 0 c).arrAt_eq_of_covers 17 _ (by decide +kernel) fun t hf y => ?_
  have ht : t.val < 64 := t.isLt
  blk_simp
  rw [after0_17]
  unfold outsAt0
  frame_out
  obtain ⟨r, j, rfl⟩ : ∃ (r : Fin 512) (j : Fin 1024), y = ix2 r j := ⟨y 0, y 1, eq_ix2 y⟩
  have e : ((View.whole main_v4).slice (win0_17.rect t)).emb (ix2 r j) = ix2 ⟨512 * t.val + r.val, by omega⟩ j := by
    blk_ext [idx t]
  rw [e, pay1_apply]
  simp only [pay11_apply, pay12_apply, pay14_apply, pay13_apply]
  unfold G merge merged
  simp only [ix2_0, ix2_1]
  rw [x_read m c t r j (by omega), mod_read m c t 2 j (by omega)]
  have hd : (512 * t.val + r.val) / 2048 = t.val / 4 := by omega
  have hm : (512 * t.val + r.val) % 2048 = 512 * (t.val % 4) + r.val := by omega
  simp only [hd, hm]
  refine congrArg _ (congrArg _ (Finset.sum_congr rfl fun k _ => ?_))
  rw [wo_read, gate0_read m c t r k (by omega), gate1_read m c t r k (by omega), gate2_read m c t r k (by omega)]
  simp only [mla_read m c t r _ (show 512 * t.val + r.val < 32768 by omega), win_read m c t r _ (show 512 * t.val + r.val < 32768 by omega),
    wm_read, wd_read, ww_read, (half_read m c t r _ (show t.val / 4 < 16 by omega) (show 512 * (t.val % 4) + r.val < 2048 by omega)).1,
    (half_read m c t r _ (show t.val / 4 < 16 by omega) (show 512 * (t.val % 4) + r.val < 2048 by omega)).2.1,
    (half_read m c t r _ (show t.val / 4 < 16 by omega) (show 512 * (t.val % 4) + r.val < 2048 by omega)).2.2.1,
    (half_read m c t r _ (show t.val / 4 < 16 by omega) (show 512 * (t.val % 4) + r.val < 2048 by omega)).2.2.2.1,
    (half_read m c t r _ (show t.val / 4 < 16 by omega) (show 512 * (t.val % 4) + r.val < 2048 by omega)).2.2.2.2.1,
    (half_read m c t r _ (show t.val / 4 < 16 by omega) (show 512 * (t.val % 4) + r.val < 2048 by omega)).2.2.2.2.2]

/-- The kernel's run: its result is `G` of the arguments, which are unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun _ h c => ⟨(h c).1.trans (final m c), (h c).2⟩) (Value.run_blocks m ρ)

end Cert.MergeIdeal.RefValue

namespace Cert.MergeRefIdeal.RefValue

open Cert.MergeRefIdeal Cert.MergeRefIdeal.Gen

/-- Three arrays, one above the other. -/
def stack (a b c : FVec Ideal S16x2x2048x128 .f32) : FVec Ideal S3x16x2x2048x128 .f32 :=
  concatenate S3x16x2x2048x128 0
    [⟨S1x16x2x2048x128, broadcastInDim S1x16x2x2048x128 ![1, 2, 3, 4] bcast_S16x2x2048x128_S1x16x2x2048x128_1_2_3_4 a⟩,
     ⟨S1x16x2x2048x128, broadcastInDim S1x16x2x2048x128 ![1, 2, 3, 4] bcast_S16x2x2048x128_S1x16x2x2048x128_1_2_3_4 b⟩,
     ⟨S1x16x2x2048x128, broadcastInDim S1x16x2x2048x128 ![1, 2, 3, 4] bcast_S16x2x2048x128_S1x16x2x2048x128_1_2_3_4 c⟩]
    concatenates_S1x16x2x2048x128_S1x16x2x2048x128_S1x16x2x2048x128_S3x16x2x2048x128_d0

/-- One array, repeated in each of the three places. -/
def spread (x : FVec Ideal S16x2x2048x128 .f32) : FVec Ideal S3x16x2x2048x128 .f32 :=
  broadcastInDim S3x16x2x2048x128 ![0, 1, 2, 3, 4] bcast_S1x16x2x2048x128_S3x16x2x2048x128_0_1_2_3_4
    (broadcastInDim S1x16x2x2048x128 ![1, 2, 3, 4] bcast_S16x2x2048x128_S1x16x2x2048x128_1_2_3_4 x)

/-- The exponentials of the scores less the largest of the three. -/
def expo (x : FVec Ideal S3x16x2x2048x128 .f32) : FVec Ideal S3x16x2x2048x128 .f32 :=
  Host.exp (subf x (spread (maximumf (broadcastInDim S16x2x2048x128 ![] bcast_S_S16x2x2048x128 (constant S_ .f32 0xFF800000#32))
    (Host.reduce FloatOps.maximumf x (constant S_ .f32 0xFF800000#32) reducesTo_S3x16x2x2048x128_S16x2x2048x128_d0 h_S_))))

/-- The three arrays `o` averaged with weights `p`, divided by their sum. -/
def mean (p o : FVec Ideal S3x16x2x2048x128 .f32) : FVec Ideal S16x2x2048x128 .f32 :=
  Host.reduceAdd (mulf (Host.divf p (spread (Host.reduceAdd p (constant S_ .f32 0x00000000#32)
    reducesTo_S3x16x2x2048x128_S16x2x2048x128_d0 h_S_))) o) (constant S_ .f32 0x00000000#32)
    reducesTo_S3x16x2x2048x128_S16x2x2048x128_d0 h_S_

/-- The two halves side by side, one row per token. -/
def rows (x : FVec Ideal S16x2x2048x128 .f32) : FVec Ideal S32768x256 .f32 :=
  shapeCast S32768x256 (transpose S16x2048x2x128 [0, 2, 1, 3] x transposes_S16x2x2048x128_S16x2048x2x128_0_2_1_3)
    shapeCasts_S16x2048x2x128_S32768x256

/-- The three gates, side by side. -/
def gates (x : FVec Ideal S32768x4864 .bf16) : FVec Ideal S32768x3072 .f32 :=
  Host.divf (broadcastInDim S32768x3072 ![] bcast_S_S32768x3072 (constant S_ .f32 0x3F800000#32))
    (addf (broadcastInDim S32768x3072 ![] bcast_S_S32768x3072 (constant S_ .f32 0x3F800000#32))
      (Host.exp (Host.negf (extf .f32 (extractStridedSlice S32768x3072 ![0, 0] x slices_S32768x4864_S32768x3072_0_0) bitsLt_bf16_f32))))

/-- The three branches, each projected and gated, and their sum. -/
def branches (g : FVec Ideal S32768x3072 .f32) (a1 a8 : FVec Ideal S32768x512 .bf16) (od : FVec Ideal S32768x256 .f32)
    (a11 a13 : FVec Ideal S512x1024 .f32) (a12 : FVec Ideal S256x1024 .f32) : FVec Ideal S32768x1024 .f32 :=
  addf (addf
    (mulf (extractStridedSlice S32768x1024 ![0, 0] g slices_S32768x3072_S32768x1024_0_0)
      (Host.dotGeneral dot_S32768x512_S512x1024_S32768x1024_1_0_0_1_n_n none (extf .f32 a1 bitsLt_bf16_f32) a11))
    (mulf (extractStridedSlice S32768x1024 ![0, 1024] g slices_S32768x3072_S32768x1024_0_1024)
      (Host.dotGeneral dot_S32768x256_S256x1024_S32768x1024_1_0_0_1_n_n none od a12)))
    (mulf (extractStridedSlice S32768x1024 ![0, 2048] g slices_S32768x3072_S32768x1024_0_2048)
      (Host.dotGeneral dot_S32768x512_S512x1024_S32768x1024_1_0_0_1_n_n none (extf .f32 a8 bitsLt_bf16_f32) a13))

/-- The residual and the gated output projection. -/
def out (y : FVec Ideal S32768x1024 .f32) (a9 : FVec Ideal S32768x1024 .f32) (a10 : FVec Ideal S16x6x1024 .f32)
    (a14 : FVec Ideal S1024x1024 .f32) : FVec Ideal S32768x1024 .f32 :=
  shapeCast S32768x1024 (addf (shapeCast S16x2048x1024 a9 shapeCasts_S32768x1024_S16x2048x1024)
    (mulf (broadcastInDim S16x2048x1024 ![0, 1, 2] bcast_S16x1x1024_S16x2048x1024_0_1_2
        (extractStridedSlice S16x1x1024 ![0, 2, 0] a10 slices_S16x6x1024_S16x1x1024_0_2_0))
      (shapeCast S16x2048x1024 (Host.dotGeneral dot_S32768x1024_S1024x1024_S32768x1024_1_0_0_1_n_n none y a14)
        shapeCasts_S32768x1024_S16x2048x1024))) shapeCasts_S16x2048x1024_S32768x1024

section

variable (b : Fin 16) (h : Fin 2) (s : Fin 2048) (d : Fin 128)

theorem stack_apply (x y z : FVec Ideal S16x2x2048x128 .f32) (k : Fin 3) :
    stack x y z (ix5 k b h s d) = ![x (ix4 b h s d), y (ix4 b h s d), z (ix4 b h s d)] k := by
  fin_cases k <;> pointwise [stack]

theorem spread_apply (x : FVec Ideal S16x2x2048x128 .f32) (k : Fin 3) : spread x (ix5 k b h s d) = x (ix4 b h s d) := by
  pointwise [spread]

theorem max_apply (x : FVec Ideal S3x16x2x2048x128 .f32) :
    Host.reduce FloatOps.maximumf x (constant S_ .f32 0xFF800000#32) reducesTo_S3x16x2x2048x128_S16x2x2048x128_d0 h_S_ (ix4 b h s d)
      = Softmax.top fun u : Fin 3 => x (ix5 u b h s d) := by
  rw [show (Softmax.top fun u : Fin 3 => x (ix5 u b h s d))
    = Finset.univ.fold max (Ideal.ofBits .f32 0xFF800000#32) fun u : Fin 3 => x (ix5 u b h s d) by
      rw [Softmax.ofBits_negInf]; rfl]
  pointwise

theorem most_apply (R : FVec Ideal S16x2x2048x128 .f32) :
    maximumf (broadcastInDim S16x2x2048x128 ![] bcast_S_S16x2x2048x128 (constant (F := Ideal) S_ .f32 0xFF800000#32)) R (ix4 b h s d)
      = max (Ideal.ofBits .f32 0xFF800000#32) (R (ix4 b h s d)) := by
  pointwise

theorem expo_apply (x : FVec Ideal S3x16x2x2048x128 .f32) (k : Fin 3) : expo x (ix5 k b h s d)
    = Ideal.exp (x (ix5 k b h s d) - max ⊥ (Softmax.top fun u : Fin 3 => x (ix5 u b h s d))) := by
  show Ideal.exp (x (ix5 k b h s d) - spread _ (ix5 k b h s d)) = _
  rw [spread_apply, most_apply, max_apply, Softmax.ofBits_negInf]

theorem mean_apply (p o : FVec Ideal S3x16x2x2048x128 .f32) : mean p o (ix4 b h s d)
    = ∑ k : Fin 3, Ideal.div (p (ix5 k b h s d)) (∑ u : Fin 3, p (ix5 u b h s d)) * o (ix5 k b h s d) := by
  pointwise [mean, spread]

end

theorem rows_apply (x : FVec Ideal S16x2x2048x128 .f32) (i : Fin 32768) (d : Fin 256) : rows x (ix2 i d)
    = x (ix4 ⟨i.val / 2048, by omega⟩ ⟨d.val / 128, by omega⟩ ⟨i.val % 2048, by omega⟩ ⟨d.val % 128, by omega⟩) := by
  pointwise [rows]

theorem gates_apply (x : FVec Ideal S32768x4864 .bf16) (i : Fin 32768) (j : Fin 3072) :
    gates x (ix2 i j) = Ideal.logistic (x (ix2 i ⟨j.val, by omega⟩)) := by
  unfold Ideal.logistic
  rw [← Ideal.ofBits_one_f32]
  pointwise [gates]

theorem branches_apply (g : FVec Ideal S32768x3072 .f32) (a1 a8 : FVec Ideal S32768x512 .bf16) (od : FVec Ideal S32768x256 .f32)
    (a11 a13 : FVec Ideal S512x1024 .f32) (a12 : FVec Ideal S256x1024 .f32) (i : Fin 32768) (c : Fin 1024) :
    branches g a1 a8 od a11 a13 a12 (ix2 i c)
      = g (ix2 i ⟨c.val, by omega⟩) * (∑ d : Fin 512, a1 (ix2 i d) * a11 (ix2 d c))
        + g (ix2 i ⟨1024 + c.val, by omega⟩) * (∑ d : Fin 256, od (ix2 i d) * a12 (ix2 d c))
        + g (ix2 i ⟨2048 + c.val, by omega⟩) * (∑ d : Fin 512, a8 (ix2 i d) * a13 (ix2 d c)) := by
  pointwise [branches]

theorem out_apply (y : FVec Ideal S32768x1024 .f32) (a9 : FVec Ideal S32768x1024 .f32) (a10 : FVec Ideal S16x6x1024 .f32)
    (a14 : FVec Ideal S1024x1024 .f32) (i : Fin 32768) (j : Fin 1024) : out y a9 a10 a14 (ix2 i j)
      = a9 (ix2 i j) + a10 (ix3 ⟨i.val / 2048, by omega⟩ 2 j) * ∑ c : Fin 1024, y (ix2 i c) * a14 (ix2 c j) := by
  pointwise [out]

/-- The reference's stages, composed, are the kernel's function. -/
theorem ref_eq (a0 : FVec Ideal S32768x4864 .bf16) (a1 : FVec Ideal S32768x512 .bf16) (a2 a3 a4 a5 a6 a7 : FVec Ideal S16x2x2048x128 .f32)
    (a8 : FVec Ideal S32768x512 .bf16) (a9 : FVec Ideal S32768x1024 .f32) (a10 : FVec Ideal S16x6x1024 .f32)
    (a11 : FVec Ideal S512x1024 .f32) (a12 : FVec Ideal S256x1024 .f32) (a13 : FVec Ideal S512x1024 .f32) (a14 : FVec Ideal S1024x1024 .f32)
    (h5 : ∀ b h s d, ∃ r : ℝ, a5 (ix4 b h s d) = r) (h6 : ∀ b h s d, ∃ r : ℝ, a6 (ix4 b h s d) = r)
    (h7 : ∀ b h s d, ∃ r : ℝ, a7 (ix4 b h s d) = r) :
    out (branches (gates a0) a1 a8 (rows (mean (expo (stack a5 a6 a7)) (stack a2 a3 a4))) a11 a13 a12) a9 a10 a14
      = fun i : S32768x1024.Idx => MergeIdeal.RefValue.merge a0 a1 (MergeIdeal.RefValue.merged a2 a3 a4 a5 a6 a7) a8 a9 a10 a11 a12 a13 a14
        (i 0) (i 1) := by
  have hm : ∀ i d, rows (mean (expo (stack a5 a6 a7)) (stack a2 a3 a4)) (ix2 i d) = MergeIdeal.RefValue.merged a2 a3 a4 a5 a6 a7 i d := by
    intro i d
    rw [rows_apply, mean_apply]
    simp only [expo_apply, stack_apply]
    refine Softmax.mix_eq _ _ fun j => ?_
    fin_cases j
    · exact h5 _ _ _ _
    · exact h6 _ _ _ _
    · exact h7 _ _ _ _
  funext i
  obtain ⟨i, j, rfl⟩ : ∃ (a : Fin 32768) (b : Fin 1024), i = ix2 a b := ⟨i 0, i 1, eq_ix2 i⟩
  rw [out_apply]
  simp only [branches_apply, gates_apply, hm, ix2_0, ix2_1]
  rfl

variable (m : (ℓ : Loc nD τ sig) → Buf (Elt Ideal) ℓ) (ρ : Dev nD → PrngReg)

/-- The reference's run, its result named stage by stage. -/
theorem run : θ_run defs (onTc (τ := τ) (main (F := Ideal))) ⟨m, fun _ => 0, ρ⟩ fun r => ∀ c : Dev nD,
      r.2.mem ((c : Thread nD τ).loc main_v51) = out (branches (gates (m ((c : Thread nD τ).loc main_arg0)))
        (m ((c : Thread nD τ).loc main_arg1)) (m ((c : Thread nD τ).loc main_arg8))
        (rows (mean (expo (stack (m ((c : Thread nD τ).loc main_arg5)) (m ((c : Thread nD τ).loc main_arg6)) (m ((c : Thread nD τ).loc main_arg7))))
          (stack (m ((c : Thread nD τ).loc main_arg2)) (m ((c : Thread nD τ).loc main_arg3)) (m ((c : Thread nD τ).loc main_arg4)))))
        (m ((c : Thread nD τ).loc main_arg11)) (m ((c : Thread nD τ).loc main_arg13)) (m ((c : Thread nD τ).loc main_arg12)))
        (m ((c : Thread nD τ).loc main_arg9)) (m ((c : Thread nD τ).loc main_arg10)) (m ((c : Thread nD τ).loc main_arg14))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun _ h c => ⟨(h c).1, (h c).2⟩) (Value.run m ρ)

end Cert.MergeRefIdeal.RefValue

/-! ## The claims -/

namespace Cert.Proof.MergeClaims

theorem frame_k : Cert.quiescent_Merge := fun m ρ _ => Cert.Merge.Gen.frame m ρ

theorem frame_i : Cert.quiescent_MergeIdeal := fun m ρ _ => Cert.MergeIdeal.Gen.frame m ρ

theorem frame_ip : Cert.quiescent_MergeIdeal_pre_finite_lse := fun m ρ _ => Cert.MergeIdeal.Gen.frame m ρ

theorem frame_r : Cert.quiescent_MergeRefIdeal := fun m ρ _ => (θ_run Cert.MergeRefIdeal.defs _ _).mono
  (fun r h => ⟨fun c => (h c).2, Idealize.ShloMosaic.sem_eq_zero_of_no_sems (by decide) r.2⟩)
  (Cert.MergeRefIdeal.Value.run (F := Ideal) m ρ)

theorem frame_rp : Cert.quiescent_MergeRefIdeal_pre_finite_lse := fun m ρ _ => frame_r m ρ trivial

/-- What the precondition says: every logarithm of a denominator is a real number. -/
theorem finite {a0 a1 a2 a3 a4} (a5 a6 a7 : FVec Ideal MergeIdeal.S16x2x2048x128 .f32) {a8 a9 a10 a11 a12 a13 a14}
    (h : Cert.Pre_finite_lse.fn a0 a1 a2 a3 a4 a5 a6 a7 a8 a9 a10 a11 a12 a13 a14 = fun _ => 1#1) :
    (∀ b h s d, ∃ r : ℝ, a5 (ix4 b h s d) = r) ∧ (∀ b h s d, ∃ r : ℝ, a6 (ix4 b h s d) = r)
      ∧ ∀ b h s d, ∃ r : ℝ, a7 (ix4 b h s d) = r := by
  have h0 := congrFun h ix0
  dsimp only [Cert.Pre_finite_lse.fn] at h0
  have ha := (by decide : ∀ a b : BitVec 1, IntOp.andi a b = 1#1 → a = 1#1 ∧ b = 1#1)
  have h1 := ha _ _ h0
  have h2 := ha _ _ h1.1
  refine ⟨fun b h s d => ?_, fun b h s d => ?_, fun b h s d => ?_⟩
  · have h3 := Host.reduce_andi_all _ _ _ _ _ h2.1 (ix4 b h s d)
    pointwise [Softmax.ofBits_inf] at h3
    exact Softmax.exists_real (Softmax.lt_of_bit h3)
  · have h3 := Host.reduce_andi_all _ _ _ _ _ h2.2 (ix4 b h s d)
    pointwise [Softmax.ofBits_inf] at h3
    exact Softmax.exists_real (Softmax.lt_of_bit h3)
  · have h3 := Host.reduce_andi_all _ _ _ _ _ h1.2 (ix4 b h s d)
    pointwise [Softmax.ofBits_inf] at h3
    exact Softmax.exists_real (Softmax.lt_of_bit h3)

theorem algebraic : Cert.algebraic_MergeIdeal_MergeRefIdeal_pre_finite_lse := fun m ρ m' ρ' hpre hag =>
  ⟨fun c => Cert.MergeIdeal.RefValue.G m c, Cert.MergeIdeal.RefValue.run m ρ,
    (θ_run _ _ _).mono (fun _ h c => ⟨(h c).1.trans (by
      obtain ⟨e0, e1, e2, e3, e4, e5, e6, e7, e8, e9, e10, e11, e12, e13, e14⟩ := hag c
      rw [e0, e1, e2, e3, e4, e5, e6, e7, e8, e9, e10, e11, e12, e13, e14]
      have hf := finite _ _ _ (hpre c)
      exact MergeRefIdeal.RefValue.ref_eq _ _ _ _ _ _ _ _ _ _ _ _ _ _ _ hf.1 hf.2.1 hf.2.2), (h c).2⟩)
      (Cert.MergeRefIdeal.RefValue.run m' ρ')⟩

end Cert.Proof.MergeClaims

end
-- ==== Proof.FfnRun.lean ====
/-
  The experts' feed-forward, one block of 512 rows at a time: what the body leaves of the rows, the weights and the tables on
  each of its three control paths, whatever the tables hold.
-/
module

public import proofs.«01_k».proof.Proof.Gen.FfnIdeal.Skeleton
public import proofs.«01_k».proof.Proof.Gen.FfnIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.FfnIdeal.RefValue

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the run. -/
abbrev Res (F : FTy → Type) [FloatOps F] := MT nD τ sig Unit (Elt F) ℕ (UR sig nD τ) ℕ

/-- The two tables and the two scratch buffers, whole. -/
abbrev expertTab : Memref sig .tc .smem S224 .i32 := Memref.whole main_arg0
abbrev usedTab : Memref sig .tc .smem S1 .i32 := Memref.whole main_arg1
abbrev scrIn : Memref sig .tc .vmem S1024x768 .bf16 := Memref.whole cc0_scratch0
abbrev scrOut : Memref sig .tc .vmem S384x1024 .bf16 := Memref.whole cc0_scratch1

section words
variable (c : Dev nD) (i : grid0.Coords) (T0 : Buf (Elt F) ((c : Thread nD τ).loc main_arg0)) (T1 : Buf (Elt F) ((c : Thread nD τ).loc main_arg1))

/-- The number of used blocks, this block's expert and the previous block's, as the body reads them. -/
abbrev wUsed : BitVec 32 := View.readAt (Elt F) usedTab.view (Rect.unit (s := S1) ![0] S1.size inb_S1_S1_0).toLoadRect T1 (Shape.Idx.first (numel1_S1.symm ▸ Nat.one_pos))
abbrev wHere : BitVec 32 := View.readAt (Elt F) expertTab.view (Rect.unit (s := S224) (k0_off1 i) S1.size (k0_off1_inb i)).toLoadRect T0 (Shape.Idx.first (numel1_S1.symm ▸ Nat.one_pos))
abbrev wLast : BitVec 32 := View.readAt (Elt F) expertTab.view (Rect.unit (s := S224) (k0_off2 i) S1.size (k0_off2_inb i)).toLoadRect T0 (Shape.Idx.first (numel1_S1.symm ▸ Nat.one_pos))

/-- Whether the body copies its expert's weights into the scratch. -/
abbrev copies : Prop := Scalar.cmpi .ne (Scalar.extui (Scalar.andi (Scalar.cmpi .slt (BitVec.ofNat 32 (i 0).val) (wUsed c T1)) (Scalar.ori (Scalar.cmpi .eq (BitVec.ofNat 32 (i 0).val) 0#32) (Scalar.cmpi .ne (wHere c i T0) (wLast c i T0))))) 0#32 = 1#1

end words

section runs
variable (c : Dev nD) (i : grid0.Coords) (arg3 : Memref sig .tc .vmem S512x1024 .bf16) (harg3 : arg3.IsWhole)
  (arg4 : Memref sig .tc .vmem S1x1024x384 .f32) (harg4 : arg4.IsWhole) (arg5 : Memref sig .tc .vmem S1x1024x384 .f32) (harg5 : arg5.IsWhole)
  (arg6 : Memref sig .tc .vmem S1x384x1024 .f32) (harg6 : arg6.IsWhole) (arg7 : Memref sig .tc .vmem S512x1024 .bf16) (harg7 : arg7.IsWhole)
  (T0 : Buf (Elt F) ((c : Thread nD τ).loc main_arg0)) (T1 : Buf (Elt F) ((c : Thread nD τ).loc main_arg1))
  (x0 : S512x1024.Idx → Elt F .bf16) (x1 x2 : S1x1024x384.Idx → Elt F .f32) (x3 : S1x384x1024.Idx → Elt F .f32)
  (a0 : Buf (Elt F) ((c : Thread nD τ).loc cc0_scratch0)) (a1 : Buf (Elt F) ((c : Thread nD τ).loc cc0_scratch1))

/-- What the body holds before it runs and after: the rows and the weights, the tables, the output block and the scratch. -/
abbrev held (R : sProp (Res F)) (s0 : Buf (Elt F) ((c : Thread nD τ).loc cc0_scratch0)) (s1 : Buf (Elt F) ((c : Thread nD τ).loc cc0_scratch1)) : sProp (Res F) :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (expertTab.view.loc (c : Thread nD τ) ↦{fullShare.right} T0)
    ∗ (usedTab.view.loc (c : Thread nD τ) ↦{fullShare.right} T1)
    ∗ R
    ∗ (scrIn.view.loc (c : Thread nD τ) ↦{fullShare} s0)
    ∗ (scrOut.view.loc (c : Thread nD τ) ↦{fullShare} s1))

/-- The body on its buffers. -/
abbrev body : Prog (TpuEff nD τ sig (Elt F) Λ₀ .tc) PUnit :=
  cc0_moe_grouped_ffn i expertTab (Memref.isWhole_whole _) usedTab (Memref.isWhole_whole _) arg3 harg3 arg4 harg4 arg5 harg5 arg6 harg6 arg7 harg7 scrIn (Memref.isWhole_whole _) scrOut (Memref.isWhole_whole _)

set_option backward.proofsInPublic true in
set_option maxHeartbeats 8000000 in
/-- A block past the used ones: the output block is cleared and the scratch kept. -/
def runUnused (hc : ¬copies c i T0 T1) (h2 : ¬k0_cond2 i (wUsed c T1) = 1#1) (h3 : k0_cond3 i (wUsed c T1) = 1#1) :
    Σ' (o : List (View.Piece (Elt F) S512x1024 .bf16)) (s0 : Buf (Elt F) ((c : Thread nD τ).loc cc0_scratch0)), { s1 : Buf (Elt F) ((c : Thread nD τ).loc cc0_scratch1) //
      ∀ K : PUnit → sProp (Res F),
        iprop(held c arg3 arg4 arg5 arg6 T0 T1 x0 x1 x2 x3 iprop(∃ d, owns (c : Thread nD τ) arg7 fullShare d) a0 a1
          ∗ (held c arg3 arg4 arg5 arg6 T0 T1 x0 x1 x2 x3 iprop(∃ f, arg7.view.loc (c : Thread nD τ) ↦[arg7.view.set]{fullShare} arg7.view.writes (Elt F) f o) s0 s1 -∗ K ⟨⟩))
          ⊢ wp frame (wpE (defs₀ (F := F)) Variants.none c none) Set.univ (body i arg3 harg3 arg4 harg4 arg5 harg5 arg6 harg6 arg7 harg7) K } :=
  ⟨_, _, _, fun K => by
    unfold owns held body
    rw [cc0_moe_grouped_ffn_eq_skeleton]; unfold cc0_moe_grouped_ffn_skel
    iintro ⟨⟨H0, H1, H2, H3, HT0, HT1, ⟨%d4, %f4, -, HO4⟩, HS0, HS1⟩, Hk⟩
    have hS0 : scrIn.IsWhole := Memref.isWhole_whole _
    have hS1 : scrOut.IsWhole := Memref.isWhole_whole _
    have hT0 : expertTab.IsWhole := Memref.isWhole_whole _
    have hT1 : usedTab.IsWhole := Memref.isWhole_whole _
    sl_exec! (disch := first | (guard_target = ¬(Scalar.cmpi _ _ _ = _); exact hc) | (guard_target = ¬(k0_cond2 _ _ = _); exact h2) | (guard_target = k0_cond3 _ _ = _; exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

set_option backward.proofsInPublic true in
set_option maxHeartbeats 8000000 in
/-- A used block whose expert is the block's before it: the scratch is read as it stands. -/
def runSame (hc : ¬copies c i T0 T1) (h2 : k0_cond2 i (wUsed c T1) = 1#1) (h3 : ¬k0_cond3 i (wUsed c T1) = 1#1) :
    Σ' (o : List (View.Piece (Elt F) S512x1024 .bf16)) (s0 : Buf (Elt F) ((c : Thread nD τ).loc cc0_scratch0)), { s1 : Buf (Elt F) ((c : Thread nD τ).loc cc0_scratch1) //
      ∀ K : PUnit → sProp (Res F),
        iprop(held c arg3 arg4 arg5 arg6 T0 T1 x0 x1 x2 x3 iprop(∃ d, owns (c : Thread nD τ) arg7 fullShare d) a0 a1
          ∗ (held c arg3 arg4 arg5 arg6 T0 T1 x0 x1 x2 x3 iprop(∃ f, arg7.view.loc (c : Thread nD τ) ↦[arg7.view.set]{fullShare} arg7.view.writes (Elt F) f o) s0 s1 -∗ K ⟨⟩))
          ⊢ wp frame (wpE (defs₀ (F := F)) Variants.none c none) Set.univ (body i arg3 harg3 arg4 harg4 arg5 harg5 arg6 harg6 arg7 harg7) K } :=
  ⟨_, _, _, fun K => by
    unfold owns held body
    rw [cc0_moe_grouped_ffn_eq_skeleton]; unfold cc0_moe_grouped_ffn_skel
    iintro ⟨⟨H0, H1, H2, H3, HT0, HT1, ⟨%d4, %f4, -, HO4⟩, HS0, HS1⟩, Hk⟩
    have hS0 : scrIn.IsWhole := Memref.isWhole_whole _
    have hS1 : scrOut.IsWhole := Memref.isWhole_whole _
    have hT0 : expertTab.IsWhole := Memref.isWhole_whole _
    have hT1 : usedTab.IsWhole := Memref.isWhole_whole _
    sl_exec! (disch := first | (guard_target = ¬(Scalar.cmpi _ _ _ = _); exact hc) | (guard_target = k0_cond2 _ _ = _; exact h2) | (guard_target = ¬(k0_cond3 _ _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

set_option backward.proofsInPublic true in
set_option maxHeartbeats 8000000 in
/-- A used block of a new expert: the weights are copied into the scratch first. -/
def runNew (hc : copies c i T0 T1) (h2 : k0_cond2 i (wUsed c T1) = 1#1) (h3 : ¬k0_cond3 i (wUsed c T1) = 1#1) :
    Σ' (o : List (View.Piece (Elt F) S512x1024 .bf16)) (s0 : Buf (Elt F) ((c : Thread nD τ).loc cc0_scratch0)), { s1 : Buf (Elt F) ((c : Thread nD τ).loc cc0_scratch1) //
      ∀ K : PUnit → sProp (Res F),
        iprop(held c arg3 arg4 arg5 arg6 T0 T1 x0 x1 x2 x3 iprop(∃ d, owns (c : Thread nD τ) arg7 fullShare d) a0 a1
          ∗ (held c arg3 arg4 arg5 arg6 T0 T1 x0 x1 x2 x3 iprop(∃ f, arg7.view.loc (c : Thread nD τ) ↦[arg7.view.set]{fullShare} arg7.view.writes (Elt F) f o) s0 s1 -∗ K ⟨⟩))
          ⊢ wp frame (wpE (defs₀ (F := F)) Variants.none c none) Set.univ (body i arg3 harg3 arg4 harg4 arg5 harg5 arg6 harg6 arg7 harg7) K } :=
  ⟨_, _, _, fun K => by
    unfold owns held body
    rw [cc0_moe_grouped_ffn_eq_skeleton]; unfold cc0_moe_grouped_ffn_skel
    iintro ⟨⟨H0, H1, H2, H3, HT0, HT1, ⟨%d4, %f4, -, HO4⟩, HS0, HS1⟩, Hk⟩
    have hS0 : scrIn.IsWhole := Memref.isWhole_whole _
    have hS1 : scrOut.IsWhole := Memref.isWhole_whole _
    have hT0 : expertTab.IsWhole := Memref.isWhole_whole _
    have hT1 : usedTab.IsWhole := Memref.isWhole_whole _
    sl_exec! (disch := first | (guard_target = Scalar.cmpi _ _ _ = _; exact hc) | (guard_target = k0_cond2 _ _ = _; exact h2) | (guard_target = ¬(k0_cond3 _ _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

end runs

end Cert.FfnIdeal.RefValue
-- ==== Proof.FfnBody.lean ====
/-
  One block of the experts' feed-forward, the three control paths together: a used block leaves the feed-forward of its rows and
  its own weights in the scratch, an unused one leaves zero.
-/
module

public import proofs.«01_k».proof.Proof.FfnRun
public import Idealize.ShloMosaic.Lib.VecWindow
public import Idealize.ShloMosaic.Lib.Pipeline.ValueKit

@[expose] public section

set_option maxRecDepth 16384

noncomputable section

namespace Cert.FfnIdeal.RefValue

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Block `i` is used: fewer blocks stand before it than the table's word counts. -/
abbrev Used (i : grid0.Coords) (w : BitVec 32) : Prop := BitVec.slt (BitVec.ofNat 32 (i 0).val) w = true

theorem cond2_iff (i : grid0.Coords) (w : BitVec 32) : k0_cond2 i w = 1#1 ↔ Used i w := by
  unfold k0_cond2 Used
  simp only [Scalar.cmpi, IntOp.cmpi, Scalar.extui]
  cases BitVec.slt (BitVec.ofNat 32 (i 0).val) w <;> decide

theorem cond3_iff (i : grid0.Coords) (w : BitVec 32) : k0_cond3 i w = 1#1 ↔ ¬Used i w := by
  unfold k0_cond3 Used
  simp only [Scalar.cmpi, IntOp.cmpi, Scalar.extui]
  cases BitVec.slt (BitVec.ofNat 32 (i 0).val) w <;> decide

/-- What the scratch holds of a block's weights: the two halves side by side. -/
def sideBySide (x1 x2 : Vec F S1x1024x384 .f32) : Vec F S1024x768 .bf16 :=
  View.canon [⟨Rect.unit (s := S1024x768) ![0, 384] S1024x384.size inb_S1024x768_S1024x384_0_384, k0_pay2 x2⟩,
    ⟨Rect.unit (s := S1024x768) ![0, 0] S1024x384.size inb_S1024x768_S1024x384_0_0, k0_pay1 x1⟩]

/-- The block of the output a point leaves, of its rows and its weights. -/
def blockOf (u : Prop) [Decidable u] (x0 : Vec F S512x1024 .bf16) (x1 x2 : Vec F S1x1024x384 .f32) (x3 : Vec F S1x384x1024 .f32) : Vec F S512x1024 .bf16 :=
  if u then k0_pay4 x0 (sideBySide x1 x2) (k0_pay3 x3) else k0_pay5

section spec
variable (c : Dev nD) (i : grid0.Coords) (arg3 : Memref sig .tc .vmem S512x1024 .bf16) (harg3 : arg3.IsWhole)
  (arg4 : Memref sig .tc .vmem S1x1024x384 .f32) (harg4 : arg4.IsWhole) (arg5 : Memref sig .tc .vmem S1x1024x384 .f32) (harg5 : arg5.IsWhole)
  (arg6 : Memref sig .tc .vmem S1x384x1024 .f32) (harg6 : arg6.IsWhole) (arg7 : Memref sig .tc .vmem S512x1024 .bf16) (harg7 : arg7.IsWhole)
  (T0 : Buf (Elt F) ((c : Thread nD τ).loc main_arg0)) (T1 : Buf (Elt F) ((c : Thread nD τ).loc main_arg1))
  (x0 : S512x1024.Idx → Elt F .bf16) (x1 x2 : S1x1024x384.Idx → Elt F .f32) (x3 : S1x384x1024.Idx → Elt F .f32)
  (a0 : Buf (Elt F) ((c : Thread nD τ).loc cc0_scratch0)) (a1 : Buf (Elt F) ((c : Thread nD τ).loc cc0_scratch1))

/-- The scratch holds the block's weights. -/
def Kept (s0 : Buf (Elt F) ((c : Thread nD τ).loc cc0_scratch0)) (s1 : Buf (Elt F) ((c : Thread nD τ).loc cc0_scratch1)) : Prop :=
  scrIn.view.read (Elt F) s0 = sideBySide x1 x2 ∧ scrOut.view.read (Elt F) s1 = k0_pay3 x3

theorem owns_of_one (p : Vec F S512x1024 .bf16) (f : arg7.view.ty.Contents (Elt F)) :
    arg7.view.read (Elt F) (arg7.view.writes (Elt F) f [⟨Rect.unit (s := S512x1024) ![0, 0] S512x1024.size inb_S512x1024_S512x1024_0_0, p⟩]) = p := by
  rw [View.read_writes_eq_canon _ _ _ (View.cover_of_tiledL _ S512x1024.size (by sl_kernel_rfl))]
  exact View.canon_cons_unit_lit inb_S512x1024_S512x1024_0_0 _ _ (by decide)

theorem in_eq : View.canon (runNew.sl.HS0_2 arg4 arg5 x1 x2) = sideBySide x1 x2 := by
  delta runNew.sl.HS0_2 sideBySide
  rw [View.readAt_rep_full, View.readAt_rep_full]

theorem out_eq : View.canon (runNew.sl.HS1_1 arg6 x3) = k0_pay3 x3 := by
  delta runNew.sl.HS1_1
  rw [View.readAt_rep_full]
  exact View.canon_cons_unit_lit inb_S384x1024_S384x1024_0_0 _ _ (by decide)

theorem v20_eq : runNew.sl.v20 arg4 arg5 x1 x2 = sideBySide x1 x2 := by
  delta runNew.sl.v20
  rw [View.readCov_eq_canon', in_eq]
  exact View.ld_unit_lit inb_S1024x768_S1024x768_0_0 _ (by decide)

theorem v28_eq : runNew.sl.v28 arg6 x3 = k0_pay3 x3 := by
  delta runNew.sl.v28
  rw [View.readCov_eq_canon', out_eq]
  exact View.ld_unit_lit (S := S384x1024) (Val := Elt F) (e := .bf16) inb_S384x1024_S384x1024_0_0 (k0_pay3 x3) (by decide)

theorem body_spec (hc : copies c i T0 T1 → Used i (wUsed c T1)) (hk : Used i (wUsed c T1) → ¬copies c i T0 T1 → Kept c x1 x2 x3 a0 a1) (K : PUnit → sProp (Res F)) :
    iprop(held c arg3 arg4 arg5 arg6 T0 T1 x0 x1 x2 x3 iprop(∃ d, owns (c : Thread nD τ) arg7 fullShare d) a0 a1
      ∗ ((∃ s0 s1, ⌜Used i (wUsed c T1) → Kept c x1 x2 x3 s0 s1⌝
          ∗ held c arg3 arg4 arg5 arg6 T0 T1 x0 x1 x2 x3 (owns (c : Thread nD τ) arg7 fullShare (blockOf (Used i (wUsed c T1)) x0 x1 x2 x3)) s0 s1) -∗ K ⟨⟩))
      ⊢ wp frame (wpE (defs₀ (F := F)) Variants.none c none) Set.univ (body i arg3 harg3 arg4 harg4 arg5 harg5 arg6 harg6 arg7 harg7) K := by
  by_cases hu : Used i (wUsed c T1)
  · have h2 := (cond2_iff i (wUsed c T1)).2 hu
    have h3 : ¬k0_cond3 i (wUsed c T1) = 1#1 := fun h => (cond3_iff i _).1 h hu
    rw [blockOf, if_pos hu]
    by_cases hcp : copies c i T0 T1
    · iintro ⟨H, Hk⟩
      iapply ((runNew c i arg3 harg3 arg4 harg4 arg5 harg5 arg6 harg6 arg7 harg7 T0 T1 x0 x1 x2 x3 a0 a1 hcp h2 h3).2.2.2 _)
      isplitl [H]; · iexact H
      iintro ⟨H0, H1, H2, H3, HT0, HT1, ⟨%e4, H4⟩, HS0, HS1⟩
      iapply Hk
      iexists _; iexists _
      isplitr; swap
      · isplitl [H0]; · iexact H0
        isplitl [H1]; · iexact H1
        isplitl [H2]; · iexact H2
        isplitl [H3]; · iexact H3
        isplitl [HT0]; · iexact HT0
        isplitl [HT1]; · iexact HT1
        isplitl [H4]
        · unfold owns; iexists _; isplitr; swap
          · iexact H4
          · ipureintro
            dsimp only [runNew]
            delta runNew.sl.HO4_1
            refine (owns_of_one arg7 _ _).trans ?_
            rw [View.readAt_rep_full, v20_eq, v28_eq]
        isplitl [HS0]; · iexact HS0
        iexact HS1
      · ipureintro
        intro _
        dsimp only [runNew]
        exact ⟨(View.read_writes_junk_eq_canon _ _).trans (in_eq arg4 arg5 x1 x2), (View.read_writes_junk_eq_canon _ _).trans (out_eq arg6 x3)⟩
    · iintro ⟨H, Hk⟩
      iapply ((runSame c i arg3 harg3 arg4 harg4 arg5 harg5 arg6 harg6 arg7 harg7 T0 T1 x0 x1 x2 x3 a0 a1 hcp h2 h3).2.2.2 _)
      isplitl [H]; · iexact H
      iintro ⟨H0, H1, H2, H3, HT0, HT1, ⟨%e4, H4⟩, HS0, HS1⟩
      iapply Hk
      iexists _; iexists _
      isplitr; swap
      · isplitl [H0]; · iexact H0
        isplitl [H1]; · iexact H1
        isplitl [H2]; · iexact H2
        isplitl [H3]; · iexact H3
        isplitl [HT0]; · iexact HT0
        isplitl [HT1]; · iexact HT1
        isplitl [H4]
        · unfold owns; iexists _; isplitr; swap
          · iexact H4
          · ipureintro
            dsimp only [runSame]
            delta runSame.sl.HO4_1
            refine (owns_of_one arg7 _ _).trans ?_
            rw [View.readAt_rep_full, View.readAt_full, View.readAt_full, (hk hu hcp).1, (hk hu hcp).2]
        isplitl [HS0]; · iexact HS0
        iexact HS1
      · ipureintro
        intro _
        exact hk hu hcp
  · have h2 : ¬k0_cond2 i (wUsed c T1) = 1#1 := fun h => hu ((cond2_iff i _).1 h)
    have h3 := (cond3_iff i (wUsed c T1)).2 hu
    have hcp : ¬copies c i T0 T1 := fun h => hu (hc h)
    rw [blockOf, if_neg hu]
    · iintro ⟨H, Hk⟩
      iapply ((runUnused c i arg3 harg3 arg4 harg4 arg5 harg5 arg6 harg6 arg7 harg7 T0 T1 x0 x1 x2 x3 a0 a1 hcp h2 h3).2.2.2 _)
      isplitl [H]; · iexact H
      iintro ⟨H0, H1, H2, H3, HT0, HT1, ⟨%e4, H4⟩, HS0, HS1⟩
      iapply Hk
      iexists _; iexists _
      isplitr; swap
      · isplitl [H0]; · iexact H0
        isplitl [H1]; · iexact H1
        isplitl [H2]; · iexact H2
        isplitl [H3]; · iexact H3
        isplitl [HT0]; · iexact HT0
        isplitl [HT1]; · iexact HT1
        isplitl [H4]
        · unfold owns; iexists _; isplitr; swap
          · iexact H4
          · ipureintro
            dsimp only [runUnused]
            delta runUnused.sl.HO4_1
            exact owns_of_one arg7 _ _
        isplitl [HS0]; · iexact HS0
        iexact HS1
      · ipureintro
        exact fun h => absurd h hu

end spec

end Cert.FfnIdeal.RefValue
-- ==== Proof.FfnFrame.lean ====
/-
  The experts' feed-forward over the whole grid: the experts in range, every execution ends, the arguments unchanged, each
  block of the output the feed-forward of its rows under its expert's weights, or zero past the used blocks.
-/
module

public import proofs.«01_k».proof.Proof.FfnBody
public import Idealize.ShloMosaic.Lib.Pointwise
public import Idealize.ShloMosaic.Lib.Pipeline.ValueKit
public import Idealize.ShloMosaic.Lib.Claim

@[expose] public section

set_option maxRecDepth 16384

noncomputable section

namespace Cert.FfnIdeal.RefValue

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section tables
variable (m : (ℓ : Loc nD τ sig) → Buf (Elt F) ℓ) (ρ : Dev nD → PrngReg)

/-- The two tables as the memory holds them. -/
def pf : pre0.Contents (Elt F) := fun
  | ⟨0, _⟩ => m (((0 : Dev nD) : Thread nD τ).loc main_arg0)
  | ⟨1, _⟩ => m (((0 : Dev nD) : Thread nD τ).loc main_arg1)
  | ⟨_ + 2, h⟩ => absurd h (by simp)

/-- Block `n`'s expert, and the number of used blocks. -/
def expert (n : Fin 224) : BitVec 32 := m (((0 : Dev nD) : Thread nD τ).loc main_arg0) (ix1 n)
def nUsed : BitVec 32 := m (((0 : Dev nD) : Thread nD τ).loc main_arg1) (ix1 0)

theorem coord (t : Fin grid0.N) : (grid0.coords t 0).val = t.val := by
  revert t; decide +kernel

theorem wUsed_eq (c : Dev nD) : wUsed c (pf m 1) = nUsed m := by
  refine congrArg (m _) ?_
  funext a; fin_cases a; rfl

theorem off1 : ∀ t : Fin grid0.N, k0_off1 (grid0.coords t) 0 = t.val := by decide +kernel
theorem off2 : ∀ t : Fin grid0.N, k0_off2 (grid0.coords t) 0 = t.val - 1 := by decide +kernel

theorem wHere_eq (c : Dev nD) (t : Fin grid0.N) : wHere c (grid0.coords t) (pf m 0) = expert m ⟨t.val, t.isLt⟩ := by
  refine congrArg (m _) ?_
  funext a; fin_cases a
  exact Fin.ext (off1 t)

theorem wLast_eq (c : Dev nD) (t : Fin grid0.N) : wLast c (grid0.coords t) (pf m 0) = expert m ⟨t.val - 1, Nat.lt_of_le_of_lt (Nat.sub_le _ _) t.isLt⟩ := by
  refine congrArg (m _) ?_
  funext a; fin_cases a
  exact Fin.ext (off2 t)

/-- The body copies weights at a used block whose expert is new. -/
theorem copies_iff (c : Dev nD) (t : Fin grid0.N) : copies c (grid0.coords t) (pf m 0) (pf m 1) ↔ Used (grid0.coords t) (nUsed m)
    ∧ (t.val = 0 ∨ expert m ⟨t.val, t.isLt⟩ ≠ expert m ⟨t.val - 1, Nat.lt_of_le_of_lt (Nat.sub_le _ _) t.isLt⟩) := by
  have hz : ∀ t : Fin grid0.N, (BitVec.ofNat 32 (grid0.coords t 0).val = 0#32) ↔ t.val = 0 := by decide +kernel
  unfold copies Used
  rw [wUsed_eq, wHere_eq, wLast_eq, ← hz t]
  generalize expert m ⟨t.val, t.isLt⟩ = e
  generalize expert m ⟨t.val - 1, _⟩ = e'
  generalize BitVec.ofNat 32 (grid0.coords t 0).val = x
  have key : ∀ p q r : Bool, Scalar.cmpi .ne (Scalar.extui (Scalar.andi (BitVec.ofBool p) (Scalar.ori (BitVec.ofBool q) (BitVec.ofBool r))) : BitVec 32) 0#32 = 1#1
      ↔ p = true ∧ (q = true ∨ r = true) := by decide
  exact (key (BitVec.slt x (nUsed m)) (x == 0#32) (e != e')).trans (by simp)

end tables

/-- The embedding of the rounds' resources. -/
abbrev EP : Emb (UR sig nD τ) (Res F) := emb₁

section pipeline
variable (m : (ℓ : Loc nD τ sig) → Buf (Elt F) ℓ) (ρ : Dev nD → PrngReg) (hok : ok0 (pf m))

/-- The pipeline at the memory's tables. -/
def adm : (pcfg0 (F := F)).Adm := ⟨pf m, hok⟩
abbrev cfgA : Pipeline.Cfg sig Λ₀ := cfg0 (F := F) (adm m hok)
abbrev pcs : Fin 1 → Pipeline.Cfg sig Λ₀ := Pipeline.pin (pcfgs (F := F)) fun _ => adm m hok
abbrev crd (t : Fin (cfgA m hok).N) : (cfgA m hok).grid.Coords := (cfgA m hok).grid.coords t

/-- Window `w`'s block at point `t`, of its array at launch. -/
def iblk (c : Dev nD) (w : Fin (cfgA m hok).W) (t : Fin (cfgA m hok).N) : (((cfgA m hok).win w).xblock (crd m hok t)).Idx → Elt F ((cfgA m hok).win w).elt :=
  (((cfgA m hok).win w).blk t).view.read (Elt F) (m (((cfgA m hok).win w).arr.view.loc (c : Thread nD τ)))

theorem rows_at : ∀ t : Fin grid0.N, cc0_transform_0 (grid0.coords t) = ![t.val, 0] ∧ cc0_transform_4 (grid0.coords t) = ![t.val, 0] := by decide +kernel

theorem idx (t : Fin grid0.N) : ((cfgA m hok).win 0).index t = ![t.val, 0] ∧ ((cfgA m hok).win 1).index t = ![(expert m ⟨t.val, t.isLt⟩).toNat, 0, 0]
    ∧ ((cfgA m hok).win 2).index t = ![(expert m ⟨t.val, t.isLt⟩).toNat, 0, 0] ∧ ((cfgA m hok).win 3).index t = ![(expert m ⟨t.val, t.isLt⟩).toNat, 0, 0]
    ∧ ((cfgA m hok).win 4).index t = ![t.val, 0] := by
  rw [← wHere_eq m 0 t]
  exact ⟨(rows_at t).1, rfl, rfl, rfl, (rows_at t).2⟩

include hok in
/-- Every block's expert is one of the sixty-four. -/
theorem expert_lt (t : Fin grid0.N) : (expert m ⟨t.val, t.isLt⟩).toNat < 64 := by
  obtain ⟨h, -⟩ := hok.1 (grid0.coords t)
  have h0 := h (0 : Fin 3)
  have h1 : (wHere 0 (grid0.coords t) (pf m 0)).toNat < 64 := by
    simp [cc0_transform_1] at h0
    exact h0
  rw [wHere_eq] at h1
  omega

theorem rows_read (c : Dev nD) (t : Fin grid0.N) (r : Fin 512) (j : Fin 1024) (h : 512 * t.val + r.val < 114688) :
    iblk m hok c 0 t (ix2 r j) = m ((c : Thread nD τ).loc main_arg2) (ix2 ⟨512 * t.val + r.val, h⟩ j) := by
  blk_ext [iblk, idx m hok t]

theorem w1_read (c : Dev nD) (t : Fin grid0.N) (h : (expert m ⟨t.val, t.isLt⟩).toNat < 64) (a : Fin 1024) (b : Fin 384) :
    iblk m hok c 1 t (ix3 0 a b) = m ((c : Thread nD τ).loc main_arg3) (ix3 ⟨(expert m ⟨t.val, t.isLt⟩).toNat, h⟩ a b) := by
  blk_ext [iblk, idx m hok t]

theorem w3_read (c : Dev nD) (t : Fin grid0.N) (h : (expert m ⟨t.val, t.isLt⟩).toNat < 64) (a : Fin 1024) (b : Fin 384) :
    iblk m hok c 2 t (ix3 0 a b) = m ((c : Thread nD τ).loc main_arg4) (ix3 ⟨(expert m ⟨t.val, t.isLt⟩).toNat, h⟩ a b) := by
  blk_ext [iblk, idx m hok t]

theorem w2_read (c : Dev nD) (t : Fin grid0.N) (h : (expert m ⟨t.val, t.isLt⟩).toNat < 64) (a : Fin 384) (b : Fin 1024) :
    iblk m hok c 3 t (ix3 0 a b) = m ((c : Thread nD τ).loc main_arg5) (ix3 ⟨(expert m ⟨t.val, t.isLt⟩).toNat, h⟩ a b) := by
  blk_ext [iblk, idx m hok t]

theorem ext_in {α : Type} {f g : S1x1024x384.Idx → α} (h : ∀ a b, f (ix3 0 a b) = g (ix3 0 a b)) : f = g := funext fun y => by
  have e : y = ix3 0 (y 1) (y 2) := funext fun k => by
    match k with | ⟨0, _⟩ => exact Subsingleton.elim (α := Fin 1) _ _ | ⟨1, _⟩ => rfl | ⟨2, _⟩ => rfl
  rw [e]; exact h _ _

theorem ext_out {α : Type} {f g : S1x384x1024.Idx → α} (h : ∀ a b, f (ix3 0 a b) = g (ix3 0 a b)) : f = g := funext fun y => by
  have e : y = ix3 0 (y 1) (y 2) := funext fun k => by
    match k with | ⟨0, _⟩ => exact Subsingleton.elim (α := Fin 1) _ _ | ⟨1, _⟩ => rfl | ⟨2, _⟩ => rfl
  rw [e]; exact h _ _

/-- Blocks of one expert are handed the same weights. -/
theorem weights_eq (c : Dev nD) (t u : Fin grid0.N) (h : expert m ⟨t.val, t.isLt⟩ = expert m ⟨u.val, u.isLt⟩) :
    iblk m hok c 1 t = iblk m hok c 1 u ∧ iblk m hok c 2 t = iblk m hok c 2 u ∧ iblk m hok c 3 t = iblk m hok c 3 u := by
  have e : (⟨(expert m ⟨t.val, t.isLt⟩).toNat, expert_lt m hok t⟩ : Fin 64) = ⟨(expert m ⟨u.val, u.isLt⟩).toNat, expert_lt m hok u⟩ :=
    Fin.ext (congrArg BitVec.toNat h)
  refine ⟨ext_in fun a b => ?_, ext_in fun a b => ?_, ext_out fun a b => ?_⟩
  · exact (w1_read m hok c t (expert_lt m hok t) a b).trans ((congrArg (fun q => m ((c : Thread nD τ).loc main_arg3) (ix3 q a b)) e).trans (w1_read m hok c u (expert_lt m hok u) a b).symm)
  · exact (w3_read m hok c t (expert_lt m hok t) a b).trans ((congrArg (fun q => m ((c : Thread nD τ).loc main_arg4) (ix3 q a b)) e).trans (w3_read m hok c u (expert_lt m hok u) a b).symm)
  · exact (w2_read m hok c t (expert_lt m hok t) a b).trans ((congrArg (fun q => m ((c : Thread nD τ).loc main_arg5) (ix3 q a b)) e).trans (w2_read m hok c u (expert_lt m hok u) a b).symm)

/-- What the scratch must hold before point `n`: the weights of the block before it, where that block is used. -/
def Holds (c : Dev nD) (n : ℕ) (a0 : Buf (Elt F) ((c : Thread nD τ).loc cc0_scratch0)) (a1 : Buf (Elt F) ((c : Thread nD τ).loc cc0_scratch1)) : Prop :=
  ∀ t : Fin grid0.N, n = t.val + 1 → Used (grid0.coords t) (nUsed m) →
    Kept c (iblk m hok c 1 t) (iblk m hok c 2 t) (iblk m hok c 3 t) a0 a1

/-- The invariant before point `t`: the scratch, and the body's share of the tables. -/
def Phi (c : Dev nD) (t : Fin ((cfgA m hok).N + 1)) : sProp (Res F) :=
  iprop((∃ a0 a1, ⌜Holds m hok c t.val a0 a1⌝ ∗ (scrIn.view.loc (c : Thread nD τ) ↦{fullShare} a0) ∗ (scrOut.view.loc (c : Thread nD τ) ↦{fullShare} a1))
    ∗ (expertTab.view.loc (c : Thread nD τ) ↦{fullShare.right} pf m 0) ∗ (usedTab.view.loc (c : Thread nD τ) ↦{fullShare.right} pf m 1))

/-- The block of the output the body leaves at point `t`. -/
def outBlock (c : Dev nD) (t : Fin (cfgA m hok).N) : S512x1024.Idx → Elt F .bf16 :=
  blockOf (Used (grid0.coords t) (nUsed m)) (iblk m hok c 0 t) (iblk m hok c 1 t) (iblk m hok c 2 t) (iblk m hok c 3 t)

/-- The run's proof data. -/
def dats (_ : Fin 1) (c : Dev nD) : Dat τ (Elt F) Unit ℕ (UR sig nD τ) ℕ (cfgA m hok) c where
  A w := (s₀ m ρ).mem (((cfgA m hok).win w).arr.view.loc (c : Thread nD τ))
  after w t := match w with
    | ⟨0, _⟩ => iblk m hok c (0 : Fin 5) t
    | ⟨1, _⟩ => iblk m hok c (1 : Fin 5) t
    | ⟨2, _⟩ => iblk m hok c (2 : Fin 5) t
    | ⟨3, _⟩ => iblk m hok c (3 : Fin 5) t
    | ⟨4, _⟩ => outBlock m hok c t
  Φ t := Phi m hok c t
  q _ := fullShare
  owed _ := 0

theorem before0 (c : Dev nD) (t : Fin (cfgA m hok).N) (d) : (dats m ρ hok 0 c).before (0 : Fin 5) t d = iblk m hok c (0 : Fin 5) t :=
  ((dats m ρ hok 0 c).before_in_eq_fetched (0 : Fin 5) rfl (fun _ => rfl) (fun _ _ _ => rfl) (fun t => rfl) t d).trans rfl

theorem before1 (c : Dev nD) (t : Fin (cfgA m hok).N) (d) : (dats m ρ hok 0 c).before (1 : Fin 5) t d = iblk m hok c (1 : Fin 5) t :=
  ((dats m ρ hok 0 c).before_in_eq_fetched (1 : Fin 5) rfl (fun _ => rfl) (fun _ _ _ => rfl) (fun t => rfl) t d).trans rfl

theorem before2 (c : Dev nD) (t : Fin (cfgA m hok).N) (d) : (dats m ρ hok 0 c).before (2 : Fin 5) t d = iblk m hok c (2 : Fin 5) t :=
  ((dats m ρ hok 0 c).before_in_eq_fetched (2 : Fin 5) rfl (fun _ => rfl) (fun _ _ _ => rfl) (fun t => rfl) t d).trans rfl

theorem before3 (c : Dev nD) (t : Fin (cfgA m hok).N) (d) : (dats m ρ hok 0 c).before (3 : Fin 5) t d = iblk m hok c (3 : Fin 5) t :=
  ((dats m ρ hok 0 c).before_in_eq_fetched (3 : Fin 5) rfl (fun _ => rfl) (fun _ _ _ => rfl) (fun t => rfl) t d).trans rfl

/-- No point leaves the output block as it found it. -/
theorem idle4 (t : Fin (cfgA m hok).N) : (cfgA m hok).idle (4 : Fin 5) (crd m hok t) = false := by
  have key : ∀ (i : grid0.Coords) (w : BitVec 32), (!(k0_cond2 i w == 1#1) && !(k0_cond3 i w == 1#1)) = false := fun i w => by
    by_cases h : Used i w
    · rw [(cond2_iff i w).2 h]; rfl
    · rw [(cond3_iff i w).2 h]; simp
  exact key _ _

/-- A used block follows used blocks, and one that copies nothing follows a block of its own expert. -/
theorem used_mono (t u : Fin grid0.N) (h : u.val ≤ t.val) (hu : Used (grid0.coords t) (nUsed m)) : Used (grid0.coords u) (nUsed m) := by
  have e : ∀ t : Fin grid0.N, (BitVec.ofNat 32 (grid0.coords t 0).val).toInt = (t.val : ℤ) := by decide +kernel
  simp only [Used, BitVec.slt_eq_decide, decide_eq_true_eq, e] at hu ⊢
  omega

/-- What the invariant gives at a used block that copies nothing: its own weights. -/
theorem kept_of (c : Dev nD) (t : Fin (cfgA m hok).N) (a0 : Buf (Elt F) ((c : Thread nD τ).loc cc0_scratch0)) (a1 : Buf (Elt F) ((c : Thread nD τ).loc cc0_scratch1))
    (h : Holds m hok c t.val a0 a1) (hu : Used (grid0.coords t) (nUsed m)) (hc : ¬copies c (grid0.coords t) (pf m 0) (pf m 1)) :
    Kept c (iblk m hok c 1 t) (iblk m hok c 2 t) (iblk m hok c 3 t) a0 a1 := by
  have hn := fun e => hc ((copies_iff m c t).2 ⟨hu, e⟩)
  have h0 : t.val ≠ 0 := fun e => hn (Or.inl e)
  have he : expert m ⟨t.val, t.isLt⟩ = expert m ⟨t.val - 1, Nat.lt_of_le_of_lt (Nat.sub_le _ _) t.isLt⟩ := by
    by_contra e
    exact hn (Or.inr e)
  have hlt : t.val - 1 < grid0.N := Nat.lt_of_le_of_lt (Nat.sub_le _ _) t.isLt
  have hw := weights_eq m hok c t ⟨t.val - 1, hlt⟩ he
  rw [hw.1, hw.2.1, hw.2.2]
  exact h ⟨t.val - 1, hlt⟩ (by show t.val = t.val - 1 + 1; omega) (used_mono m t _ (Nat.sub_le _ _) hu)

abbrev ms0 (t : Fin (cfgA m hok).N) := spec0_0.stage ((cfgA m hok).slots t (0 : Fin 5))
abbrev hs0 (t : Fin (cfgA m hok).N) : (ms0 m hok t).IsWhole := hstage0_0 (((cfgA m hok).slots t (0 : Fin 5)).cast nbuf0_0)
abbrev ms1 (t : Fin (cfgA m hok).N) := spec0_1.stage ((cfgA m hok).slots t (1 : Fin 5))
abbrev hs1 (t : Fin (cfgA m hok).N) : (ms1 m hok t).IsWhole := hstage0_1 (((cfgA m hok).slots t (1 : Fin 5)).cast nbuf0_1)
abbrev ms2 (t : Fin (cfgA m hok).N) := spec0_2.stage ((cfgA m hok).slots t (2 : Fin 5))
abbrev hs2 (t : Fin (cfgA m hok).N) : (ms2 m hok t).IsWhole := hstage0_2 (((cfgA m hok).slots t (2 : Fin 5)).cast nbuf0_2)
abbrev ms3 (t : Fin (cfgA m hok).N) := spec0_3.stage ((cfgA m hok).slots t (3 : Fin 5))
abbrev hs3 (t : Fin (cfgA m hok).N) : (ms3 m hok t).IsWhole := hstage0_3 (((cfgA m hok).slots t (3 : Fin 5)).cast nbuf0_3)
abbrev ms4 (t : Fin (cfgA m hok).N) := spec0_4.stage ((cfgA m hok).slots t (4 : Fin 5))
abbrev hs4 (t : Fin (cfgA m hok).N) : (ms4 m hok t).IsWhole := hstage0_4 (((cfgA m hok).slots t (4 : Fin 5)).cast nbuf0_4)

set_option maxHeartbeats 4000000 in
theorem sound_body (c : Dev nD) (t : Fin (cfgA m hok).N) :
    iprop((dats m ρ hok 0 c).Φ t.castSucc ∗ (dats m ρ hok 0 c).owesAt () t.castSucc
        ∗ (∃ d, owns (c : Thread nD τ) (ms0 m hok t) fullShare ((dats m ρ hok 0 c).before (0 : Fin 5) t d))
        ∗ (∃ d, owns (c : Thread nD τ) (ms1 m hok t) fullShare ((dats m ρ hok 0 c).before (1 : Fin 5) t d))
        ∗ (∃ d, owns (c : Thread nD τ) (ms2 m hok t) fullShare ((dats m ρ hok 0 c).before (2 : Fin 5) t d))
        ∗ (∃ d, owns (c : Thread nD τ) (ms3 m hok t) fullShare ((dats m ρ hok 0 c).before (3 : Fin 5) t d))
        ∗ (∃ d, owns (c : Thread nD τ) (ms4 m hok t) fullShare ((dats m ρ hok 0 c).before (4 : Fin 5) t d)))
      ⊢ wp frame (wpE (defs₀ (F := F)) Variants.none c none) Set.univ (body (crd m hok t) (ms0 m hok t) (hs0 m hok t) (ms1 m hok t) (hs1 m hok t) (ms2 m hok t) (hs2 m hok t) (ms3 m hok t) (hs3 m hok t) (ms4 m hok t) (hs4 m hok t)) fun _ =>
          iprop((dats m ρ hok 0 c).Φ t.succ ∗ (dats m ρ hok 0 c).owesAt () t.succ
            ∗ bigSep Finset.univ fun w : Fin (cfgA m hok).W =>
                match (cfgA m hok).idle w ((cfgA m hok).grid.coords t) with
                | true =>
                  match ((cfgA m hok).win w).flush t with
                  | false => iprop(∃ d, owns (c : Thread nD τ) (((cfgA m hok).win w).stage ((cfgA m hok).slots t w)) fullShare ((dats m ρ hok 0 c).before w t d))
                  | true => owns (c : Thread nD τ) (((cfgA m hok).win w).stage ((cfgA m hok).slots t w)) fullShare ((dats m ρ hok 0 c).after w t)
                | false => owns (c : Thread nD τ) (((cfgA m hok).win w).stage ((cfgA m hok).slots t w)) fullShare ((dats m ρ hok 0 c).after w t)) := by
  rw [bigSep_W0]
  rewrite [idle4 m hok t]
  simp only [before0, before1, before2, before3]
  rewrite [show (dats m ρ hok 0 c).Φ t.succ = Phi m hok c t.succ from rfl, show (dats m ρ hok 0 c).Φ t.castSucc = Phi m hok c t.castSucc from rfl,
    show (dats m ρ hok 0 c).owesAt () t.succ = (dats m ρ hok 0 c).owesAt () t.castSucc from rfl]
  unfold Phi
  simp only [Fin.val_castSucc, Fin.val_succ]
  iintro ⟨⟨⟨%a0, %a1, %ha, HS0, HS1⟩, HT0, HT1⟩, Ho, ⟨%d0, H0⟩, ⟨%d1, H1⟩, ⟨%d2, H2⟩, ⟨%d3, H3⟩, ⟨%d4, H4⟩⟩
  have spec := body_spec c (crd m hok t) (ms0 m hok t) (hs0 m hok t) (ms1 m hok t) (hs1 m hok t) (ms2 m hok t) (hs2 m hok t) (ms3 m hok t) (hs3 m hok t) (ms4 m hok t) (hs4 m hok t) (pf m 0) (pf m 1) (iblk m hok c (0 : Fin 5) t) (iblk m hok c (1 : Fin 5) t) (iblk m hok c (2 : Fin 5) t) (iblk m hok c (3 : Fin 5) t) a0 a1
  rw [wUsed_eq] at spec
  iapply (spec (fun h => ((copies_iff m c t).1 h).1) (kept_of m hok c t a0 a1 ha) _)
  isplitl [H0 H1 H2 H3 H4 HT0 HT1 HS0 HS1]
  · isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    iexact HS1
  iintro ⟨%s0, %s1, %hs, ⟨H0, H1, H2, H3, HT0, HT1, H4, HS0, HS1⟩⟩
  isplitl [HS0 HS1 HT0 HT1]
  · isplitl [HS0 HS1]
    · iexists s0; iexists s1
      isplitr; swap
      · isplitl [HS0]; · iexact HS0
        iexact HS1
      · ipureintro
        intro u e hu
        obtain rfl : u = t := Fin.ext (by have := e; omega)
        exact hs hu
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexact H4

theorem body_obligation (c : Dev nD) : BodyObligation (dats m ρ hok 0 c) (defs₀ (F := F)) Variants.none () Set.univ := fun t => by
  rw [bigSep_W0]
  exact sound_body m ρ hok c t

/-- The launch element. -/
def u₀ : UR sig nD τ :=
  initOf (Pipeline.cells (pcs m hok) ((launch0 (F := F)).cellOf_inj fun _ => adm m hok))
    (Pipeline.launchToks (pcs m hok) ((launch0 (F := F)).cellOf_inj fun _ => adm m hok))

theorem share_eq (c : Dev nD) (w : Fin (cfgA m hok).W) : (dats m ρ hok 0 c).share w = fullShare := by unfold Dat.share; split <;> rfl

theorem tables_eq (c : Dev nD) (q : Fin 2 → PosShare TreeShare) (v : pre0.Contents (Elt F)) :
    (Pipeline.prefHeld (Ix := Unit) (Name := ℕ) (U := UR sig nD τ) (Lvl := ℕ) pre0 c q v : sProp (Res F))
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide, bigSep_insert (by decide), bigSep_singleton]
  rfl

/-- Before the first point the scratch is whatever it was; -/
theorem phi_first (c : Dev nD) :
    iprop(BI.emp ∗ Pipeline.prefHeld pre0 c (fun _ => fullShare.right) (adm m hok).1 ∗ Pipeline.scopedRest spec0 c) ⊢ (dats m ρ hok 0 c).Φ 0 := by
  rw [tables_eq, scopedRest0_eq, show (dats m ρ hok 0 c).Φ 0 = Phi m hok c 0 from rfl]
  unfold Phi
  iintro ⟨-, ⟨HT0, HT1⟩, ⟨%a0, HS0⟩, ⟨%a1, HS1⟩⟩
  isplitl [HS0 HS1]
  · iexists a0; iexists a1
    isplitr; swap
    · isplitl [HS0]; · iexact HS0
      iexact HS1
    · ipureintro
      exact fun t h => absurd h (Nat.succ_ne_zero _).symm
  isplitl [HT0]; · iexact HT0
  iexact HT1

/-- and after the last it is given back. -/
theorem phi_last (c : Dev nD) : (dats m ρ hok 0 c).Φ (Fin.last (cfgA m hok).N) ⊢ iprop(BI.emp ∗ Pipeline.scopedRest spec0 c) := by
  rw [scopedRest0_eq, show (dats m ρ hok 0 c).Φ (Fin.last (cfgA m hok).N) = Phi m hok c (Fin.last _) from rfl]
  unfold Phi
  iintro ⟨⟨%a0, %a1, -, HS0, HS1⟩, -, -⟩
  isplitr; · iempintro
  isplitl [HS0]
  · iexists a0; iexact HS0
  iexists a1; iexact HS1

/-- What a final state satisfies: each array as the pipeline leaves it, each table as it was. -/
def Ends : PUnit × MemSt nD τ sig (Elt F) → Prop := fun r =>
  ∀ c : Dev nD, (∀ w : Fin (cfgA m hok).W, r.2.mem (((cfgA m hok).win w).arr.view.loc (c : Thread nD τ)) = (dats m ρ hok 0 c).arrAt w (cfgA m hok).N)
    ∧ ∀ j, r.2.mem ((c : Thread nD τ).loc (pre0.ref j)) = (adm m hok).1 j

theorem tables_at (c : Dev nD) (j : Fin 2) : m ((c : Thread nD τ).loc (pre0.ref j)) = (adm m hok).1 j := by
  obtain rfl : c = 0 := Subsingleton.elim _ _
  fin_cases j <;> rfl

set_option backward.isDefEq.respectTransparency.types false in
set_option maxHeartbeats 4000000 in
/-- Every execution ends, in such a state, with every semaphore at zero. -/
theorem run : θ_run (defs (F := F)) (onTc (τ := τ) (main (F := F))) (s₀ m ρ) (fun r => Ends m ρ hok r ∧ r.2.sem = fun _ => 0) :=
  Pipeline.θ_run_region_noSem_pf_quiescent pcfgs (fun _ => adm m hok) (dats m ρ hok) () ((launch0 (F := F)).cellOf_inj fun _ => adm m hok) (0 : Fin 1)
    (launch0 (F := F)).win.to₀ (launch0 (F := F)).pre EP defs₀ Variants.none m ρ main
    (hbody := fun c => (body_obligation m ρ hok c).loose) (hne := (launch0 (F := F)).block_pos)
    (harr := (launch0 (F := F)).arr_whole) (hstage := (launch0 (F := F)).stage_whole) (howed := fun _ _ => rfl)
    (u₀ := u₀ m hok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hok) (dats m ρ hok) 0 (launch0 (F := F)).win.arr_inj c (launch0 (F := F)).arr_whole
      (share_eq m ρ hok c) _ _ fun _ => rfl)
    (hpf := tables_at m hok)
    (X := fun _ => iprop(emp)) (Y := fun _ => iprop(emp)) (Z := fun _ => iprop(emp))
    (hX := fun c => by rw [unscopedRestP0_eq]; iintro -; isplitr <;> iempintro)
    (hin := phi_first m ρ hok)
    (hout := phi_last m ρ hok)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hok in
theorem unchanged : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 0).trans (tables_at m hok c 0).symm, ((h.1 c).2 1).trans (tables_at m hok c 1).symm,
    ((h.1 c).1 (0 : Fin 5)).trans ((dats m ρ hok 0 c).arrAt_in (0 : Fin 5) rfl _), ((h.1 c).1 (1 : Fin 5)).trans ((dats m ρ hok 0 c).arrAt_in (1 : Fin 5) rfl _),
    ((h.1 c).1 (2 : Fin 5)).trans ((dats m ρ hok 0 c).arrAt_in (2 : Fin 5) rfl _), ((h.1 c).1 (3 : Fin 5)).trans ((dats m ρ hok 0 c).arrAt_in (3 : Fin 5) rfl _)⟩, h.2⟩)
    (run m ρ hok)

end pipeline

end Cert.FfnIdeal.RefValue
-- ==== Proof.FfnValue.lean ====
/-
  The experts' feed-forward: what a block's rows come out as under its expert's weights, that the array left is that function
  of the arguments wherever the experts are in range, and that the reference computes the same.
-/
module

public import proofs.«01_k».proof.Defs
public import proofs.«01_k».proof.Proof.FfnFrame
public import proofs.«01_k».proof.Proof.Gen.Ffn
public import proofs.«01_k».proof.Proof.Gen.FfnRefIdeal.Run
public import proofs.«01_k».proof.Proof.Gen.Pre_experts
public import Idealize.ShloMosaic.Lib.Pointwise
public import Idealize.ShloMosaic.Lib.Pipeline.ValueKit
public import Idealize.ShloMosaic.Lib.ReduceAll
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The feed-forward of a row -/

namespace Cert.Experts

/-- The gated gate entry of a row `x`, of its products with the two input columns. -/
def gate (a b : EReal) : EReal := a * Ideal.logistic a * b

/-- Entry of a row's feed-forward: the gated products of the row, summed against a column of the output weights. -/
def ffn (x : Fin 1024 → EReal) (w1 w3 : Fin 1024 → Fin 384 → EReal) (w2 : Fin 384 → EReal) : EReal :=
  ∑ d, gate (∑ k, x k * w1 k d) (∑ k, x k * w3 k d) * w2 d

/-- The expert a block's word names. -/
def at64 (e : BitVec 32) : Fin 64 := ⟨e.toNat % 64, Nat.mod_lt _ (by decide)⟩

theorem at64_eq (e : BitVec 32) (h : e.toNat < 64) : (⟨e.toNat, h⟩ : Fin 64) = at64 e := Fin.ext (Nat.mod_eq_of_lt h).symm

/-- Row `r`, column `j`: the feed-forward of the row under its block's expert, where that block is used; zero elsewhere. -/
def out (be : IVec FfnIdeal.S224 32) (nu : IVec FfnIdeal.S1 32) (x : FVec Ideal FfnIdeal.S114688x1024 .bf16)
    (w1 w3 : FVec Ideal FfnIdeal.S64x1024x384 .f32) (w2 : FVec Ideal FfnIdeal.S64x384x1024 .f32) (r : Fin 114688) (j : Fin 1024) : EReal :=
  if BitVec.slt (BitVec.ofNat 32 (r.val / 512)) (nu (ix1 0)) = true then
    ffn (fun k => x (ix2 r k)) (fun k d => w1 (ix3 (at64 (be (ix1 ⟨r.val / 512, by omega⟩))) k d))
      (fun k d => w3 (ix3 (at64 (be (ix1 ⟨r.val / 512, by omega⟩))) k d)) (fun d => w2 (ix3 (at64 (be (ix1 ⟨r.val / 512, by omega⟩))) d j))
  else 0

/-- A gather of slices along the first axis, one index per slice, read at an entry. -/
theorem gather_slices {α : Type} {N M A B : ℕ} (hN : 0 < N)
    (wf : GatherDims.WF ⟨3, ![N, A, B]⟩ ⟨2, ![M, 1]⟩ ⟨3, ![M, A, B]⟩ [1, 2] [0] [] [0] [] 1 ![1, A, B])
    (x : (⟨3, ![N, A, B]⟩ : Shape).Idx → α) (idx : IVec ⟨2, ![M, 1]⟩ 32) (n : Fin M) (a : Fin A) (b : Fin B) :
    Host.gather (⟨[1, 2], [0], [], [], [0], 1, ![1, A, B], wf⟩ : GatherDims ⟨3, ![N, A, B]⟩ ⟨2, ![M, 1]⟩ ⟨3, ![M, A, B]⟩) x idx (ix3 n a b)
      = x (ix3 ⟨min (idx (ix2 n 0)).toInt.toNat (N - 1), by omega⟩ a b) := by
  unfold Host.gather
  congr 1
  funext k
  refine Fin.ext ?_
  generalize hd : (⟨[1, 2], [0], [], [], [0], 1, ![1, A, B], wf⟩ : GatherDims ⟨3, ![N, A, B]⟩ ⟨2, ![M, 1]⟩ ⟨3, ![M, A, B]⟩) = d
  show d.start (ix3 n a b) idx k + d.batchCoord (ix3 n a b) k + d.offCoord (ix3 n a b) k = _
  rw [GatherDims.batchCoord_eq_zero _ _ _ (by subst hd; exact List.not_mem_nil)]
  match k with
  | ⟨0, _⟩ =>
    rw [GatherDims.offCoord_eq_zero _ _ _ (by subst hd; exact fun h => ((GatherDims.mem_sKept _ _).mp h).1 (List.mem_singleton.mpr rfl))]
    subst hd
    simp only [Nat.add_zero]
    unfold GatherDims.start
    refine (dif_pos (List.mem_singleton.mpr rfl)).trans ?_
    refine congrArg (fun y => min (idx y).toInt.toNat (N - 1)) ?_
    funext c; refine Fin.ext ?_
    match c with
    | ⟨0, _⟩ => rfl
    | ⟨1, _⟩ => rfl
  | ⟨1, _⟩ =>
    subst hd
    unfold GatherDims.start
    rw [dif_neg (by simp)]
    simp only [Nat.zero_add, Nat.add_zero]
    rfl
  | ⟨2, _⟩ =>
    subst hd
    unfold GatherDims.start
    rw [dif_neg (by simp)]
    simp only [Nat.zero_add, Nat.add_zero]
    rfl

end Cert.Experts

/-! ## The kernel -/

namespace Cert.FfnIdeal.RefValue

open Cert.FfnIdeal Cert.FfnIdeal.Gen
open Cert.Experts

section tables
variable {F : FTy → Type} [FloatOps F] (m : (ℓ : Loc nD τ sig) → Buf (Elt F) ℓ)

/-- Experts in range, the pipeline's blocks are inside their arrays. -/
theorem ok_of (h : ∀ n, (expert m n).toNat < 64) : ok0 (pf m) := by
  have key : ∀ (i : grid0.Coords), (wHere 0 i (pf m 0)).toNat < 64 := fun i => by
    have hi : grid0.coords ⟨(i 0).val, (i 0).isLt⟩ = i := funext fun a => by
      match a with | ⟨0, _⟩ => exact Fin.ext (coord ⟨(i 0).val, (i 0).isLt⟩)
    rw [← hi, wHere_eq]
    exact h _
  refine ⟨fun i => ⟨fun a => ?_, Or.inl rfl⟩, fun i => ⟨fun a => ?_, Or.inl rfl⟩, fun i => ⟨fun a => ?_, Or.inl rfl⟩⟩
  · match a with
    | ⟨0, _⟩ => exact (show ((wHere 0 i (pf m 0)).toNat + 1) * 1 ≤ 64 by have := key i; omega)
    | ⟨1, _⟩ => exact (show (0 + 1) * 1024 ≤ 1024 by decide)
    | ⟨2, _⟩ => exact (show (0 + 1) * 384 ≤ 384 by decide)
  · match a with
    | ⟨0, _⟩ => exact (show ((wHere 0 i (pf m 0)).toNat + 1) * 1 ≤ 64 by have := key i; omega)
    | ⟨1, _⟩ => exact (show (0 + 1) * 1024 ≤ 1024 by decide)
    | ⟨2, _⟩ => exact (show (0 + 1) * 384 ≤ 384 by decide)
  · match a with
    | ⟨0, _⟩ => exact (show ((wHere 0 i (pf m 0)).toNat + 1) * 1 ≤ 64 by have := key i; omega)
    | ⟨1, _⟩ => exact (show (0 + 1) * 384 ≤ 384 by decide)
    | ⟨2, _⟩ => exact (show (0 + 1) * 1024 ≤ 1024 by decide)

end tables

/-- The two halves side by side, read at an entry of each. -/
theorem side_left (x1 x2 : FVec Ideal S1x1024x384 .f32) (k : Fin 1024) (d : Fin 384) :
    sideBySide (F := Ideal) x1 x2 (ix2 k ⟨d.val, by omega⟩) = x1 (ix3 0 k d) := by
  unfold sideBySide
  canon_tiles x h
  all_goals
    obtain ⟨a, b, rfl⟩ : ∃ (a : Fin 1024) (b : Fin 384), x = ix2 a b := ⟨x 0, x 1, eq_ix2 x⟩
    simp only [ix2_0, ix2_1] at h0 h1
    obtain rfl : k = a := Fin.ext h0
  · exact absurd d.isLt (by omega)
  · obtain rfl : d = b := Fin.ext h1
    pointwise [k0_pay1]

theorem side_right (x1 x2 : FVec Ideal S1x1024x384 .f32) (k : Fin 1024) (d : Fin 384) :
    sideBySide (F := Ideal) x1 x2 (ix2 k ⟨384 + d.val, by omega⟩) = x2 (ix3 0 k d) := by
  unfold sideBySide
  canon_tiles x h
  all_goals
    obtain ⟨a, b, rfl⟩ : ∃ (a : Fin 1024) (b : Fin 384), x = ix2 a b := ⟨x 0, x 1, eq_ix2 x⟩
    simp only [ix2_0, ix2_1] at h0 h1
    obtain rfl : k = a := Fin.ext h0
  · obtain rfl : d = b := Fin.ext (by omega)
    pointwise [k0_pay2]
  · exact absurd b.isLt (by omega)

theorem pay3_apply (x3 : FVec Ideal S1x384x1024 .f32) (d : Fin 384) (j : Fin 1024) : k0_pay3 (F := Ideal) x3 (ix2 d j) = x3 (ix3 0 d j) := by
  pointwise [k0_pay3]

theorem pay4_apply (x : FVec Ideal S512x1024 .bf16) (w : FVec Ideal S1024x768 .bf16) (w2 : FVec Ideal S384x1024 .bf16) (r : Fin 512) (j : Fin 1024) :
    k0_pay4 (F := Ideal) x w w2 (ix2 r j) = ∑ d : Fin 384, gate (∑ k, x (ix2 r k) * w (ix2 k ⟨d.val, by omega⟩)) (∑ k, x (ix2 r k) * w (ix2 k ⟨384 + d.val, by omega⟩)) * w2 (ix2 d j) := by
  unfold gate
  pointwise [k0_pay4]

/-- A used block's entry, of what its blocks of the arrays hold. -/
theorem used_apply (x0 : FVec Ideal S512x1024 .bf16) (x1 x2 : FVec Ideal S1x1024x384 .f32) (x3 : FVec Ideal S1x384x1024 .f32) (r : Fin 512) (j : Fin 1024)
    {x : Fin 1024 → EReal} {w1 w3 : Fin 1024 → Fin 384 → EReal} {w2 : Fin 384 → EReal} (h0 : ∀ k, x0 (ix2 r k) = x k) (h1 : ∀ k d, x1 (ix3 0 k d) = w1 k d)
    (h2 : ∀ k d, x2 (ix3 0 k d) = w3 k d) (h3 : ∀ d, x3 (ix3 0 d j) = w2 d) :
    k0_pay4 (F := Ideal) x0 (sideBySide x1 x2) (k0_pay3 (F := Ideal) x3) (ix2 r j) = ffn x w1 w3 w2 := by
  rw [pay4_apply]
  simp only [side_left, side_right, pay3_apply, h0, h1, h2, h3, ffn]

theorem pay5_apply (r : Fin 512) (j : Fin 1024) : k0_pay5 (F := Ideal) (ix2 r j) = 0 := by
  pointwise [k0_pay5]

variable (m : (ℓ : Loc nD τ sig) → Buf (Elt Ideal) ℓ) (ρ : Dev nD → PrngReg) (hok : ok0 (pf m))

abbrev G (c : Dev nD) : Buf (Elt Ideal) ((c : Thread nD τ).loc main_v0) :=
  fun i : S114688x1024.Idx => out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1)

/-- Every point writes its block of the output back. -/
theorem flush4 (t : Fin grid0.N) : ((cfgA m hok).win 4).flush t = true := by
  unfold Pipeline.Window.flush
  refine Bool.and_eq_true_iff.2 ⟨rfl, ?_⟩
  by_cases h : t.val + 1 = grid0.N
  · simp [h]
  · refine Bool.or_eq_true_iff.2 (Or.inr (decide_eq_true ⟨lt_of_le_of_ne (Nat.succ_le_of_lt t.isLt) h, fun e => ?_⟩))
    have e0 := congrFun e (0 : Fin 2)
    rw [(idx m hok _).2.2.2.2, (idx m hok t).2.2.2.2] at e0
    exact absurd e0 (Nat.succ_ne_self _)

theorem covers : ((cfgA m hok).win 4).Covers := by
  refine ⟨fun a => by match a with | ⟨0, _⟩ => exact (by decide : 0 < 512) | ⟨1, _⟩ => exact (by decide : 0 < 1024), fun β => ?_⟩
  have h0 : (β (0 : Fin 2)).val < 224 := (β (0 : Fin 2)).isLt.trans_le (by show (114688 + 512 - 1) / 512 ≤ 224; decide)
  have h1 : (β (1 : Fin 2)).val < 1 := (β (1 : Fin 2)).isLt.trans_le (by show (1024 + 1024 - 1) / 1024 ≤ 1; decide)
  refine ⟨⟨(β (0 : Fin 2)).val, h0⟩, flush4 m hok _, fun a => ⟨?_, Or.inl ?_⟩⟩
  · rw [(idx m hok _).2.2.2.2]
    match a with
    | ⟨0, _⟩ => rfl
    | ⟨1, _⟩ => exact (Nat.lt_one_iff.1 h1).symm
  · rfl

/-- The block a point leaves, entry by entry. -/
theorem block_eq (c : Dev nD) (t : Fin (cfgA m hok).N) (r : Fin 512) (j : Fin 1024) (h : 512 * t.val + r.val < 114688) :
    outBlock m hok c t (ix2 r j) = G m c (ix2 ⟨512 * t.val + r.val, h⟩ j) := by
  have ht : t.val < 224 := t.isLt
  have hd : (512 * t.val + r.val) / 512 = t.val := by omega
  have he : ∀ (p : (512 * t.val + r.val) / 512 < 224), (⟨(512 * t.val + r.val) / 512, p⟩ : Fin 224) = ⟨t.val, ht⟩ := fun _ => Fin.ext hd
  obtain rfl : c = 0 := Subsingleton.elim _ _
  unfold outBlock blockOf G out
  simp only [ix2_0, ix2_1, hd]
  have hu : Used (grid0.coords t) (nUsed m) ↔ BitVec.slt (BitVec.ofNat 32 t.val) (m (((0 : Dev nD) : Thread nD τ).loc main_arg1) (ix1 0)) = true := by
    unfold Used nUsed; rw [coord]
  by_cases hc : BitVec.slt (BitVec.ofNat 32 t.val) (m (((0 : Dev nD) : Thread nD τ).loc main_arg1) (ix1 0)) = true
  · rw [if_pos (hu.2 hc), if_pos hc]
    exact used_apply _ _ _ _ r j (fun k => rows_read m hok 0 t r k h)
      (fun k d => (w1_read m hok 0 t (expert_lt m hok t) k d).trans (by rw [at64_eq]; rfl))
      (fun k d => (w3_read m hok 0 t (expert_lt m hok t) k d).trans (by rw [at64_eq]; rfl))
      (fun d => (w2_read m hok 0 t (expert_lt m hok t) d j).trans (by rw [at64_eq]; rfl))
  · rw [if_neg (fun q => hc (hu.1 q)), if_neg hc, pay5_apply]

theorem final (c : Dev nD) : (dats m ρ hok 0 c).arrAt (4 : Fin 5) (cfgA m hok).N = G m c := by
  refine (dats m ρ hok 0 c).arrAt_eq_of_covers (4 : Fin 5) _ (covers m hok) fun t hf y => ?_
  have ht : t.val < 224 := t.isLt
  blk_simp
  rw [show (dats m ρ hok 0 c).after (4 : Fin 5) t = outBlock m hok c t from rfl]
  obtain ⟨r, j, rfl⟩ : ∃ (r : Fin 512) (j : Fin 1024), y = ix2 r j := ⟨y (0 : Fin 2), y (1 : Fin 2), eq_ix2 (n0 := 512) (n1 := 1024) y⟩
  have e : (((cfgA m hok).win 4).blk t).view.emb (ix2 r j) = ix2 (⟨512 * t.val + r.val, by omega⟩ : Fin 114688) j := by
    blk_ext [idx m hok t]
  exact (block_eq m hok c t r j _).trans (congrArg (G m c) e).symm

include hok in
/-- The kernel's run: the feed-forward in its result, its arguments as they were. -/
theorem run_ok : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h.1.1 c).1 (4 : Fin 5)).trans (final m ρ hok c), h.2.1 c⟩)
    (θ_run_and (run m ρ hok) (unchanged m ρ hok))

end Cert.FfnIdeal.RefValue

/-! ## The reference -/

namespace Cert.FfnRefIdeal.RefValue

open Cert.FfnRefIdeal Cert.FfnRefIdeal.Gen
open Cert.Experts

/-- The experts' numbers, a negative one counted from the end. -/
def chosen (be : IVec S224 32) : IVec S224x1 32 :=
  broadcastInDim S224x1 ![0] bcast_S224_S224x1_0 (select (cmpi .slt be (broadcastInDim S224 ![] bcast_S_S224 (constantI S_ 32 0#32)))
    (addi be (broadcastInDim S224 ![] bcast_S_S224 (constantI S_ 32 64#32))) be)

/-- The rows of every block times its expert's input weights. -/
def into (be : IVec S224 32) (x : FVec Ideal S114688x1024 .bf16) (w : FVec Ideal S64x1024x384 .f32) : FVec Ideal S224x512x384 .f32 :=
  Host.dotGeneral dot_S224x512x1024_S224x1024x384_S224x512x384_2_1_1_2_0_0 none
    (shapeCast S224x512x1024 (extf .f32 x bitsLt_bf16_f32) shapeCasts_S114688x1024_S224x512x1024)
    (Host.gather gather_S64x1024x384_S224x1_S224x1024x384_12_0_n_n_0_1_11024384 w (chosen be))

/-- The gated gate rows. -/
def gated (a b : FVec Ideal S224x512x384 .f32) : FVec Ideal S224x512x384 .f32 :=
  mulf (mulf a (Host.divf (broadcastInDim S224x512x384 ![] bcast_S_S224x512x384 (constant S_ .f32 0x3F800000#32))
    (addf (broadcastInDim S224x512x384 ![] bcast_S_S224x512x384 (constant S_ .f32 0x3F800000#32)) (Host.exp (Host.negf a))))) b

/-- The gate rows of every block times its expert's output weights. -/
def back (be : IVec S224 32) (h : FVec Ideal S224x512x384 .f32) (w : FVec Ideal S64x384x1024 .f32) : FVec Ideal S224x512x1024 .f32 :=
  Host.dotGeneral dot_S224x512x384_S224x384x1024_S224x512x1024_2_1_1_2_0_0 none h
    (Host.gather gather_S64x384x1024_S224x1_S224x384x1024_12_0_n_n_0_1_13841024 w (chosen be))

/-- The used blocks, zero elsewhere, row by row. -/
def kept (nu : IVec S1 32) (y : FVec Ideal S224x512x1024 .f32) : FVec Ideal S114688x1024 .bf16 :=
  truncf .bf16 (shapeCast S114688x1024 (select (broadcastInDim S224x512x1024 ![0, 1, 2] bcast_S224x1x1_S224x512x1024_0_1_2
      (cmpi .slt (broadcastInDim S224x1x1 ![0] bcast_S224_S224x1x1_0 (iotaInDim S224 32 0))
        (broadcastInDim S224x1x1 ![] bcast_S_S224x1x1 (shapeCast S_ nu shapeCasts_S1_S_)))) y
      (broadcastInDim S224x512x1024 ![] bcast_S_S224x512x1024 (id (constant S_ .f32 0x00000000#32))))
    shapeCasts_S224x512x1024_S114688x1024) bitsLt_bf16_f32

theorem not_neg (e : BitVec 32) (h : e.toNat < 64) : IntOp.cmpi .slt e 0#32 = 0#1 := by
  have : BitVec.slt e 0#32 = false := by
    simp only [BitVec.slt_eq_decide, decide_eq_false_iff_not, BitVec.toInt_eq_toNat_cond]
    simp; omega
  simp [IntOp.cmpi, this]

theorem chosen_apply (be : IVec S224 32) (n : Fin 224) (h : (be (ix1 n)).toNat < 64) : chosen be (ix2 n 0) = be (ix1 n) := by
  pointwise [chosen, not_neg _ h]

theorem clamp_eq (e : BitVec 32) (h : e.toNat < 64) (hm : min e.toInt.toNat (64 - 1) < 64) : (⟨min e.toInt.toNat (64 - 1), hm⟩ : Fin 64) = at64 e := by
  refine Fin.ext ?_
  have : e.toInt = e.toNat := by rw [BitVec.toInt_eq_toNat_cond]; omega
  show min e.toInt.toNat 63 = e.toNat % 64
  rw [this]; omega

theorem pick_in (be : IVec S224 32) (hb : ∀ n, (be (ix1 n)).toNat < 64) (w : FVec Ideal S64x1024x384 .f32) (n : Fin 224) (a : Fin 1024) (b : Fin 384) :
    Host.gather gather_S64x1024x384_S224x1_S224x1024x384_12_0_n_n_0_1_11024384 w (chosen be) (ix3 n a b) = w (ix3 (at64 (be (ix1 n))) a b) := by
  refine (gather_slices (N := 64) (M := 224) (A := 1024) (B := 384) (by decide) _ w (chosen be) n a b).trans ?_
  simp only [chosen_apply be n (hb n), clamp_eq _ (hb n)]

theorem pick_out (be : IVec S224 32) (hb : ∀ n, (be (ix1 n)).toNat < 64) (w : FVec Ideal S64x384x1024 .f32) (n : Fin 224) (a : Fin 384) (b : Fin 1024) :
    Host.gather gather_S64x384x1024_S224x1_S224x384x1024_12_0_n_n_0_1_13841024 w (chosen be) (ix3 n a b) = w (ix3 (at64 (be (ix1 n))) a b) := by
  refine (gather_slices (N := 64) (M := 224) (A := 384) (B := 1024) (by decide) _ w (chosen be) n a b).trans ?_
  simp only [chosen_apply be n (hb n), clamp_eq _ (hb n)]

theorem into_apply (be : IVec S224 32) (hb : ∀ n, (be (ix1 n)).toNat < 64) (x : FVec Ideal S114688x1024 .bf16) (w : FVec Ideal S64x1024x384 .f32)
    (n : Fin 224) (s : Fin 512) (d : Fin 384) :
    into be x w (ix3 n s d) = ∑ k : Fin 1024, x (ix2 ⟨512 * n.val + s.val, by omega⟩ k) * w (ix3 (at64 (be (ix1 n))) k d) := by
  simp only [← pick_in be hb]
  unfold into
  generalize Host.gather gather_S64x1024x384_S224x1_S224x1024x384_12_0_n_n_0_1_11024384 w (chosen be) = g
  pointwise
  simp only [Nat.mul_comm]

theorem back_apply (be : IVec S224 32) (hb : ∀ n, (be (ix1 n)).toNat < 64) (h : FVec Ideal S224x512x384 .f32) (w : FVec Ideal S64x384x1024 .f32)
    (n : Fin 224) (s : Fin 512) (j : Fin 1024) :
    back be h w (ix3 n s j) = ∑ d : Fin 384, h (ix3 n s d) * w (ix3 (at64 (be (ix1 n))) d j) := by
  simp only [← pick_out be hb]
  unfold back
  generalize Host.gather gather_S64x384x1024_S224x1_S224x384x1024_12_0_n_n_0_1_13841024 w (chosen be) = g
  pointwise

theorem gated_apply (a b : FVec Ideal S224x512x384 .f32) (i : S224x512x384.Idx) : gated a b i = gate (a i) (b i) := by
  unfold gate Ideal.logistic
  rw [← Ideal.ofBits_one_f32]
  rfl

theorem kept_apply (nu : IVec S1 32) (y : FVec Ideal S224x512x1024 .f32) (r : Fin 114688) (j : Fin 1024) :
    kept nu y (ix2 r j) = if BitVec.slt (BitVec.ofNat 32 (r.val / 512)) (nu (ix1 0)) = true
      then y (ix3 ⟨r.val / 512, by omega⟩ ⟨r.val % 512, by omega⟩ j) else 0 := by
  pointwise [kept]
  rw [show id (constant S_ .f32 0x00000000#32 : FVec Ideal S_ .f32) ix0 = 0 from Ideal.ofBits_zero_f32]
  cases h : BitVec.slt (BitVec.ofNat 32 (r.val / 512)) (nu (ix1 0)) <;> simp [Scalar.select, IntOp.cmpi, h]

theorem ref_eq (be : IVec S224 32) (hb : ∀ n, (be (ix1 n)).toNat < 64) (nu : IVec S1 32) (x : FVec Ideal S114688x1024 .bf16)
    (w1 w3 : FVec Ideal S64x1024x384 .f32) (w2 : FVec Ideal S64x384x1024 .f32) :
    kept nu (back be (gated (into be x w1) (into be x w3)) w2) = fun i : S114688x1024.Idx => out be nu x w1 w3 w2 (i 0) (i 1) := by
  funext i
  obtain ⟨r, j, rfl⟩ : ∃ (r : Fin 114688) (j : Fin 1024), i = ix2 r j := ⟨i 0, i 1, eq_ix2 i⟩
  have hr : 512 * (r.val / 512) + r.val % 512 = r.val := Nat.div_add_mod _ _
  rw [kept_apply]
  simp only [back_apply be hb, gated_apply, into_apply be hb, hr, out, ffn, ix2_0, ix2_1]
  rfl

variable (m : (ℓ : Loc nD τ sig) → Buf (Elt Ideal) ℓ) (ρ : Dev nD → PrngReg)

/-- The reference's run, its result named stage by stage. -/
theorem run : θ_run defs (onTc (τ := τ) (main (F := Ideal))) ⟨m, fun _ => 0, ρ⟩ fun r => ∀ c : Dev nD,
      r.2.mem ((c : Thread nD τ).loc main_v35) = kept (m ((c : Thread nD τ).loc main_arg1))
        (back (m ((c : Thread nD τ).loc main_arg0)) (gated (into (m ((c : Thread nD τ).loc main_arg0)) (m ((c : Thread nD τ).loc main_arg2)) (m ((c : Thread nD τ).loc main_arg3)))
          (into (m ((c : Thread nD τ).loc main_arg0)) (m ((c : Thread nD τ).loc main_arg2)) (m ((c : Thread nD τ).loc main_arg4)))) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1, (h c).2⟩) (Value.run m ρ)

end Cert.FfnRefIdeal.RefValue

/-! ## The claims -/

namespace Cert.Proof.FfnClaims

theorem in_range (e : BitVec 32) (h : IntOp.andi (IntOp.cmpi .sge e 0#32) (IntOp.cmpi .slt e 64#32) = 1#1) : e.toNat < 64 := by
  have ha := (by decide : ∀ a b : BitVec 1, IntOp.andi a b = 1#1 → a = 1#1 ∧ b = 1#1) _ _ h
  have hb : ∀ b : Bool, BitVec.ofBool b = 1#1 → b = true := by decide
  have h0 := hb _ ha.1
  have h1 := hb _ ha.2
  simp only [BitVec.sle_eq_decide, BitVec.slt_eq_decide, decide_eq_true_eq, BitVec.toInt_eq_toNat_cond] at h0 h1
  simp at h0 h1
  omega

/-- What the precondition says: every block's expert is one of the sixty-four. -/
theorem chosen {F : FTy → Type} [FloatOps F] {a0 a1 a2 a3 a4 a5} (h : Cert.Pre_experts.fn (F := F) a0 a1 a2 a3 a4 a5 = fun _ => 1#1) (n : Fin 224) :
    (a0 (ix1 n)).toNat < 64 := by
  have h0 := congrFun h ix0
  dsimp only [Cert.Pre_experts.fn] at h0
  exact in_range _ (Host.reduce_andi_all _ _ _ _ _ h0 (ix1 n))

theorem frame_k : Cert.quiescent_Ffn := fun m ρ hpre =>
  Eq.mp (by sl_kernel_rfl) (Cert.FfnIdeal.RefValue.unchanged (F := Bits) m ρ (Cert.FfnIdeal.RefValue.ok_of m (chosen (hpre 0))))

theorem frame_i : Cert.quiescent_FfnIdeal := fun m ρ hpre =>
  Cert.FfnIdeal.RefValue.unchanged m ρ (Cert.FfnIdeal.RefValue.ok_of m (chosen (hpre 0)))

theorem frame_r : Cert.quiescent_FfnRefIdeal := fun m ρ _ => (θ_run Cert.FfnRefIdeal.defs _ _).mono
  (fun r h => ⟨fun c => (h c).2, Idealize.ShloMosaic.sem_eq_zero_of_no_sems (by decide) r.2⟩)
  (Cert.FfnRefIdeal.Value.run (F := Ideal) m ρ)

theorem frame_rp : Cert.quiescent_FfnRefIdeal_pre_experts := fun m ρ _ => frame_r m ρ trivial

theorem algebraic : Cert.algebraic_FfnIdeal_FfnRefIdeal := fun m ρ m' ρ' hpre hag =>
  ⟨fun c => Cert.FfnIdeal.RefValue.G m c,
    Cert.FfnIdeal.RefValue.run_ok m ρ (Cert.FfnIdeal.RefValue.ok_of m (chosen (hpre 0))),
    (θ_run _ _ _).mono (fun _ h c => ⟨(h c).1.trans (by
      obtain ⟨e0, e1, e2, e3, e4, e5⟩ := hag c
      rw [e0, e1, e2, e3, e4, e5]
      exact FfnRefIdeal.RefValue.ref_eq _ (chosen (hpre c)) _ _ _ _ _), (h c).2⟩)
      (Cert.FfnRefIdeal.RefValue.run m' ρ')⟩

end Cert.Proof.FfnClaims

end
-- ==== Proof.Slot.lean ====
/-
  The arithmetic of one head's slot of 128 lanes: 64 lanes and then 32 are each divided by their root mean square and
  multiplied by a gain, the 32 are turned by the rotary tables, and the rest of the slot is zero. Stated over the extended
  reals, once as a slot's lanes are computed together and once part by part, with the equality of the two.
-/
module

public import proofs.«01_k».proof.Proof.Softmax

@[expose] public section

noncomputable section

namespace Cert.Slot

open Idealize.ShloMosaic

/-- Entry `k` of `x` divided by its root mean square (the sum of squares over `N`, plus 1e-6) and multiplied by the gain. -/
def rms {n : ℕ} (N : EReal) (x g : Fin n → EReal) (k : Fin n) : EReal :=
  x k * Ideal.rsqrt (Ideal.div (∑ j, x j * x j) N + Ideal.ofBits .f32 0x358637BD#32) * g k

/-- A normalised row times a column of weights. -/
def project {n : ℕ} (N : EReal) (x g w : Fin n → EReal) : EReal := ∑ k, rms N x g k * w k

/-- The weight of lane `k`'s square in lane `l`'s mean: one part has 64 lanes, the other 32. -/
def seg (k l : Fin 128) : EReal :=
  if k.val < 64 ∧ l.val < 64 then Ideal.ofBits .f32 0x3C800000#32
  else if (64 ≤ k.val ∧ k.val < 96) ∧ 64 ≤ l.val ∧ l.val < 96 then Ideal.ofBits .f32 0x3D000000#32 else 0

/-- A slot's lanes divided by the root of their squares' mean with weights `w`, the squares taken in two summands. -/
def norm (w : Fin 128 → Fin 128 → EReal) (x g : Fin 128 → EReal) (l : Fin 128) : EReal :=
  x l * Ideal.rsqrt (∑ k, x k * x k * w k l + ∑ k, (x k * x k - x k * x k) * w k l
    + Ideal.ofBits .f32 0x358637BD#32) * g l

/-- A table's lanes 64 to 79, negated, and its lanes 80 to 95: the others are zero. -/
def lower (s : Fin 128 → EReal) (l : Fin 128) : EReal := if 64 ≤ l.val ∧ l.val < 80 then 0 - s l else 0
def upper (s : Fin 128 → EReal) (l : Fin 128) : EReal := if 80 ≤ l.val ∧ l.val < 96 then s l else 0

/-- A slot's lanes turned by the tables `c`, `a` and `b`, as two rotations of the slot. -/
def turn (y c a b : Fin 128 → EReal) (l : Fin 128) : EReal :=
  y l * c l + y ⟨(l.val + 128 - 112) % 128, by omega⟩ * a l + y ⟨(l.val + 128 - 16) % 128, by omega⟩ * b l

/-- 32 lanes turned: the first 16 are the first coordinates, the others the second. -/
def rot (x : Fin 32 → EReal) (c s : Fin 16 → EReal) (l : Fin 32) : EReal :=
  if h : l.val < 16 then x l * c ⟨l.val, h⟩ - x ⟨16 + l.val, by omega⟩ * s ⟨l.val, h⟩
  else x ⟨l.val - 16, by omega⟩ * s ⟨l.val - 16, by omega⟩ + x l * c ⟨l.val - 16, by omega⟩

/-- A slot of 64 lanes, 32 lanes and zeros. -/
def head (a : Fin 64 → EReal) (b : Fin 32 → EReal) (l : Fin 128) : EReal :=
  if h : l.val < 64 then a ⟨l.val, h⟩ else if h' : l.val < 96 then b ⟨l.val - 64, by omega⟩ else 0

/-- `n` lanes from lane `o`, zeros elsewhere. -/
def room {n : ℕ} (o : ℕ) (x : Fin n → EReal) (l : Fin 128) : EReal :=
  if h : o ≤ l.val ∧ l.val - o < n then x ⟨l.val - o, h.2⟩ else 0

theorem w64 : Ideal.ofBits .f32 0x3C800000#32 = ((64⁻¹ : ℝ) : EReal) := by
  simp [Ideal.ofBits, Ideal.ieee, -EReal.coe_mul]; norm_num

theorem w32 : Ideal.ofBits .f32 0x3D000000#32 = ((32⁻¹ : ℝ) : EReal) := by
  simp [Ideal.ofBits, Ideal.ieee, -EReal.coe_mul]; norm_num

theorem n64 : Ideal.ofBits .f32 0x42800000#32 = ((64 : ℝ) : EReal) := by
  simp [Ideal.ofBits, Ideal.ieee, -EReal.coe_mul]; norm_num

theorem n32 : Ideal.ofBits .f32 0x42000000#32 = ((32 : ℝ) : EReal) := by
  simp [Ideal.ofBits, Ideal.ieee, -EReal.coe_mul]; norm_num

theorem n512 : Ideal.ofBits .f32 0x44000000#32 = ((512 : ℝ) : EReal) := by
  simp [Ideal.ofBits, Ideal.ieee, -EReal.coe_mul]; norm_num

theorem n256 : Ideal.ofBits .f32 0x43800000#32 = ((256 : ℝ) : EReal) := by
  simp [Ideal.ofBits, Ideal.ieee, -EReal.coe_mul]; norm_num

theorem eps_pos : ∃ e : ℝ, 0 < e ∧ Ideal.ofBits .f32 0x358637BD#32 = ((e : ℝ) : EReal) := by
  refine ⟨8796093 * (2 : ℝ) ^ (-43 : ℤ), by positivity, ?_⟩
  simp [Ideal.ofBits, Ideal.ieee, -EReal.coe_mul]

theorem scale_nonneg : ∃ e : ℝ, 0 ≤ e ∧ Ideal.ofBits .f32 0x3E16C740#32 = ((e : ℝ) : EReal) := by
  refine ⟨9881408 * (2 : ℝ) ^ (-26 : ℤ), by positivity, ?_⟩
  simp [Ideal.ofBits, Ideal.ieee, -EReal.coe_mul]

theorem rms_real {n : ℕ} {N : ℝ} (hN : 0 < N) (x g : Fin n → EReal) (hx : ∀ k, ∃ r : ℝ, x k = r) (hg : ∀ k, ∃ r : ℝ, g k = r)
    (k : Fin n) : ∃ r : ℝ, rms (N : EReal) x g k = r := by
  choose a ha using hx
  choose b hb using hg
  obtain ⟨e, he, hE⟩ := eps_pos
  have hs : ∑ j, x j * x j = ((∑ j, a j * a j : ℝ) : EReal) := by
    rw [← Softmax.sum_coe]
    exact Finset.sum_congr rfl fun j _ => by rw [ha, EReal.coe_mul]
  have hp : 0 < (∑ j, a j * a j) / N + e :=
    add_pos_of_nonneg_of_pos (div_nonneg (Finset.sum_nonneg fun j _ => mul_self_nonneg _) hN.le) he
  refine ⟨a k * (Real.sqrt ((∑ j, a j * a j) / N + e))⁻¹ * b k, ?_⟩
  unfold rms
  rw [hs, hE, Ideal.div_coe hN.ne', one_div, ← EReal.coe_mul, ← div_eq_mul_inv (∑ j, a j * a j) N, ← EReal.coe_add, Ideal.rsqrt_coe,
    if_neg hp.not_gt, if_neg hp.ne', ha, hb, ← EReal.coe_mul, ← EReal.coe_mul]

/-- A gain multiplied by a number multiplies the result by it. -/
theorem rms_scale {n : ℕ} (N : EReal) (x g : Fin n → EReal) (s : EReal) (k : Fin n) :
    rms N x (fun k => g k * s) k = rms N x g k * s := by
  unfold rms
  rw [mul_assoc _ (g k) s]

theorem sq_sub {x : EReal} (h : ∃ r : ℝ, x = r) : x * x - x * x = 0 := by
  obtain ⟨r, rfl⟩ := h
  rw [← EReal.coe_mul, ← EReal.coe_sub, sub_self, EReal.coe_zero]

/-- A part's mean: the weight taken out of the sum. -/
theorem mean_eq {n : ℕ} (f : Fin n → EReal) {N : ℝ} (hN : 0 < N) : ∑ k, f k * ((N⁻¹ : ℝ) : EReal) = Ideal.div (∑ k, f k) (N : EReal) := by
  rw [Ideal.div_coe hN.ne', one_div, Softmax.sum_mul_coe _ (by positivity)]

theorem norm_low (x g : Fin 128 → EReal) (hx : ∀ k, ∃ r : ℝ, x k = r) (l : Fin 64) (h : l.val < 128) :
    norm seg x g ⟨l.val, h⟩ = rms (Ideal.ofBits .f32 0x42800000#32) (fun k : Fin 64 => x ⟨k.val, by omega⟩) (fun k => g ⟨k.val, by omega⟩) l := by
  have h0 : ∑ k, (x k * x k - x k * x k) * seg k ⟨l.val, h⟩ = 0 :=
    Finset.sum_eq_zero fun k _ => by rw [sq_sub (hx k), zero_mul]
  have h1 : ∑ k, x k * x k * seg k ⟨l.val, h⟩ = Ideal.div (∑ k : Fin 64, x ⟨k.val, by omega⟩ * x ⟨k.val, by omega⟩) (Ideal.ofBits .f32 0x42800000#32) := by
    rw [n64, ← mean_eq _ (by norm_num : (0 : ℝ) < 64)]
    refine (Fin.sum_univ_add (a := 64) (b := 64) fun k => x k * x k * seg k ⟨l.val, h⟩).trans ?_
    rw [Finset.sum_eq_zero (s := Finset.univ) (f := fun k : Fin 64 => x (Fin.natAdd 64 k) * x (Fin.natAdd 64 k) * seg (Fin.natAdd 64 k) ⟨l.val, h⟩), add_zero]
    · refine Finset.sum_congr rfl fun k _ => ?_
      have e : seg (Fin.castAdd 64 k) ⟨l.val, h⟩ = ((64⁻¹ : ℝ) : EReal) := by
        unfold seg
        rw [if_pos ⟨k.isLt, l.isLt⟩, w64]
      rw [e]
      rfl
    · intro k _
      have e : seg (Fin.natAdd 64 k) ⟨l.val, h⟩ = 0 := by
        unfold seg
        rw [if_neg (fun h => absurd h.1 (by show ¬ 64 + k.val < 64; omega)), if_neg (fun h => absurd h.2.1 (by show ¬ 64 ≤ l.val; omega))]
      rw [e, mul_zero]
  unfold norm rms
  rw [h0, h1, add_zero]

theorem norm_mid (x g : Fin 128 → EReal) (hx : ∀ k, ∃ r : ℝ, x k = r) (l : Fin 32) (h : 64 + l.val < 128) :
    norm seg x g ⟨64 + l.val, h⟩ = rms (Ideal.ofBits .f32 0x42000000#32) (fun k : Fin 32 => x ⟨64 + k.val, by omega⟩) (fun k => g ⟨64 + k.val, by omega⟩) l := by
  have h0 : ∑ k, (x k * x k - x k * x k) * seg k ⟨64 + l.val, h⟩ = 0 :=
    Finset.sum_eq_zero fun k _ => by rw [sq_sub (hx k), zero_mul]
  have h1 : ∑ k, x k * x k * seg k ⟨64 + l.val, h⟩ = Ideal.div (∑ k : Fin 32, x ⟨64 + k.val, by omega⟩ * x ⟨64 + k.val, by omega⟩) (Ideal.ofBits .f32 0x42000000#32) := by
    rw [n32, ← mean_eq _ (by norm_num : (0 : ℝ) < 32)]
    refine (Fin.sum_univ_add (a := 64) (b := 64) fun k => x k * x k * seg k ⟨64 + l.val, h⟩).trans ?_
    rw [Finset.sum_eq_zero (s := Finset.univ) (f := fun k : Fin 64 => x (Fin.castAdd 64 k) * x (Fin.castAdd 64 k) * seg (Fin.castAdd 64 k) ⟨64 + l.val, h⟩), zero_add]
    · refine (Fin.sum_univ_add (a := 32) (b := 32) fun k => x (Fin.natAdd 64 k) * x (Fin.natAdd 64 k) * seg (Fin.natAdd 64 k) ⟨64 + l.val, h⟩).trans ?_
      rw [Finset.sum_eq_zero (s := Finset.univ) (f := fun k : Fin 32 => x (Fin.natAdd 64 (Fin.natAdd 32 k)) * x (Fin.natAdd 64 (Fin.natAdd 32 k)) * seg (Fin.natAdd 64 (Fin.natAdd 32 k)) ⟨64 + l.val, h⟩), add_zero]
      · refine Finset.sum_congr rfl fun k _ => ?_
        have e : seg (Fin.natAdd 64 (Fin.castAdd 32 k)) ⟨64 + l.val, h⟩ = ((32⁻¹ : ℝ) : EReal) := by
          unfold seg
          rw [if_neg (fun h => absurd h.2 (by show ¬ 64 + l.val < 64; omega)),
            if_pos ⟨⟨by show 64 ≤ 64 + k.val; omega, by show 64 + k.val < 96; omega⟩, by show 64 ≤ 64 + l.val; omega, by show 64 + l.val < 96; omega⟩, w32]
        rw [e]
        rfl
      · intro k _
        have e : seg (Fin.natAdd 64 (Fin.natAdd 32 k)) ⟨64 + l.val, h⟩ = 0 := by
          unfold seg
          rw [if_neg (fun h => absurd h.2 (by show ¬ 64 + l.val < 64; omega)), if_neg (fun h => absurd h.1.2 (by show ¬ 64 + (32 + k.val) < 96; omega))]
        rw [e, mul_zero]
    · intro k _
      have e : seg (Fin.castAdd 64 k) ⟨64 + l.val, h⟩ = 0 := by
        unfold seg
        rw [if_neg (fun h => absurd h.2 (by show ¬ 64 + l.val < 64; omega)), if_neg (fun h => absurd h.1.1 (by show ¬ 64 ≤ k.val; omega))]
      rw [e, mul_zero]
  unfold norm rms
  rw [h0, h1, add_zero]

/-- The two rotations of a slot are its parts' turn: the tables are 1 before lane 64 and alike over the halves of the 32
    lanes that follow, and what lies beyond them is zero. -/
theorem turn_eq (y c s : Fin 128 → EReal) (hc : ∀ l, l.val < 64 → c l = 1) (hy : ∀ l, 96 ≤ l.val → y l = 0)
    (hcc : ∀ k : Fin 16, c ⟨64 + k.val, by omega⟩ = c ⟨80 + k.val, by omega⟩)
    (hss : ∀ k : Fin 16, s ⟨64 + k.val, by omega⟩ = s ⟨80 + k.val, by omega⟩) (l : Fin 128) :
    turn y c (lower s) (upper s) l = head (fun k => y ⟨k.val, by omega⟩) (rot (fun k => y ⟨64 + k.val, by omega⟩)
      (fun k => c ⟨64 + k.val, by omega⟩) (fun k => s ⟨64 + k.val, by omega⟩)) l := by
  unfold turn lower upper head
  by_cases h0 : l.val < 64
  · rw [dif_pos h0, hc l h0, if_neg (by omega), if_neg (by omega)]
    simp only [mul_one, mul_zero, add_zero]
  rw [dif_neg h0]
  by_cases h1 : l.val < 96
  · rw [dif_pos h1]
    unfold rot
    by_cases h2 : l.val < 80
    · rw [dif_pos (show l.val - 64 < 16 by omega), if_pos (by omega), if_neg (by omega)]
      have e0 : (⟨64 + (l.val - 64), by omega⟩ : Fin 128) = l := Fin.ext (by show 64 + (l.val - 64) = l.val; omega)
      have e1 : (⟨64 + (16 + (l.val - 64)), by omega⟩ : Fin 128) = ⟨(l.val + 128 - 112) % 128, by omega⟩ :=
        Fin.ext (by show 64 + (16 + (l.val - 64)) = (l.val + 128 - 112) % 128; omega)
      simp only [e0, e1, mul_zero, add_zero, zero_sub, mul_neg]
      rw [sub_eq_add_neg]
    · rw [dif_neg (show ¬ l.val - 64 < 16 by omega), if_neg (by omega), if_pos (by omega)]
      have e0 : (⟨64 + (l.val - 64), by omega⟩ : Fin 128) = l := Fin.ext (by show 64 + (l.val - 64) = l.val; omega)
      have e1 : (⟨64 + (l.val - 64 - 16), by omega⟩ : Fin 128) = ⟨(l.val + 128 - 16) % 128, by omega⟩ :=
        Fin.ext (by show 64 + (l.val - 64 - 16) = (l.val + 128 - 16) % 128; omega)
      have e2 : (⟨80 + (l.val - 64 - 16), by omega⟩ : Fin 128) = l := Fin.ext (by show 80 + (l.val - 64 - 16) = l.val; omega)
      have h3 := hcc ⟨l.val - 64 - 16, by omega⟩
      have h4 := hss ⟨l.val - 64 - 16, by omega⟩
      simp only [e2] at h3 h4
      simp only [h3, h4]
      simp only [e0, e1, mul_zero, add_zero]
      rw [add_comm]
  · rw [dif_neg h1, hy l (by omega), if_neg (by omega), if_neg (by omega)]
    simp only [zero_mul, mul_zero, add_zero]

theorem rot_scale (x : Fin 32 → EReal) (c s : Fin 16 → EReal) {e : ℝ} (he : 0 ≤ e) (l : Fin 32) :
    rot (fun k => x k * (e : EReal)) c s l = rot x c s l * (e : EReal) := by
  have h0 := EReal.coe_nonneg.mpr he
  have h1 := EReal.coe_ne_top e
  unfold rot
  split <;> beta_reduce
  · rw [sub_eq_add_neg, sub_eq_add_neg, EReal.right_distrib_of_nonneg_of_ne_top h0 h1, neg_mul,
      mul_right_comm, mul_right_comm (x _) (e : EReal) (s _)]
  · rw [EReal.right_distrib_of_nonneg_of_ne_top h0 h1, mul_right_comm, mul_right_comm (x _) (e : EReal) (c _)]

theorem head_scale (a : Fin 64 → EReal) (b : Fin 32 → EReal) (e : EReal) (l : Fin 128) :
    head (fun k => a k * e) (fun k => b k * e) l = head a b l * e := by
  unfold head
  split
  · rfl
  split
  · rfl
  · rw [zero_mul]

theorem room_real {n : ℕ} (o : ℕ) (x : Fin n → EReal) (hx : ∀ k, ∃ r : ℝ, x k = r) (l : Fin 128) : ∃ r : ℝ, room o x l = r := by
  unfold room
  split
  · exact hx _
  · exact ⟨0, EReal.coe_zero.symm⟩

/-- A query's slot: the kernel's lanes are the parts, normalised and turned, all scaled at the end. -/
theorem query_eq (x g : Fin 96 → EReal) (hx : ∀ k, ∃ r : ℝ, x k = r) (c s : Fin 128 → EReal) (hc : ∀ l, l.val < 64 → c l = 1)
    (hcc : ∀ k : Fin 16, c ⟨64 + k.val, by omega⟩ = c ⟨80 + k.val, by omega⟩)
    (hss : ∀ k : Fin 16, s ⟨64 + k.val, by omega⟩ = s ⟨80 + k.val, by omega⟩) {e : ℝ} (he : 0 ≤ e) (l : Fin 128) :
    turn (norm seg (room 0 x) (fun l => room 0 g l * (e : EReal))) c (lower s) (upper s) l
      = head (rms (Ideal.ofBits .f32 0x42800000#32) (fun k => x ⟨k.val, by omega⟩) (fun k => g ⟨k.val, by omega⟩))
        (rot (rms (Ideal.ofBits .f32 0x42000000#32) (fun k => x ⟨64 + k.val, by omega⟩) (fun k => g ⟨64 + k.val, by omega⟩))
          (fun k => c ⟨64 + k.val, by omega⟩) (fun k => s ⟨64 + k.val, by omega⟩)) l * (e : EReal) := by
  have hr := room_real 0 x hx
  have r0 : ∀ (z : Fin 96 → EReal) (l : Fin 128) (h : l.val < 96), room 0 z l = z ⟨l.val, h⟩ := fun z l h => dif_pos ⟨Nat.zero_le _, h⟩
  rw [turn_eq _ c s hc _ hcc hss, ← head_scale]
  · simp only [← rot_scale _ _ _ he]
    congr 1
    · funext k
      rw [norm_low _ _ hr, ← rms_scale]
      congr 1
      · funext k; exact r0 x _ (by show k.val < 96; omega)
      · funext k; rw [r0 g ⟨k.val, _⟩ (by show k.val < 96; omega)]
    · funext k
      congr 1
      funext k
      rw [norm_mid _ _ hr, ← rms_scale]
      congr 1
      · funext k; exact r0 x _ (by show 64 + k.val < 96; omega)
      · funext k; rw [r0 g ⟨64 + k.val, _⟩ (by show 64 + k.val < 96; omega)]
  · intro l h
    unfold norm
    rw [show room 0 x l = 0 from dif_neg (fun h' => absurd h'.2 (by omega))]
    simp only [zero_mul]

/-- A key's slot: the head's part and the part all heads share, normalised apart and added. -/
theorem key_eq (x : Fin 64 → EReal) (z : Fin 128 → EReal) (g : Fin 96 → EReal) (hx : ∀ k, ∃ r : ℝ, x k = r) (hz : ∀ k, ∃ r : ℝ, z k = r)
    (c s : Fin 128 → EReal) (hc : ∀ l, l.val < 64 → c l = 1)
    (hcc : ∀ k : Fin 16, c ⟨64 + k.val, by omega⟩ = c ⟨80 + k.val, by omega⟩)
    (hss : ∀ k : Fin 16, s ⟨64 + k.val, by omega⟩ = s ⟨80 + k.val, by omega⟩) (l : Fin 128) :
    norm seg (room 0 x) (room 0 fun k : Fin 64 => g ⟨k.val, by omega⟩) l
        + turn (norm seg z (room 64 fun k : Fin 32 => g ⟨64 + k.val, by omega⟩)) c (lower s) (upper s) l
      = head (rms (Ideal.ofBits .f32 0x42800000#32) x (fun k => g ⟨k.val, by omega⟩))
        (rot (rms (Ideal.ofBits .f32 0x42000000#32) (fun k => z ⟨64 + k.val, by omega⟩) (fun k => g ⟨64 + k.val, by omega⟩))
          (fun k => c ⟨64 + k.val, by omega⟩) (fun k => s ⟨64 + k.val, by omega⟩)) l := by
  have hr := room_real 0 x hx
  have r0 : ∀ (z : Fin 64 → EReal) (l : Fin 128) (h : l.val < 64), room 0 z l = z ⟨l.val, h⟩ := fun z l h => dif_pos ⟨Nat.zero_le _, h⟩
  have g0 : ∀ l : Fin 128, (l.val < 64 ∨ 96 ≤ l.val) → norm seg z (room 64 fun k : Fin 32 => g ⟨64 + k.val, by omega⟩) l = 0 := by
    intro l h
    unfold norm
    rw [show room 64 (fun k : Fin 32 => g ⟨64 + k.val, by omega⟩) l = 0 from dif_neg (by omega), mul_zero]
  rw [turn_eq _ c s hc (fun l h => g0 l (Or.inr h)) hcc hss]
  unfold head
  by_cases h0 : l.val < 64
  · rw [dif_pos h0, dif_pos h0]
    beta_reduce
    rw [g0 ⟨l.val, _⟩ (Or.inl h0), add_zero]
    refine (norm_low _ _ hr ⟨l.val, h0⟩ l.isLt).trans ?_
    congr 1
    · funext k; exact r0 x _ k.isLt
    · funext k; exact r0 _ _ k.isLt
  have hn : norm seg (room 0 x) (room 0 fun k : Fin 64 => g ⟨k.val, by omega⟩) l = 0 := by
    unfold norm
    rw [show room 0 x l = 0 from dif_neg (by omega)]
    simp only [zero_mul]
  rw [dif_neg h0, dif_neg h0, hn, zero_add]
  by_cases h1 : l.val < 96
  · rw [dif_pos h1, dif_pos h1]
    congr 1
    funext k
    rw [norm_mid _ _ hz]
    congr 1
    funext k
    refine (dif_pos (show 64 ≤ 64 + k.val ∧ 64 + k.val - 64 < 32 by omega)).trans ?_
    exact congrArg g (Fin.ext (by show 64 + (64 + k.val - 64) = 64 + k.val; omega))
  · rw [dif_neg h1, dif_neg h1]

end Cert.Slot

end
-- ==== Proof.PrepBody.lean ====
/-
  The preparation of the latent attention's queries, keys and values: what the body computes, read at one index.
-/
module

public import proofs.«01_k».proof.Proof.Slot
public import proofs.«01_k».proof.Proof.Gen.PrepIdeal.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PrepIdeal.RefValue

open Cert.PrepIdeal Cert.PrepIdeal.Gen

/-! ## The body's pieces -/

theorem pay4_apply (g : FVec Ideal S1x512 .f32) (k : Fin 512) : k0_pay4 (F := Ideal) g (ix2 0 k) = g (ix2 0 k) := by
  pointwise [k0_pay4]

theorem pay5_apply (x : FVec Ideal S512x512 .bf16) (r : Fin 512) (k : Fin 512) : k0_pay5 (F := Ideal) x (ix2 r k)
    = x (ix2 r k) * Ideal.rsqrt (Ideal.div (∑ j, x (ix2 r j) * x (ix2 r j)) (Ideal.ofBits .f32 0x44000000#32) + Ideal.ofBits .f32 0x358637BD#32) := by
  pointwise [k0_pay5]

/-- The queries before the heads' norms. -/
theorem pay6_apply (g : FVec Ideal S1x512 .f32) (x : FVec Ideal S512x512 .bf16) (w : FVec Ideal S512x1024 .bf16) (r : Fin 512) (j : Fin 1024) :
    k0_pay6 (F := Ideal) (k0_pay4 g) (k0_pay5 x) w (ix2 r j)
      = ∑ k, Slot.rms (Ideal.ofBits .f32 0x44000000#32) (fun k => x (ix2 r k)) (fun k => g (ix2 0 k)) k * w (ix2 k j) := by
  unfold Slot.rms
  pointwise [k0_pay6, pay4_apply, pay5_apply]

/-- The keys and values before the heads' norms. -/
theorem pay24_apply (x : FVec Ideal S512x256 .bf16) (g : FVec Ideal S1x256 .f32) (w : FVec Ideal S256x1536 .bf16) (r : Fin 512) (j : Fin 1536) :
    k0_pay24 (F := Ideal) x g w (ix2 r j)
      = ∑ k, Slot.rms (Ideal.ofBits .f32 0x43800000#32) (fun k => x (ix2 r k)) (fun k => g (ix2 0 k)) k * w (ix2 k j) := by
  unfold Slot.rms
  pointwise [k0_pay24]

theorem mask (a b : BitVec 32) (l : Fin 128) (x y : EReal) {p : Prop} [Decidable p]
    (h : IntOp.andi (IntOp.cmpi .sge (BitVec.ofNat 32 l.val) a) (IntOp.cmpi .slt (BitVec.ofNat 32 l.val) b) = 1#1 ↔ p) :
    Scalar.select (IntOp.andi (IntOp.cmpi .sge (BitVec.ofNat 32 l.val) a) (IntOp.cmpi .slt (BitVec.ofNat 32 l.val) b)) x y
      = if p then x else y := by
  by_cases hp : p
  · exact (if_pos (h.2 hp)).trans (if_pos hp).symm
  · exact (if_neg fun e => hp (h.1 e)).trans (if_neg hp).symm

theorem mask_low : ∀ l : Fin 128, IntOp.andi (IntOp.cmpi .sge (BitVec.ofNat 32 l.val) 64#32) (IntOp.cmpi .slt (BitVec.ofNat 32 l.val) 80#32) = 1#1
    ↔ 64 ≤ l.val ∧ l.val < 80 := by decide +kernel

theorem mask_high : ∀ l : Fin 128, IntOp.andi (IntOp.cmpi .sge (BitVec.ofNat 32 l.val) 80#32) (IntOp.cmpi .slt (BitVec.ofNat 32 l.val) 96#32) = 1#1
    ↔ 80 ≤ l.val ∧ l.val < 96 := by decide +kernel

theorem pay1_apply (s : FVec Ideal S512x128 .f32) (r : Fin 512) (l : Fin 128) :
    k0_pay1 (F := Ideal) s (ix2 r l) = Slot.lower (fun l => s (ix2 r l)) l := by
  pointwise [k0_pay1]
  exact mask _ _ l _ _ (mask_low l)

theorem pay2_apply (s : FVec Ideal S512x128 .f32) (r : Fin 512) (l : Fin 128) :
    k0_pay2 (F := Ideal) s (ix2 r l) = Slot.upper (fun l => s (ix2 r l)) l := by
  pointwise [k0_pay2]
  exact mask _ _ l _ _ (mask_high l)

theorem pay3_apply (w : FVec Ideal S128x128 .bf16) (k l : Fin 128) : k0_pay3 (F := Ideal) w (ix2 k l) = w (ix2 k l) := by
  pointwise [k0_pay3]

section
variable (c s : FVec Ideal S512x128 .f32) (w : FVec Ideal S128x128 .bf16) (x : FVec Ideal S512x1024 .f32) (g : FVec Ideal S1x128 .f32)
  (r : Fin 512) (l : Fin 128)

/-- Lane `l` of a query slot that starts at lane `o`. -/
def slotQ (x : FVec Ideal S512x1024 .f32) (o : ℕ) (ho : o + 128 ≤ 1024) : EReal :=
  Slot.turn (Slot.norm (fun k l => w (ix2 k l)) (fun l => x (ix2 r ⟨o + l.val, by omega⟩)) (fun l => g (ix2 0 l)))
    (fun l => c (ix2 r l)) (Slot.lower fun l => s (ix2 r l)) (Slot.upper fun l => s (ix2 r l)) l

theorem q0 (g5 : FVec Ideal S1x512 .f32) (x5 : FVec Ideal S512x512 .bf16) (w5 : FVec Ideal S512x1024 .bf16) :
    k0_pay7 (F := Ideal) c (k0_pay1 s) (k0_pay2 s) (k0_pay3 w) (k0_pay4 g5) (k0_pay5 x5) w5 g (ix2 r l)
      = slotQ c s w g r l (k0_pay6 (k0_pay4 g5) (k0_pay5 x5) w5) 0 (by omega) := by
  unfold slotQ Slot.turn Slot.norm
  rw [← pay1_apply, ← pay2_apply]
  generalize k0_pay1 (F := Ideal) s = a, k0_pay2 (F := Ideal) s = b
  pointwise [k0_pay7, pay3_apply]

theorem q1 (g5 : FVec Ideal S1x512 .f32) (x5 : FVec Ideal S512x512 .bf16) (w5 : FVec Ideal S512x1024 .bf16) :
    k0_pay11 (F := Ideal) c (k0_pay1 s) (k0_pay2 s) (k0_pay8 (k0_pay4 g5) (k0_pay5 x5) w5) (k0_pay9 g)
        (k0_pay10 (k0_pay3 w) (k0_pay4 g5) (k0_pay5 x5) w5) (ix2 r l)
      = slotQ c s w g r l (k0_pay6 (k0_pay4 g5) (k0_pay5 x5) w5) 128 (by omega) := by
  unfold slotQ Slot.turn Slot.norm
  rw [← pay1_apply, ← pay2_apply]
  generalize k0_pay1 (F := Ideal) s = a, k0_pay2 (F := Ideal) s = b
  pointwise [k0_pay11, k0_pay10, k0_pay9, k0_pay8, pay3_apply]

theorem q2 : k0_pay12 (F := Ideal) c (k0_pay1 s) (k0_pay2 s) (k0_pay3 w) x g (ix2 r l) = slotQ c s w g r l x 256 (by omega) := by
  unfold slotQ Slot.turn Slot.norm
  rw [← pay1_apply, ← pay2_apply]
  generalize k0_pay1 (F := Ideal) s = a, k0_pay2 (F := Ideal) s = b
  pointwise [k0_pay12, pay3_apply]

theorem q3 : k0_pay14 (F := Ideal) c (k0_pay1 s) (k0_pay2 s) (k0_pay3 w) (k0_pay13 x) g (ix2 r l) = slotQ c s w g r l x 384 (by omega) := by
  unfold slotQ Slot.turn Slot.norm
  rw [← pay1_apply, ← pay2_apply]
  generalize k0_pay1 (F := Ideal) s = a, k0_pay2 (F := Ideal) s = b
  pointwise [k0_pay14, k0_pay13, pay3_apply]

theorem q4 : k0_pay17 (F := Ideal) (k0_pay2 s) (k0_pay15 (k0_pay3 w) x g) (k0_pay16 c (k0_pay1 s) (k0_pay3 w) x g) (ix2 r l) = slotQ c s w g r l x 512 (by omega) := by
  unfold slotQ Slot.turn Slot.norm
  rw [← pay1_apply, ← pay2_apply]
  generalize k0_pay1 (F := Ideal) s = a, k0_pay2 (F := Ideal) s = b
  pointwise [k0_pay17, k0_pay16, k0_pay15, pay3_apply]

theorem q5 : k0_pay18 (F := Ideal) c (k0_pay1 s) (k0_pay2 s) (k0_pay3 w) x g (ix2 r l) = slotQ c s w g r l x 640 (by omega) := by
  unfold slotQ Slot.turn Slot.norm
  rw [← pay1_apply, ← pay2_apply]
  generalize k0_pay1 (F := Ideal) s = a, k0_pay2 (F := Ideal) s = b
  pointwise [k0_pay18, pay3_apply]

theorem q6 : k0_pay22 (F := Ideal) c (k0_pay1 s) (k0_pay2 s) (k0_pay19 x) (k0_pay20 g) (k0_pay21 (k0_pay3 w) x) (ix2 r l) = slotQ c s w g r l x 768 (by omega) := by
  unfold slotQ Slot.turn Slot.norm
  rw [← pay1_apply, ← pay2_apply]
  generalize k0_pay1 (F := Ideal) s = a, k0_pay2 (F := Ideal) s = b
  pointwise [k0_pay22, k0_pay21, k0_pay20, k0_pay19, pay3_apply]

theorem q7 : k0_pay23 (F := Ideal) c (k0_pay1 s) (k0_pay2 s) (k0_pay3 w) x g (ix2 r l) = slotQ c s w g r l x 896 (by omega) := by
  unfold slotQ Slot.turn Slot.norm
  rw [← pay1_apply, ← pay2_apply]
  generalize k0_pay1 (F := Ideal) s = a, k0_pay2 (F := Ideal) s = b
  pointwise [k0_pay23, pay3_apply]

end

section
variable (c s : FVec Ideal S512x128 .f32) (w : FVec Ideal S128x128 .bf16) (x : FVec Ideal S512x1536 .f32) (g : FVec Ideal S1x128 .f32)
  (a b : FVec Ideal S512x128 .f32) (r : Fin 512) (l : Fin 128)

/-- The turned part that every key shares. -/
theorem shared (z : FVec Ideal S512x128 .bf16) :
    k0_pay28 (F := Ideal) (k0_pay26 c (k0_pay1 s) (k0_pay3 w) z g) (k0_pay27 (k0_pay2 s) (k0_pay3 w) z g) (ix2 r l)
      = Slot.turn (Slot.norm (fun k l => w (ix2 k l)) (fun l => z (ix2 r l)) (fun l => g (ix2 0 l)))
        (fun l => c (ix2 r l)) (Slot.lower fun l => s (ix2 r l)) (Slot.upper fun l => s (ix2 r l)) l := by
  unfold Slot.turn Slot.norm
  rw [← pay1_apply, ← pay2_apply]
  generalize k0_pay1 (F := Ideal) s = a, k0_pay2 (F := Ideal) s = b
  pointwise [k0_pay28, k0_pay27, k0_pay26, k0_pay25, pay3_apply]

/-- Lane `l` of a key slot whose own part starts at lane `o`. -/
def slotK (o : ℕ) (ho : o + 128 ≤ 1536) : EReal :=
  Slot.norm (fun k l => w (ix2 k l)) (fun l => x (ix2 r ⟨o + l.val, by omega⟩)) (fun l => g (ix2 0 l)) l + a (ix2 r l)

theorem k0 : k0_pay29 (F := Ideal) (k0_pay3 w) x a b g (ix2 r l) = slotK w x g (k0_pay28 a b) r l 0 (by omega) := by
  unfold slotK Slot.norm
  pointwise [k0_pay29, k0_pay28, pay3_apply]

theorem k1 : k0_pay30 (F := Ideal) (k0_pay3 w) x a b g (ix2 r l) = slotK w x g (k0_pay28 a b) r l 128 (by omega) := by
  unfold slotK Slot.norm
  pointwise [k0_pay30, k0_pay28, pay3_apply]

theorem k2 : k0_pay32 (F := Ideal) (k0_pay3 w) a (k0_pay31 x) g (ix2 r l) = slotK w x g a r l 256 (by omega) := by
  unfold slotK Slot.norm
  pointwise [k0_pay32, k0_pay31, pay3_apply]

theorem k3 : k0_pay33 (F := Ideal) (k0_pay3 w) x a g (ix2 r l) = slotK w x g a r l 384 (by omega) := by
  unfold slotK Slot.norm
  pointwise [k0_pay33, pay3_apply]

theorem k4 : k0_pay38 (F := Ideal) (k0_pay3 w) a (k0_pay34 x) (k0_pay35 g) (k0_pay36 x) (k0_pay37 x) (ix2 r l) = slotK w x g a r l 512 (by omega) := by
  unfold slotK Slot.norm
  pointwise [k0_pay38, k0_pay37, k0_pay36, k0_pay35, k0_pay34, pay3_apply]

theorem k5 : k0_pay39 (F := Ideal) (k0_pay3 w) x a g (ix2 r l) = slotK w x g a r l 640 (by omega) := by
  unfold slotK Slot.norm
  pointwise [k0_pay39, pay3_apply]

theorem k6 : k0_pay45 (F := Ideal) (k0_pay3 w) a (k0_pay40 x) (k0_pay41 g) (k0_pay43 x) (k0_pay44 x) (constant S512x128 FTy.f32 0#32) (ix2 r l) = slotK w x g a r l 768 (by omega) := by
  unfold slotK Slot.norm
  pointwise [k0_pay45, k0_pay44, k0_pay43, k0_pay42, k0_pay41, k0_pay40, pay3_apply]

theorem k7 : k0_pay46 (F := Ideal) (k0_pay3 w) x a g (ix2 r l) = slotK w x g a r l 896 (by omega) := by
  unfold slotK Slot.norm
  pointwise [k0_pay46, pay3_apply]

theorem v_apply (j : Fin 512) : k0_pay47 (F := Ideal) x (ix2 r j) = x (ix2 r ⟨1024 + j.val, by omega⟩) := by
  pointwise [k0_pay47]

end

end Cert.PrepIdeal.RefValue
end
-- ==== Proof.PrepHost.lean ====
/-
  The arrays the host prepares for the queries, keys and values: the weights rearranged into slots of 128 columns, the
  scales, the mean matrix; each read at a position of the region.
-/
module

public import proofs.«01_k».proof.Proof.Slot
public import proofs.«01_k».proof.Proof.Gen.PrepIdeal.Value
public import Idealize.ShloMosaic.Lib.Pointwise
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.PrepIdeal.RefValue

open Cert.PrepIdeal Cert.PrepIdeal.Gen

variable (m : (ℓ : Loc nD τ sig) → Buf (Elt Ideal) ℓ)

theorem idx : ∀ t : Fin grid0.N, win0_0.index t = ![t.val, 6] ∧ win0_1.index t = ![t.val, 16] ∧ win0_2.index t = ![t.val, 36]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![t.val, 0] ∧ win0_14.index t = ![t.val, 0]
    ∧ win0_15.index t = ![t.val, 0] := by decide +kernel

theorem sitofp_zero : FloatOps.sitofp (F := Ideal) .f32 (0#32) = 0 := by
  show (((0#32 : BitVec 32).toInt : ℝ) : EReal) = 0
  simp

theorem select_eq (b : BitVec 1) (x y : EReal) {p : Prop} [Decidable p] (h : b = 1#1 ↔ p) : Scalar.select b x y = if p then x else y := by
  by_cases hp : p
  · exact (if_pos (h.2 hp)).trans (if_pos hp).symm
  · exact (if_neg fun e => hp (h.1 e)).trans (if_neg hp).symm

theorem and_one : ∀ a b : BitVec 1, IntOp.andi a b = 1#1 ↔ a = 1#1 ∧ b = 1#1 := by decide

theorem in_low : ∀ l : Fin 128, IntOp.andi (IntOp.cmpi .sge (BitVec.ofNat 32 l.val) 0#32) (IntOp.cmpi .slt (BitVec.ofNat 32 l.val) 64#32) = 1#1
    ↔ l.val < 64 := by decide +kernel

theorem in_mid : ∀ l : Fin 128, IntOp.andi (IntOp.cmpi .sge (BitVec.ofNat 32 l.val) 64#32) (IntOp.cmpi .slt (BitVec.ofNat 32 l.val) 96#32) = 1#1
    ↔ 64 ≤ l.val ∧ l.val < 96 := by decide +kernel

theorem seg_low (k l : Fin 128) : IntOp.andi
      (IntOp.andi (IntOp.cmpi .sge (BitVec.ofNat 32 k.val) 0#32) (IntOp.cmpi .slt (BitVec.ofNat 32 k.val) 64#32))
      (IntOp.andi (IntOp.cmpi .sge (BitVec.ofNat 32 l.val) 0#32) (IntOp.cmpi .slt (BitVec.ofNat 32 l.val) 64#32)) = 1#1
    ↔ k.val < 64 ∧ l.val < 64 := (and_one _ _).trans (and_congr (in_low k) (in_low l))

theorem seg_mid (k l : Fin 128) : IntOp.andi
      (IntOp.andi (IntOp.cmpi .sge (BitVec.ofNat 32 k.val) 64#32) (IntOp.cmpi .slt (BitVec.ofNat 32 k.val) 96#32))
      (IntOp.andi (IntOp.cmpi .sge (BitVec.ofNat 32 l.val) 64#32) (IntOp.cmpi .slt (BitVec.ofNat 32 l.val) 96#32)) = 1#1
    ↔ (64 ≤ k.val ∧ k.val < 96) ∧ 64 ≤ l.val ∧ l.val < 96 := (and_one _ _).trans (and_congr (in_mid k) (in_mid l))

/-- The query weights, each head's 96 columns in a slot of 128. -/
def wuq (w : FVec Ideal S512x768 .f32) : FVec Ideal S512x1024 .bf16 :=
  truncf .bf16 (shapeCast S512x1024 (pad S512x8x128 ![0, 0, 0] ![0, 0, 32] ![0, 0, 0]
    (shapeCast S512x8x96 w shapeCasts_S512x768_S512x8x96) (sitofp .f32 (constantI S_ 32 0#32))
    pads_S512x8x96_S512x8x128_000_000_0320 h_S_) shapeCasts_S512x8x128_S512x1024) bitsLt_bf16_f32

/-- The key weights, each head's 64 columns in a slot of 128. -/
def wk (w : FVec Ideal S256x1024 .f32) : FVec Ideal S256x1024 .f32 :=
  shapeCast S256x1024 (pad S256x8x128 ![0, 0, 0] ![0, 0, 64] ![0, 0, 0]
    (extractStridedSlice S256x8x64 ![0, 0, 0] (shapeCast S256x8x128 w shapeCasts_S256x1024_S256x8x128) slices_S256x8x128_S256x8x64_0_0_0)
    (sitofp .f32 (constantI S_ 32 0#32)) pads_S256x8x64_S256x8x128_000_000_0640 h_S_) shapeCasts_S256x8x128_S256x1024

/-- The value weights, the heads side by side. -/
def wv (w : FVec Ideal S256x1024 .f32) : FVec Ideal S256x512 .f32 :=
  shapeCast S256x512 (extractStridedSlice S256x8x64 ![0, 0, 64] (shapeCast S256x8x128 w shapeCasts_S256x1024_S256x8x128)
    slices_S256x8x128_S256x8x64_0_0_64) shapeCasts_S256x8x64_S256x512

/-- The key weights and the value weights, side by side. -/
def wkv (a : FVec Ideal S256x1024 .f32) (b : FVec Ideal S256x512 .f32) : FVec Ideal S256x1536 .bf16 :=
  truncf .bf16 (concatenate S256x1536 1 [⟨S256x1024, a⟩, ⟨S256x512, b⟩] concatenates_S256x1024_S256x512_S256x1536_d1) bitsLt_bf16_f32

theorem wuq_apply (w : FVec Ideal S512x768 .f32) (d : Fin 512) (h : Fin 8) (l : Fin 128) : wuq w (ix2 d ⟨128 * h.val + l.val, by omega⟩)
    = Slot.room 0 (fun k : Fin 96 => w (ix2 d ⟨h.val * 96 + k.val, by omega⟩)) l := by
  have e1 : (128 * h.val + l.val) / 128 = h.val := by omega
  have e2 : (128 * h.val + l.val) % 128 = l.val := by omega
  pointwise [wuq]
  rw [sitofp_zero]
  unfold Slot.room
  by_cases hl : l.val < 96
  · rw [dif_pos hl, dif_pos ⟨Nat.zero_le _, by omega⟩]
    exact congrArg w (congrArg (ix2 d) (Fin.ext (by dsimp only; omega)))
  · rw [dif_neg hl, dif_neg (by omega)]

theorem wk_apply (w : FVec Ideal S256x1024 .f32) (d : Fin 256) (h : Fin 8) (l : Fin 128) : wk w (ix2 d ⟨128 * h.val + l.val, by omega⟩)
    = Slot.room 0 (fun k : Fin 64 => w (ix2 d ⟨h.val * 128 + k.val, by omega⟩)) l := by
  have e1 : (128 * h.val + l.val) / 128 = h.val := by omega
  have e2 : (128 * h.val + l.val) % 128 = l.val := by omega
  pointwise [wk]
  rw [sitofp_zero]
  unfold Slot.room
  by_cases hl : l.val < 64
  · rw [dif_pos hl, dif_pos ⟨Nat.zero_le _, by omega⟩]
    exact congrArg w (congrArg (ix2 d) (Fin.ext (by dsimp only; omega)))
  · rw [dif_neg hl, dif_neg (by omega)]

theorem wv_apply (w : FVec Ideal S256x1024 .f32) (d : Fin 256) (j : Fin 512) : wv w (ix2 d j)
    = w (ix2 d ⟨j.val / 64 * 128 + (64 + j.val % 64), by omega⟩) := by
  pointwise [wv]
  done

theorem wkv_low (a : FVec Ideal S256x1024 .f32) (b : FVec Ideal S256x512 .f32) (d : Fin 256) (j : Fin 1024) :
    wkv a b (ix2 d ⟨j.val, by omega⟩) = a (ix2 d j) := by
  pointwise [wkv]
  done

theorem wkv_high (a : FVec Ideal S256x1024 .f32) (b : FVec Ideal S256x512 .f32) (d : Fin 256) (j : Fin 512) :
    wkv a b (ix2 d ⟨1024 + j.val, by omega⟩) = b (ix2 d j) := by
  pointwise [wkv]
  done

section reads
variable (c : Dev nD) (t : Fin cfg0.N)

theorem cq_read (r : Fin 512) (k : Fin 512) (h : 512 * t.val + r.val < 32768) : X0_0 m c t (ix2 r k)
    = m ((c : Thread nD τ).loc main_arg0) (ix2 ⟨512 * t.val + r.val, h⟩ ⟨3072 + k.val, by omega⟩) := by
  unfold X0_0 Pipeline.Window.fill
  rw [dif_pos (moved0_0 t _)]
  blk_ext [iblk, V, idx t]

theorem ckv_read (r : Fin 512) (k : Fin 256) (h : 512 * t.val + r.val < 32768) : iblk m c 1 t (ix2 r k)
    = m ((c : Thread nD τ).loc main_arg0) (ix2 ⟨512 * t.val + r.val, h⟩ ⟨4096 + k.val, by omega⟩) := by
  blk_ext [iblk, V, idx t]

theorem kr_read (r : Fin 512) (k : Fin 128) (h : 512 * t.val + r.val < 32768) : iblk m c 2 t (ix2 r k)
    = m ((c : Thread nD τ).loc main_arg0) (ix2 ⟨512 * t.val + r.val, h⟩ ⟨4608 + k.val, by omega⟩) := by
  blk_ext [iblk, V, idx t]

theorem cos_read (r : Fin 512) (k : Fin 128) (h : 512 * t.val + r.val < 32768) : iblk m c 3 t (ix2 r k)
    = m ((c : Thread nD τ).loc main_arg1) (ix2 ⟨512 * t.val + r.val, h⟩ k) := by
  blk_ext [iblk, V, idx t]

theorem sin_read (r : Fin 512) (k : Fin 128) (h : 512 * t.val + r.val < 32768) : iblk m c 4 t (ix2 r k)
    = m ((c : Thread nD τ).loc main_arg2) (ix2 ⟨512 * t.val + r.val, h⟩ k) := by
  blk_ext [iblk, V, idx t]

theorem gcq_read (k : Fin 512) : iblk m c 5 t (ix2 0 k) = m ((c : Thread nD τ).loc main_arg3) (ix1 k) := by
  blk_simp [iblk, idx t]
  simp only [List.flatten_cons, List.flatten_nil, List.append_nil]
  after_reads_simp
  pointwise
  blk_ext [idx t]

theorem gckv_read (k : Fin 256) : iblk m c 6 t (ix2 0 k) = m ((c : Thread nD τ).loc main_arg5) (ix1 k) := by
  blk_simp [iblk, idx t]
  simp only [List.flatten_cons, List.flatten_nil, List.append_nil]
  after_reads_simp
  pointwise
  blk_ext [idx t]

theorem wuq_read (d : Fin 512) (h : Fin 8) (l : Fin 128) : iblk m c 7 t (ix2 d ⟨128 * h.val + l.val, by omega⟩)
    = Slot.room 0 (fun k : Fin 96 => m ((c : Thread nD τ).loc main_arg4) (ix2 d ⟨h.val * 96 + k.val, by omega⟩)) l := by
  blk_simp [iblk, idx t]
  simp only [List.flatten_cons, List.flatten_nil, List.append_nil]
  after_reads_simp
  rw [show ((View.whole main_v48).slice (win0_7.rect t)).emb (ix2 d ⟨128 * h.val + l.val, by omega⟩) = ix2 d ⟨128 * h.val + l.val, by omega⟩ from by blk_ext [idx t]]
  exact wuq_apply (m ((c : Thread nD τ).loc main_arg4)) d h l

theorem wkv_at : V m c main_v50
    = wkv (wk (m ((c : Thread nD τ).loc main_arg6))) (wv (m ((c : Thread nD τ).loc main_arg6))) := by
  unfold V
  simp only [List.flatten_cons, List.flatten_nil, List.append_nil]
  after_reads_simp
  refine congrArg₂ wkv ?_ ?_
  · after_reads_simp
    rfl
  · after_reads_simp
    rfl

theorem wk_read (d : Fin 256) (h : Fin 8) (l : Fin 128) : iblk m c 8 t (ix2 d ⟨128 * h.val + l.val, by omega⟩)
    = Slot.room 0 (fun k : Fin 64 => m ((c : Thread nD τ).loc main_arg6) (ix2 d ⟨h.val * 128 + k.val, by omega⟩)) l := by
  blk_simp [iblk, idx t]
  rw [wkv_at, show ((View.whole main_v50).slice (win0_8.rect t)).emb (ix2 d ⟨128 * h.val + l.val, by omega⟩) = ix2 d ⟨128 * h.val + l.val, by omega⟩ from by blk_ext [idx t]]
  exact (wkv_low _ _ d ⟨128 * h.val + l.val, by omega⟩).trans (wk_apply _ d h l)

theorem wv_read (d : Fin 256) (j : Fin 512) : iblk m c 8 t (ix2 d ⟨1024 + j.val, by omega⟩)
    = m ((c : Thread nD τ).loc main_arg6) (ix2 d ⟨j.val / 64 * 128 + (64 + j.val % 64), by omega⟩) := by
  blk_simp [iblk, idx t]
  rw [wkv_at, show ((View.whole main_v50).slice (win0_8.rect t)).emb (ix2 d ⟨1024 + j.val, by omega⟩) = ix2 d ⟨1024 + j.val, by omega⟩ from by blk_ext [idx t]]
  exact (wkv_high _ _ d j).trans (wv_apply _ d j)

theorem gq_read (l : Fin 128) : iblk m c 9 t (ix2 0 l)
    = Slot.room 0 (fun k : Fin 96 => m ((c : Thread nD τ).loc main_arg7) (ix1 k)) l * Ideal.ofBits .f32 0x3E16C740#32 := by
  blk_simp [iblk, idx t]
  simp only [List.flatten_cons, List.flatten_nil, List.append_nil]
  after_reads_simp
  simp only [StableHlo.TRef.toBuf, StableHlo.TRef.ofBuf, cast_eq, id_eq]
  rw [show ((View.whole main_v41).slice (win0_9.rect t)).emb (ix2 0 l) = ix2 0 l from by blk_ext [idx t]]
  pointwise
  rw [sitofp_zero]
  refine congrArg (· * _) ?_
  unfold Slot.room
  by_cases hl : l.val < 96
  · rw [dif_pos hl, dif_pos ⟨by omega, by omega⟩]
    rfl
  · rw [dif_neg hl, dif_neg (by omega)]

theorem gkn_read (l : Fin 128) : iblk m c 10 t (ix2 0 l)
    = Slot.room 0 (fun k : Fin 64 => m ((c : Thread nD τ).loc main_arg8) (ix1 ⟨k.val, by omega⟩)) l := by
  blk_simp [iblk, idx t]
  simp only [List.flatten_cons, List.flatten_nil, List.append_nil]
  after_reads_simp
  simp only [StableHlo.TRef.toBuf, StableHlo.TRef.ofBuf, cast_eq, id_eq]
  rw [show ((View.whole main_v44).slice (win0_10.rect t)).emb (ix2 0 l) = ix2 0 l from by blk_ext [idx t]]
  pointwise
  rw [sitofp_zero]
  unfold Slot.room
  by_cases hl : l.val < 64
  · rw [dif_pos hl, dif_pos ⟨by omega, by omega⟩]
    rfl
  · rw [dif_neg hl, dif_neg (by omega)]

theorem gkr_read (l : Fin 128) : iblk m c 11 t (ix2 0 l)
    = Slot.room 64 (fun k : Fin 32 => m ((c : Thread nD τ).loc main_arg8) (ix1 ⟨64 + k.val, by omega⟩)) l := by
  blk_simp [iblk, idx t]
  simp only [List.flatten_cons, List.flatten_nil, List.append_nil]
  after_reads_simp
  simp only [StableHlo.TRef.toBuf, StableHlo.TRef.ofBuf, cast_eq, id_eq]
  rw [show ((View.whole main_v47).slice (win0_11.rect t)).emb (ix2 0 l) = ix2 0 l from by blk_ext [idx t]]
  pointwise
  rw [sitofp_zero]
  unfold Slot.room
  by_cases hl : 64 ≤ l.val ∧ l.val - 64 < 32
  · rw [dif_pos hl]
    done
  · rw [dif_neg hl]
    done

theorem seg_read (k l : Fin 128) : iblk m c 12 t (ix2 k l) = Slot.seg k l := by
  blk_simp [iblk, idx t]
  simp only [List.flatten_cons, List.flatten_nil, List.append_nil]
  after_reads_simp
  simp only [StableHlo.TRef.toBuf, StableHlo.TRef.ofBuf, cast_eq, id_eq]
  rw [show ((View.whole main_v28).slice (win0_12.rect t)).emb (ix2 k l) = ix2 k l from by blk_ext [idx t]]
  pointwise
  rw [select_eq _ _ _ (seg_low k l), select_eq _ _ _ (seg_mid k l)]
  unfold Slot.seg
  by_cases h1 : k.val < 64 ∧ l.val < 64
  · rw [if_pos h1, if_neg (by omega), if_pos h1, add_zero]
  · rw [if_neg h1, if_neg h1, zero_add]

end reads

end Cert.PrepIdeal.RefValue
end
-- ==== Proof.PrepValue.lean ====
/-
  The preparation of the latent attention's queries, keys and values: the latents normalised and projected, each head's
  parts normalised and turned; that the three arrays left are these functions of the arguments.
-/
module

public import proofs.«01_k».proof.Proof.PrepBody
public import proofs.«01_k».proof.Proof.PrepHost

@[expose] public section

set_option maxRecDepth 16384

noncomputable section

open Idealize.ShloMosaic Idealize.ShloMosaic.TcCoe Idealize.SL.Sem
open Idealize.ShloMosaic.Pipeline (Dat)

namespace Cert.PrepIdeal.RefValue

open Cert.PrepIdeal Cert.PrepIdeal.Gen

/-! ## The three arrays, as functions of the arguments -/

/-- Lane `k` of head `h` of token `i`'s query, before the head's norms. -/
def latentQ (a0 : FVec Ideal S32768x4864 .bf16) (a3 : FVec Ideal S512 .f32) (a4 : FVec Ideal S512x768 .f32)
    (i : Fin 32768) (h : Fin 8) (k : Fin 96) : EReal :=
  Slot.project (Ideal.ofBits .f32 0x44000000#32) (fun d : Fin 512 => a0 (ix2 i ⟨3072 + d.val, by omega⟩)) (fun d => a3 (ix1 d))
    (fun d => a4 (ix2 d ⟨h.val * 96 + k.val, by omega⟩))

/-- Lane `k` of head `h` of token `i`'s key and value, before the key's norms. -/
def latentK (a0 : FVec Ideal S32768x4864 .bf16) (a5 : FVec Ideal S256 .f32) (a6 : FVec Ideal S256x1024 .f32)
    (i : Fin 32768) (h : Fin 8) (k : Fin 128) : EReal :=
  Slot.project (Ideal.ofBits .f32 0x43800000#32) (fun d : Fin 256 => a0 (ix2 i ⟨4096 + d.val, by omega⟩)) (fun d => a5 (ix1 d))
    (fun d => a6 (ix2 d ⟨h.val * 128 + k.val, by omega⟩))

def query (a0 : FVec Ideal S32768x4864 .bf16) (a1 a2 : FVec Ideal S32768x128 .f32) (a3 : FVec Ideal S512 .f32) (a4 : FVec Ideal S512x768 .f32)
    (a7 : FVec Ideal S96 .f32) (i : Fin 32768) (h : Fin 8) (l : Fin 128) : EReal :=
  Slot.turn (Slot.norm Slot.seg (Slot.room 0 (latentQ a0 a3 a4 i h))
      (fun l => Slot.room 0 (fun k : Fin 96 => a7 (ix1 k)) l * Ideal.ofBits .f32 0x3E16C740#32))
    (fun l => a1 (ix2 i l)) (Slot.lower fun l => a2 (ix2 i l)) (Slot.upper fun l => a2 (ix2 i l)) l

def key (a0 : FVec Ideal S32768x4864 .bf16) (a1 a2 : FVec Ideal S32768x128 .f32) (a5 : FVec Ideal S256 .f32) (a6 : FVec Ideal S256x1024 .f32)
    (a8 : FVec Ideal S96 .f32) (i : Fin 32768) (h : Fin 8) (l : Fin 128) : EReal :=
  Slot.norm Slot.seg (Slot.room 0 fun k : Fin 64 => latentK a0 a5 a6 i h ⟨k.val, by omega⟩)
      (Slot.room 0 fun k : Fin 64 => a8 (ix1 ⟨k.val, by omega⟩)) l
    + Slot.turn (Slot.norm Slot.seg (fun l => a0 (ix2 i ⟨4608 + l.val, by omega⟩)) (Slot.room 64 fun k : Fin 32 => a8 (ix1 ⟨64 + k.val, by omega⟩)))
      (fun l => a1 (ix2 i l)) (Slot.lower fun l => a2 (ix2 i l)) (Slot.upper fun l => a2 (ix2 i l)) l

variable (m : (ℓ : Loc nD τ sig) → Buf (Elt Ideal) ℓ) (ρ : Dev nD → PrngReg)

def Q (c : Dev nD) : FVec Ideal S32768x1024 .bf16 := fun i =>
  query (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg7))
    (i 0) ⟨(i 1).val / 128, by have : (i 1).val < 1024 := (i 1).isLt; omega⟩ ⟨(i 1).val % 128, by omega⟩

def K (c : Dev nD) : FVec Ideal S32768x1024 .bf16 := fun i =>
  key (m ((c : Thread nD τ).loc main_arg0)) (m ((c : Thread nD τ).loc main_arg1)) (m ((c : Thread nD τ).loc main_arg2))
    (m ((c : Thread nD τ).loc main_arg5)) (m ((c : Thread nD τ).loc main_arg6)) (m ((c : Thread nD τ).loc main_arg8))
    (i 0) ⟨(i 1).val / 128, by have : (i 1).val < 1024 := (i 1).isLt; omega⟩ ⟨(i 1).val % 128, by omega⟩

def U (c : Dev nD) : FVec Ideal S32768x512 .bf16 := fun i =>
  latentK (m ((c : Thread nD τ).loc main_arg0)) (m ((c : Thread nD τ).loc main_arg5)) (m ((c : Thread nD τ).loc main_arg6))
    (i 0) ⟨(i 1).val / 64, by have : (i 1).val < 512 := (i 1).isLt; omega⟩ ⟨64 + (i 1).val % 64, by omega⟩

/-! ## One block -/

theorem sum_room {n p : ℕ} (f : Fin n → EReal) (w : Fin n → Fin p → EReal) (o : ℕ) (l : Fin 128) :
    ∑ d, f d * Slot.room o (w d) l = Slot.room o (fun k => ∑ d, f d * w d k) l := by
  unfold Slot.room
  split
  · rfl
  · simp only [mul_zero, Finset.sum_const_zero]

section
variable (c : Dev nD) (t : Fin cfg0.N) (r : Fin 512) (hr : 512 * t.val + r.val < 32768)

theorem latentQ_block (h : Fin 8) (l : Fin 128) :
    k0_pay6 (F := Ideal) (k0_pay4 (iblk m c 5 t)) (k0_pay5 (X0_0 m c t)) (iblk m c 7 t) (ix2 r ⟨128 * h.val + l.val, by omega⟩)
      = Slot.room 0 (latentQ (m ((c : Thread nD τ).loc main_arg0)) (m ((c : Thread nD τ).loc main_arg3)) (m ((c : Thread nD τ).loc main_arg4))
        ⟨512 * t.val + r.val, hr⟩ h) l := by
  rw [pay6_apply]
  simp only [cq_read m c t r _ hr, gcq_read, wuq_read]
  exact sum_room _ _ _ _

theorem latentK_block (h : Fin 8) (l : Fin 128) :
    k0_pay24 (F := Ideal) (iblk m c 1 t) (iblk m c 6 t) (iblk m c 8 t) (ix2 r ⟨128 * h.val + l.val, by omega⟩)
      = Slot.room 0 (fun k : Fin 64 => latentK (m ((c : Thread nD τ).loc main_arg0)) (m ((c : Thread nD τ).loc main_arg5))
        (m ((c : Thread nD τ).loc main_arg6)) ⟨512 * t.val + r.val, hr⟩ h ⟨k.val, by omega⟩) l := by
  rw [pay24_apply]
  simp only [ckv_read m c t r _ hr, gckv_read, wk_read]
  exact sum_room _ _ _ _

theorem value_block (j : Fin 512) :
    k0_pay24 (F := Ideal) (iblk m c 1 t) (iblk m c 6 t) (iblk m c 8 t) (ix2 r ⟨1024 + j.val, by omega⟩)
      = latentK (m ((c : Thread nD τ).loc main_arg0)) (m ((c : Thread nD τ).loc main_arg5)) (m ((c : Thread nD τ).loc main_arg6))
        ⟨512 * t.val + r.val, hr⟩ ⟨j.val / 64, by omega⟩ ⟨64 + j.val % 64, by omega⟩ := by
  rw [pay24_apply]
  simp only [ckv_read m c t r _ hr, gckv_read, wv_read]
  rfl

theorem query_block (h : Fin 8) (l : Fin 128) (j : Fin 1024) (hj : j.val = 128 * h.val + l.val) :
    slotQ (iblk m c 3 t) (iblk m c 4 t) (iblk m c 12 t) (iblk m c 9 t) r l
        (k0_pay6 (k0_pay4 (iblk m c 5 t)) (k0_pay5 (X0_0 m c t)) (iblk m c 7 t)) (128 * h.val) (by omega)
      = Q m c (ix2 ⟨512 * t.val + r.val, hr⟩ j) := by
  have e1 : (⟨j.val / 128, by omega⟩ : Fin 8) = h := Fin.ext (by show j.val / 128 = h.val; omega)
  have e2 : (⟨j.val % 128, by omega⟩ : Fin 128) = l := Fin.ext (by show j.val % 128 = l.val; omega)
  unfold slotQ Q query
  simp only [ix2_0, ix2_1, e1, e2]
  simp only [cos_read m c t r _ hr, sin_read m c t r _ hr, seg_read, gq_read, latentQ_block m c t r hr]

theorem key_block (h : Fin 8) (l : Fin 128) (j : Fin 1024) (hj : j.val = 128 * h.val + l.val) :
    slotK (iblk m c 12 t) (k0_pay24 (iblk m c 1 t) (iblk m c 6 t) (iblk m c 8 t)) (iblk m c 10 t)
        (k0_pay28 (k0_pay26 (iblk m c 3 t) (k0_pay1 (iblk m c 4 t)) (k0_pay3 (iblk m c 12 t)) (iblk m c 2 t) (iblk m c 11 t))
          (k0_pay27 (k0_pay2 (iblk m c 4 t)) (k0_pay3 (iblk m c 12 t)) (iblk m c 2 t) (iblk m c 11 t))) r l (128 * h.val) (by omega)
      = K m c (ix2 ⟨512 * t.val + r.val, hr⟩ j) := by
  have e1 : (⟨j.val / 128, by omega⟩ : Fin 8) = h := Fin.ext (by show j.val / 128 = h.val; omega)
  have e2 : (⟨j.val % 128, by omega⟩ : Fin 128) = l := Fin.ext (by show j.val % 128 = l.val; omega)
  unfold slotK K key
  rw [shared]
  simp only [ix2_0, ix2_1, e1, e2]
  simp only [cos_read m c t r _ hr, sin_read m c t r _ hr, kr_read m c t r _ hr, seg_read, gkn_read, gkr_read, latentK_block m c t r hr]
  done

end

/-! ## The arrays left -/

theorem final13 (c : Dev nD) : (dats m 0 c).arrAt 13 cfg0.N = Q m c := by
  refine (dats m 0 c).arrAt_eq_of_covers 13 _ (by decide +kernel) fun t hf y => ?_
  have ht : t.val < 64 := t.isLt
  blk_simp
  rw [after0_13]
  unfold outsAt0
  frame_out
  obtain ⟨r, j, rfl⟩ : ∃ (r : Fin 512) (j : Fin 1024), y = ix2 r j := ⟨y 0, y 1, eq_ix2 y⟩
  have hr : 512 * t.val + r.val < 32768 := by omega
  have e : ((View.whole main_v53_0).slice (win0_13.rect t)).emb (ix2 r j) = ix2 ⟨512 * t.val + r.val, hr⟩ j := by
    blk_ext [idx t]
  rw [e]
  canon_tiles x h
  all_goals
    obtain ⟨a, b, rfl⟩ : ∃ (a : Fin 512) (b : Fin 128), x = ix2 a b := ⟨x 0, x 1, eq_ix2 x⟩
    simp only [ix2_0, ix2_1] at h0 h1
    obtain rfl : r = a := Fin.ext h0
  · exact (q7 _ _ _ _ _ _ _).trans (query_block m c t r hr 7 b j h1)
  · exact (q6 _ _ _ _ _ _ _).trans (query_block m c t r hr 6 b j h1)
  · exact (q5 _ _ _ _ _ _ _).trans (query_block m c t r hr 5 b j h1)
  · exact (q4 _ _ _ _ _ _ _).trans (query_block m c t r hr 4 b j h1)
  · exact (q3 _ _ _ _ _ _ _).trans (query_block m c t r hr 3 b j h1)
  · exact (q2 _ _ _ _ _ _ _).trans (query_block m c t r hr 2 b j h1)
  · exact (q1 _ _ _ _ _ _ _ _ _).trans (query_block m c t r hr 1 b j h1)
  · exact (q0 _ _ _ _ _ _ _ _ _).trans (query_block m c t r hr 0 b j (by show j.val = 128 * 0 + b.val; omega))

theorem final14 (c : Dev nD) : (dats m 0 c).arrAt 14 cfg0.N = K m c := by
  refine (dats m 0 c).arrAt_eq_of_covers 14 _ (by decide +kernel) fun t hf y => ?_
  have ht : t.val < 64 := t.isLt
  blk_simp
  rw [after0_14]
  unfold outsAt0
  frame_out
  obtain ⟨r, j, rfl⟩ : ∃ (r : Fin 512) (j : Fin 1024), y = ix2 r j := ⟨y 0, y 1, eq_ix2 y⟩
  have hr : 512 * t.val + r.val < 32768 := by omega
  have e : ((View.whole main_v53_1).slice (win0_14.rect t)).emb (ix2 r j) = ix2 ⟨512 * t.val + r.val, hr⟩ j := by
    blk_ext [idx t]
  rw [e]
  canon_tiles x h
  all_goals
    obtain ⟨a, b, rfl⟩ : ∃ (a : Fin 512) (b : Fin 128), x = ix2 a b := ⟨x 0, x 1, eq_ix2 x⟩
    simp only [ix2_0, ix2_1] at h0 h1
    obtain rfl : r = a := Fin.ext h0
  · exact (k7 _ _ _ _ _ _).trans (key_block m c t r hr 7 b j h1)
  · exact (k6 _ _ _ _ _ _).trans (key_block m c t r hr 6 b j h1)
  · exact (k5 _ _ _ _ _ _).trans (key_block m c t r hr 5 b j h1)
  · exact (k4 _ _ _ _ _ _).trans (key_block m c t r hr 4 b j h1)
  · exact (k3 _ _ _ _ _ _).trans (key_block m c t r hr 3 b j h1)
  · exact (k2 _ _ _ _ _ _).trans (key_block m c t r hr 2 b j h1)
  · exact (k1 _ _ _ _ _ _ _).trans (key_block m c t r hr 1 b j h1)
  · exact (k0 _ _ _ _ _ _ _).trans (key_block m c t r hr 0 b j (by show j.val = 128 * 0 + b.val; omega))

theorem final15 (c : Dev nD) : (dats m 0 c).arrAt 15 cfg0.N = U m c := by
  refine (dats m 0 c).arrAt_eq_of_covers 15 _ (by decide +kernel) fun t hf y => ?_
  have ht : t.val < 64 := t.isLt
  blk_simp
  rw [after0_15]
  unfold outsAt0
  frame_out
  obtain ⟨r, j, rfl⟩ : ∃ (r : Fin 512) (j : Fin 512), y = ix2 r j := ⟨y 0, y 1, eq_ix2 y⟩
  have hr : 512 * t.val + r.val < 32768 := by omega
  have e : ((View.whole main_v53_2).slice (win0_15.rect t)).emb (ix2 r j) = ix2 ⟨512 * t.val + r.val, hr⟩ j := by
    blk_ext [idx t]
  rw [e, v_apply]
  exact value_block m c t r hr j

/-- The kernel's run: its results are `Q`, `K` and `U` of the arguments, which are unchanged. -/
theorem run : θ_run defs (onTc (τ := τ) (main (F := Ideal))) ⟨m, fun _ => 0, ρ⟩ fun r => ∀ c : Dev nD,
      r.2.mem ((c : Thread nD τ).loc main_v53_0) = Q m c
      ∧ r.2.mem ((c : Thread nD τ).loc main_v53_1) = K m c
      ∧ r.2.mem ((c : Thread nD τ).loc main_v53_2) = U m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final13 m c), (h c).2.1.trans (final14 m c), (h c).2.2.1.trans (final15 m c), (h c).2.2.2⟩)
    (Value.run_blocks m ρ)

end Cert.PrepIdeal.RefValue
end
-- ==== Proof.PrepRef.lean ====
/-
  The preparation of the latent attention's queries, keys and values as the reference computes it: its stages, named, and
  what each leaves at an index.
-/
module

public import proofs.«01_k».proof.Proof.Slot
public import proofs.«01_k».proof.Proof.Gen.PrepRefIdeal.Run
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.PrepRefIdeal.RefValue

open Cert.PrepRefIdeal Cert.PrepRefIdeal.Gen

/-! ## Root-mean-square norms over the last axis -/

def rms512 (x : FVec Ideal S32768x512 .f32) (g : FVec Ideal S512 .f32) : FVec Ideal S32768x512 .f32 :=
  mulf (mulf x (broadcastInDim S32768x512 ![0, 1] bcast_S32768x1_S32768x512_0_1 (Host.rsqrt (addf (Host.divf
    (broadcastInDim S32768x1 ![0] bcast_S32768_S32768x1_0 (Host.reduceAdd (mulf x x) (constant S_ .f32 0x00000000#32) reducesTo_S32768x512_S32768_d1 h_S_))
    (broadcastInDim S32768x1 ![] bcast_S_S32768x1 (constant S_ .f32 0x44000000#32)))
    (broadcastInDim S32768x1 ![] bcast_S_S32768x1 (constant S_ .f32 0x358637BD#32))))))
    (broadcastInDim S32768x512 ![0, 1] bcast_S1x512_S32768x512_0_1 (broadcastInDim S1x512 ![1] bcast_S512_S1x512_1 g))

def rms256 (x : FVec Ideal S32768x256 .f32) (g : FVec Ideal S256 .f32) : FVec Ideal S32768x256 .f32 :=
  mulf (mulf x (broadcastInDim S32768x256 ![0, 1] bcast_S32768x1_S32768x256_0_1 (Host.rsqrt (addf (Host.divf
    (broadcastInDim S32768x1 ![0] bcast_S32768_S32768x1_0 (Host.reduceAdd (mulf x x) (constant S_ .f32 0x00000000#32) reducesTo_S32768x256_S32768_d1 h_S_))
    (broadcastInDim S32768x1 ![] bcast_S_S32768x1 (constant S_ .f32 0x43800000#32)))
    (broadcastInDim S32768x1 ![] bcast_S_S32768x1 (constant S_ .f32 0x358637BD#32))))))
    (broadcastInDim S32768x256 ![0, 1] bcast_S1x256_S32768x256_0_1 (broadcastInDim S1x256 ![1] bcast_S256_S1x256_1 g))

def rms32 (x : FVec Ideal S32768x32 .f32) (g : FVec Ideal S32 .f32) : FVec Ideal S32768x32 .f32 :=
  mulf (mulf x (broadcastInDim S32768x32 ![0, 1] bcast_S32768x1_S32768x32_0_1 (Host.rsqrt (addf (Host.divf
    (broadcastInDim S32768x1 ![0] bcast_S32768_S32768x1_0 (Host.reduceAdd (mulf x x) (constant S_ .f32 0x00000000#32) reducesTo_S32768x32_S32768_d1 h_S_))
    (broadcastInDim S32768x1 ![] bcast_S_S32768x1 (constant S_ .f32 0x42000000#32)))
    (broadcastInDim S32768x1 ![] bcast_S_S32768x1 (constant S_ .f32 0x358637BD#32))))))
    (broadcastInDim S32768x32 ![0, 1] bcast_S1x32_S32768x32_0_1 (broadcastInDim S1x32 ![1] bcast_S32_S1x32_1 g))

def heads64 (x : FVec Ideal S32768x8x64 .f32) (g : FVec Ideal S64 .f32) : FVec Ideal S32768x8x64 .f32 :=
  mulf (mulf x (broadcastInDim S32768x8x64 ![0, 1, 2] bcast_S32768x8x1_S32768x8x64_0_1_2 (Host.rsqrt (addf (Host.divf
    (broadcastInDim S32768x8x1 ![0, 1] bcast_S32768x8_S32768x8x1_0_1 (Host.reduceAdd (mulf x x) (constant S_ .f32 0x00000000#32) reducesTo_S32768x8x64_S32768x8_d2 h_S_))
    (broadcastInDim S32768x8x1 ![] bcast_S_S32768x8x1 (constant S_ .f32 0x42800000#32)))
    (broadcastInDim S32768x8x1 ![] bcast_S_S32768x8x1 (constant S_ .f32 0x358637BD#32))))))
    (broadcastInDim S32768x8x64 ![0, 1, 2] bcast_S1x1x64_S32768x8x64_0_1_2 (broadcastInDim S1x1x64 ![2] bcast_S64_S1x1x64_2 g))

def heads32 (x : FVec Ideal S32768x8x32 .f32) (g : FVec Ideal S32 .f32) : FVec Ideal S32768x8x32 .f32 :=
  mulf (mulf x (broadcastInDim S32768x8x32 ![0, 1, 2] bcast_S32768x8x1_S32768x8x32_0_1_2 (Host.rsqrt (addf (Host.divf
    (broadcastInDim S32768x8x1 ![0, 1] bcast_S32768x8_S32768x8x1_0_1 (Host.reduceAdd (mulf x x) (constant S_ .f32 0x00000000#32) reducesTo_S32768x8x32_S32768x8_d2 h_S_))
    (broadcastInDim S32768x8x1 ![] bcast_S_S32768x8x1 (constant S_ .f32 0x42000000#32)))
    (broadcastInDim S32768x8x1 ![] bcast_S_S32768x8x1 (constant S_ .f32 0x358637BD#32))))))
    (broadcastInDim S32768x8x32 ![0, 1, 2] bcast_S1x1x32_S32768x8x32_0_1_2 (broadcastInDim S1x1x32 ![2] bcast_S32_S1x1x32_2 g))

/-! ## Projections, rotations and slots -/

/-- The queries, one row per head. -/
def queries (a0 : FVec Ideal S32768x4864 .bf16) (a3 : FVec Ideal S512 .f32) (a4 : FVec Ideal S512x768 .f32) : FVec Ideal S32768x8x96 .f32 :=
  shapeCast _ (Host.dotGeneral dot_S32768x512_S512x768_S32768x768_1_0_0_1_n_n none
    (rms512 (extractStridedSlice S32768x512 ![0, 3072] (extf .f32 a0 bitsLt_bf16_f32) slices_S32768x4864_S32768x512_0_3072) a3) a4)
    shapeCasts_S32768x768_S32768x8x96

/-- The keys and values, one row per head. -/
def keyvals (a0 : FVec Ideal S32768x4864 .bf16) (a5 : FVec Ideal S256 .f32) (a6 : FVec Ideal S256x1024 .f32) : FVec Ideal S32768x8x128 .f32 :=
  shapeCast _ (Host.dotGeneral dot_S32768x256_S256x1024_S32768x1024_1_0_0_1_n_n none
    (rms256 (extractStridedSlice S32768x256 ![0, 4096] (extf .f32 a0 bitsLt_bf16_f32) slices_S32768x4864_S32768x256_0_4096) a5) a6)
    shapeCasts_S32768x1024_S32768x8x128

/-- A table's 16 lanes that the pairs of coordinates are turned by. -/
def table (x : FVec Ideal S32768x128 .f32) : FVec Ideal S32768x16 .f32 :=
  extractStridedSlice S32768x16 ![0, 64] x slices_S32768x128_S32768x16_0_64

def low (g : FVec Ideal S96 .f32) : FVec Ideal S64 .f32 := extractStridedSlice S64 ![0] g slices_S96_S64_0
def high (g : FVec Ideal S96 .f32) : FVec Ideal S32 .f32 := extractStridedSlice S32 ![64] g slices_S96_S32_64

/-- A table's lanes, for each head. -/
def each (c : FVec Ideal S32768x16 .f32) : FVec Ideal S32768x8x16 .f32 :=
  broadcastInDim S32768x8x16 ![0, 1, 2] bcast_S32768x1x16_S32768x8x16_0_1_2
    (broadcastInDim S32768x1x16 ![0, 2] bcast_S32768x16_S32768x1x16_0_2 c)

def rotHeads (x : FVec Ideal S32768x8x32 .f32) (c s : FVec Ideal S32768x16 .f32) : FVec Ideal S32768x8x32 .f32 :=
  concatenate S32768x8x32 2
    [⟨S32768x8x16, subf (mulf (extractStridedSlice S32768x8x16 ![0, 0, 0] x slices_S32768x8x32_S32768x8x16_0_0_0) (each c))
      (mulf (extractStridedSlice S32768x8x16 ![0, 0, 16] x slices_S32768x8x32_S32768x8x16_0_0_16) (each s))⟩,
     ⟨S32768x8x16, addf (mulf (extractStridedSlice S32768x8x16 ![0, 0, 0] x slices_S32768x8x32_S32768x8x16_0_0_0) (each s))
      (mulf (extractStridedSlice S32768x8x16 ![0, 0, 16] x slices_S32768x8x32_S32768x8x16_0_0_16) (each c))⟩]
    concatenates_S32768x8x16_S32768x8x16_S32768x8x32_d2

def rotRow (x : FVec Ideal S32768x32 .f32) (c s : FVec Ideal S32768x16 .f32) : FVec Ideal S32768x32 .f32 :=
  concatenate S32768x32 1
    [⟨S32768x16, subf (mulf (extractStridedSlice S32768x16 ![0, 0] x slices_S32768x32_S32768x16_0_0) c)
      (mulf (extractStridedSlice S32768x16 ![0, 16] x slices_S32768x32_S32768x16_0_16) s)⟩,
     ⟨S32768x16, addf (mulf (extractStridedSlice S32768x16 ![0, 0] x slices_S32768x32_S32768x16_0_0) s)
      (mulf (extractStridedSlice S32768x16 ![0, 16] x slices_S32768x32_S32768x16_0_16) c)⟩]
    concatenates_S32768x16_S32768x16_S32768x32_d1

/-- The two parts of each head and zeros, side by side. -/
def slots (a : FVec Ideal S32768x8x64 .f32) (b : FVec Ideal S32768x8x32 .f32) : FVec Ideal S32768x8x128 .f32 :=
  concatenate S32768x8x128 2 [⟨S32768x8x64, a⟩, ⟨S32768x8x32, b⟩,
    ⟨S32768x8x32, broadcastInDim S32768x8x32 ![] bcast_S_S32768x8x32 (constant S_ .f32 0x00000000#32)⟩]
    concatenates_S32768x8x64_S32768x8x32_S32768x8x32_S32768x8x128_d2

/-- The scaled queries. -/
def outQ (x : FVec Ideal S32768x8x96 .f32) (c s : FVec Ideal S32768x16 .f32) (g : FVec Ideal S96 .f32) : FVec Ideal S32768x1024 .bf16 :=
  truncf .bf16 (shapeCast _ (mulf (slots
    (heads64 (extractStridedSlice S32768x8x64 ![0, 0, 0] x slices_S32768x8x96_S32768x8x64_0_0_0) (low g))
    (rotHeads (heads32 (extractStridedSlice S32768x8x32 ![0, 0, 64] x slices_S32768x8x96_S32768x8x32_0_0_64) (high g)) c s))
    (broadcastInDim S32768x8x128 ![] bcast_S_S32768x8x128 (constant S_ .f32 0x3E16C740#32))) shapeCasts_S32768x8x128_S32768x1024) bitsLt_bf16_f32

/-- The keys: each head's own part, and the part they share. -/
def outK (x : FVec Ideal S32768x8x128 .f32) (a0 : FVec Ideal S32768x4864 .bf16) (c s : FVec Ideal S32768x16 .f32) (g : FVec Ideal S96 .f32) :
    FVec Ideal S32768x1024 .bf16 :=
  truncf .bf16 (shapeCast _ (slots
    (heads64 (extractStridedSlice S32768x8x64 ![0, 0, 0] x slices_S32768x8x128_S32768x8x64_0_0_0) (low g))
    (broadcastInDim S32768x8x32 ![0, 1, 2] bcast_S32768x1x32_S32768x8x32_0_1_2 (broadcastInDim S32768x1x32 ![0, 2] bcast_S32768x32_S32768x1x32_0_2
      (rotRow (rms32 (extractStridedSlice S32768x32 ![0, 4672] (extf .f32 a0 bitsLt_bf16_f32) slices_S32768x4864_S32768x32_0_4672) (high g)) c s))))
    shapeCasts_S32768x8x128_S32768x1024) bitsLt_bf16_f32

/-- The values. -/
def outV (x : FVec Ideal S32768x8x128 .f32) : FVec Ideal S32768x512 .bf16 :=
  truncf .bf16 (shapeCast _ (extractStridedSlice S32768x8x64 ![0, 0, 64] x slices_S32768x8x128_S32768x8x64_0_0_64)
    shapeCasts_S32768x8x64_S32768x512) bitsLt_bf16_f32

/-! ## The stages at an index -/

theorem rms512_apply (x : FVec Ideal S32768x512 .f32) (g : FVec Ideal S512 .f32) (i : Fin 32768) (k : Fin 512) :
    rms512 x g (ix2 i k) = Slot.rms (Ideal.ofBits .f32 0x44000000#32) (fun k => x (ix2 i k)) (fun k => g (ix1 k)) k := by
  unfold Slot.rms
  pointwise [rms512]

theorem rms256_apply (x : FVec Ideal S32768x256 .f32) (g : FVec Ideal S256 .f32) (i : Fin 32768) (k : Fin 256) :
    rms256 x g (ix2 i k) = Slot.rms (Ideal.ofBits .f32 0x43800000#32) (fun k => x (ix2 i k)) (fun k => g (ix1 k)) k := by
  unfold Slot.rms
  pointwise [rms256]

theorem rms32_apply (x : FVec Ideal S32768x32 .f32) (g : FVec Ideal S32 .f32) (i : Fin 32768) (k : Fin 32) :
    rms32 x g (ix2 i k) = Slot.rms (Ideal.ofBits .f32 0x42000000#32) (fun k => x (ix2 i k)) (fun k => g (ix1 k)) k := by
  unfold Slot.rms
  pointwise [rms32]

theorem heads64_apply (x : FVec Ideal S32768x8x64 .f32) (g : FVec Ideal S64 .f32) (i : Fin 32768) (h : Fin 8) (k : Fin 64) :
    heads64 x g (ix3 i h k) = Slot.rms (Ideal.ofBits .f32 0x42800000#32) (fun k => x (ix3 i h k)) (fun k => g (ix1 k)) k := by
  unfold Slot.rms
  pointwise [heads64]

theorem heads32_apply (x : FVec Ideal S32768x8x32 .f32) (g : FVec Ideal S32 .f32) (i : Fin 32768) (h : Fin 8) (k : Fin 32) :
    heads32 x g (ix3 i h k) = Slot.rms (Ideal.ofBits .f32 0x42000000#32) (fun k => x (ix3 i h k)) (fun k => g (ix1 k)) k := by
  unfold Slot.rms
  pointwise [heads32]

theorem queries_apply (a0 : FVec Ideal S32768x4864 .bf16) (a3 : FVec Ideal S512 .f32) (a4 : FVec Ideal S512x768 .f32)
    (i : Fin 32768) (h : Fin 8) (k : Fin 96) : queries a0 a3 a4 (ix3 i h k)
      = Slot.project (Ideal.ofBits .f32 0x44000000#32) (fun d : Fin 512 => a0 (ix2 i ⟨3072 + d.val, by omega⟩)) (fun d => a3 (ix1 d))
        (fun d => a4 (ix2 d ⟨h.val * 96 + k.val, by omega⟩)) := by
  unfold Slot.project
  pointwise [queries, rms512_apply]

theorem keyvals_apply (a0 : FVec Ideal S32768x4864 .bf16) (a5 : FVec Ideal S256 .f32) (a6 : FVec Ideal S256x1024 .f32)
    (i : Fin 32768) (h : Fin 8) (k : Fin 128) : keyvals a0 a5 a6 (ix3 i h k)
      = Slot.project (Ideal.ofBits .f32 0x43800000#32) (fun d : Fin 256 => a0 (ix2 i ⟨4096 + d.val, by omega⟩)) (fun d => a5 (ix1 d))
        (fun d => a6 (ix2 d ⟨h.val * 128 + k.val, by omega⟩)) := by
  unfold Slot.project
  pointwise [keyvals, rms256_apply]

theorem table_apply (x : FVec Ideal S32768x128 .f32) (i : Fin 32768) (k : Fin 16) : table x (ix2 i k) = x (ix2 i ⟨64 + k.val, by omega⟩) := by
  pointwise [table]

theorem low_apply (g : FVec Ideal S96 .f32) (k : Fin 64) : low g (ix1 k) = g (ix1 ⟨k.val, by omega⟩) := by
  pointwise [low]

theorem high_apply (g : FVec Ideal S96 .f32) (k : Fin 32) : high g (ix1 k) = g (ix1 ⟨64 + k.val, by omega⟩) := by
  pointwise [high]

theorem each_apply (c : FVec Ideal S32768x16 .f32) (i : Fin 32768) (h : Fin 8) (k : Fin 16) : each c (ix3 i h k) = c (ix2 i k) := by
  pointwise [each]

theorem rotHeads_apply (x : FVec Ideal S32768x8x32 .f32) (c s : FVec Ideal S32768x16 .f32) (i : Fin 32768) (h : Fin 8) (l : Fin 32) :
    rotHeads x c s (ix3 i h l) = Slot.rot (fun l => x (ix3 i h l)) (fun k => c (ix2 i k)) (fun k => s (ix2 i k)) l := by
  unfold Slot.rot
  pointwise [rotHeads, each_apply]
  split
  · rfl
  · rw [show (⟨16 + (l.val - 16), by omega⟩ : Fin 32) = l from Fin.ext (by dsimp only; omega)]

theorem rotRow_apply (x : FVec Ideal S32768x32 .f32) (c s : FVec Ideal S32768x16 .f32) (i : Fin 32768) (l : Fin 32) :
    rotRow x c s (ix2 i l) = Slot.rot (fun l => x (ix2 i l)) (fun k => c (ix2 i k)) (fun k => s (ix2 i k)) l := by
  unfold Slot.rot
  pointwise [rotRow]
  split
  · rfl
  · rw [show (⟨16 + (l.val - 16), by omega⟩ : Fin 32) = l from Fin.ext (by dsimp only; omega)]

theorem slots_apply (a : FVec Ideal S32768x8x64 .f32) (b : FVec Ideal S32768x8x32 .f32) (i : Fin 32768) (h : Fin 8) (l : Fin 128) :
    slots a b (ix3 i h l) = Slot.head (fun k => a (ix3 i h k)) (fun k => b (ix3 i h k)) l := by
  unfold Slot.head
  pointwise [slots]
  by_cases h1 : l.val < 64
  · rw [dif_pos h1, dif_pos h1]
  · rw [dif_neg h1, dif_neg h1]
    by_cases h2 : l.val < 96
    · rw [dif_pos (show l.val - 64 < 32 by omega), dif_pos h2]
    · rw [dif_neg (show ¬ l.val - 64 < 32 by omega), dif_neg h2]

theorem outQ_apply (x : FVec Ideal S32768x8x96 .f32) (c s : FVec Ideal S32768x16 .f32) (g : FVec Ideal S96 .f32) (i : Fin 32768) (j : Fin 1024) :
    outQ x c s g (ix2 i j)
      = Slot.head (Slot.rms (Ideal.ofBits .f32 0x42800000#32) (fun k => x (ix3 i ⟨j.val / 128, by omega⟩ ⟨k.val, by omega⟩)) fun k => g (ix1 ⟨k.val, by omega⟩))
        (Slot.rot (Slot.rms (Ideal.ofBits .f32 0x42000000#32) (fun k => x (ix3 i ⟨j.val / 128, by omega⟩ ⟨64 + k.val, by omega⟩)) fun k => g (ix1 ⟨64 + k.val, by omega⟩))
          (fun k => c (ix2 i k)) fun k => s (ix2 i k)) ⟨j.val % 128, by omega⟩ * Ideal.ofBits .f32 0x3E16C740#32 := by
  pointwise [outQ, slots_apply, rotHeads_apply, heads64_apply, heads32_apply, low_apply, high_apply]

theorem outK_apply (x : FVec Ideal S32768x8x128 .f32) (a0 : FVec Ideal S32768x4864 .bf16) (c s : FVec Ideal S32768x16 .f32) (g : FVec Ideal S96 .f32)
    (i : Fin 32768) (j : Fin 1024) : outK x a0 c s g (ix2 i j)
      = Slot.head (Slot.rms (Ideal.ofBits .f32 0x42800000#32) (fun k => x (ix3 i ⟨j.val / 128, by omega⟩ ⟨k.val, by omega⟩)) fun k => g (ix1 ⟨k.val, by omega⟩))
        (Slot.rot (Slot.rms (Ideal.ofBits .f32 0x42000000#32) (fun k => a0 (ix2 i ⟨4672 + k.val, by omega⟩)) fun k => g (ix1 ⟨64 + k.val, by omega⟩))
          (fun k => c (ix2 i k)) fun k => s (ix2 i k)) ⟨j.val % 128, by omega⟩ := by
  pointwise [outK, slots_apply, rotRow_apply, heads64_apply, rms32_apply, low_apply, high_apply]

theorem outV_apply (x : FVec Ideal S32768x8x128 .f32) (i : Fin 32768) (j : Fin 512) :
    outV x (ix2 i j) = x (ix3 i ⟨j.val / 64, by omega⟩ ⟨64 + j.val % 64, by omega⟩) := by
  pointwise [outV]

variable (m : (ℓ : Loc nD τ sig) → Buf (Elt Ideal) ℓ) (ρ : Dev nD → PrngReg)

/-- The reference's run, its results named stage by stage. -/
theorem run : θ_run defs (onTc (τ := τ) (main (F := Ideal))) ⟨m, fun _ => 0, ρ⟩ fun r => ∀ c : Dev nD,
      r.2.mem ((c : Thread nD τ).loc main_v127) = outQ (queries (m ((c : Thread nD τ).loc main_arg0)) (m ((c : Thread nD τ).loc main_arg3)) (m ((c : Thread nD τ).loc main_arg4)))
        (table (m ((c : Thread nD τ).loc main_arg1))) (table (m ((c : Thread nD τ).loc main_arg2))) (m ((c : Thread nD τ).loc main_arg7))
      ∧ r.2.mem ((c : Thread nD τ).loc main_v129) = outK (keyvals (m ((c : Thread nD τ).loc main_arg0)) (m ((c : Thread nD τ).loc main_arg5)) (m ((c : Thread nD τ).loc main_arg6)))
        (m ((c : Thread nD τ).loc main_arg0)) (table (m ((c : Thread nD τ).loc main_arg1))) (table (m ((c : Thread nD τ).loc main_arg2))) (m ((c : Thread nD τ).loc main_arg8))
      ∧ r.2.mem ((c : Thread nD τ).loc main_v132) = outV (keyvals (m ((c : Thread nD τ).loc main_arg0)) (m ((c : Thread nD τ).loc main_arg5)) (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1, (h c).2.1, (h c).2.2.1, (h c).2.2.2⟩) (Value.run m ρ)

end Cert.PrepRefIdeal.RefValue
end
-- ==== Proof.PrepClaims.lean ====
/-
  The claims about the preparation of the latent attention's queries, keys and values: its frames, and that where the
  precondition holds the kernel's three arrays are the reference's.
-/
module

public import proofs.«01_k».proof.Defs
public import proofs.«01_k».proof.Proof.PrepValue
public import proofs.«01_k».proof.Proof.PrepRef
public import proofs.«01_k».proof.Proof.Gen.Prep.Frame
public import proofs.«01_k».proof.Proof.Gen.Pre_ready
public import Idealize.ShloMosaic.Lib.ReduceAll

@[expose] public section

set_option maxRecDepth 16384

noncomputable section

open Idealize.ShloMosaic Idealize.ShloMosaic.TcCoe Idealize.SL.Sem

namespace Cert.Proof.PrepClaims

open PrepIdeal PrepIdeal.RefValue

theorem project_real {n : ℕ} {N : ℝ} (hN : 0 < N) (x g w : Fin n → EReal) (hx : ∀ k, ∃ r : ℝ, x k = r) (hg : ∀ k, ∃ r : ℝ, g k = r)
    (hw : ∀ k, ∃ r : ℝ, w k = r) : ∃ r : ℝ, Slot.project (N : EReal) x g w = r :=
  Softmax.exists_dot (Slot.rms_real hN x g hx hg) hw

theorem eq_of_bit {x y : EReal} (h : BitVec.ofBool (decide (x = y)) = 1#1) : x = y := by
  by_contra hn
  rw [decide_eq_false hn] at h
  exact absurd h (by decide)

section
variable (a0 : FVec Ideal S32768x4864 .bf16) (a1 a2 : FVec Ideal S32768x128 .f32) (a3 : FVec Ideal S512 .f32) (a4 : FVec Ideal S512x768 .f32)
  (a5 : FVec Ideal S256 .f32) (a6 : FVec Ideal S256x1024 .f32) (a7 a8 : FVec Ideal S96 .f32)

/-- What the precondition says: the rows, the latents' gains and the weights are real numbers, and the tables leave the
    first 64 lanes as they are and turn each pair of coordinates by one angle. -/
structure Ready : Prop where
  rows : ∀ i j, ∃ r : ℝ, a0 (ix2 i j) = r
  gainQ : ∀ k, ∃ r : ℝ, a3 (ix1 k) = r
  weightQ : ∀ k j, ∃ r : ℝ, a4 (ix2 k j) = r
  gainK : ∀ k, ∃ r : ℝ, a5 (ix1 k) = r
  weightK : ∀ k j, ∃ r : ℝ, a6 (ix2 k j) = r
  one : ∀ (i : Fin 32768) (l : Fin 128), l.val < 64 → a1 (ix2 i l) = 1
  cos : ∀ (i : Fin 32768) (k : Fin 16), a1 (ix2 i ⟨64 + k.val, by omega⟩) = a1 (ix2 i ⟨80 + k.val, by omega⟩)
  sin : ∀ (i : Fin 32768) (k : Fin 16), a2 (ix2 i ⟨64 + k.val, by omega⟩) = a2 (ix2 i ⟨80 + k.val, by omega⟩)

variable {a0 a1 a2 a3 a4 a5 a6 a7 a8}

theorem ready (h : Cert.Pre_ready.fn a0 a1 a2 a3 a4 a5 a6 a7 a8 = fun _ => 1#1) : Ready a0 a1 a2 a3 a4 a5 a6 := by
  have h0 := congrFun h ix0
  dsimp only [Cert.Pre_ready.fn, Cert.Pre_ready.fn_part1, Cert.Pre_ready.fn_part2] at h0
  have ha := (by decide : ∀ a b : BitVec 1, IntOp.andi a b = 1#1 → a = 1#1 ∧ b = 1#1)
  have h1 := ha _ _ h0
  have h2 := ha _ _ h1.1
  have h3 := ha _ _ h2.1
  have h4 := ha _ _ h3.1
  have h5 := ha _ _ h4.1
  have h6 := ha _ _ h5.1
  have h7 := ha _ _ h6.1
  refine ⟨fun i j => ?_, fun k => ?_, fun k j => ?_, fun k => ?_, fun k j => ?_, fun i l hl => ?_, fun i k => ?_, fun i k => ?_⟩
  · have e := Host.reduce_andi_all _ _ _ _ _ h7.1 (ix2 i j)
    pointwise [Softmax.ofBits_inf] at e
    exact Softmax.exists_real (Softmax.lt_of_bit e)
  · have e := Host.reduce_andi_all _ _ _ _ _ h7.2 (ix1 k)
    pointwise [Softmax.ofBits_inf] at e
    exact Softmax.exists_real (Softmax.lt_of_bit e)
  · have e := Host.reduce_andi_all _ _ _ _ _ h6.2 (ix2 k j)
    pointwise [Softmax.ofBits_inf] at e
    exact Softmax.exists_real (Softmax.lt_of_bit e)
  · have e := Host.reduce_andi_all _ _ _ _ _ h5.2 (ix1 k)
    pointwise [Softmax.ofBits_inf] at e
    exact Softmax.exists_real (Softmax.lt_of_bit e)
  · have e := Host.reduce_andi_all _ _ _ _ _ h4.2 (ix2 k j)
    pointwise [Softmax.ofBits_inf] at e
    exact Softmax.exists_real (Softmax.lt_of_bit e)
  · have e := Host.reduce_andi_all _ _ _ _ _ h3.2 (ix2 i (⟨l.val, hl⟩ : Fin 64))
    pointwise at e
    exact eq_of_bit e
  · have e := Host.reduce_andi_all _ _ _ _ _ h2.2 (ix2 i k)
    pointwise at e
    exact eq_of_bit e
  · have e := Host.reduce_andi_all _ _ _ _ _ h1.2 (ix2 i k)
    pointwise at e
    exact eq_of_bit e

theorem latentQ_real (H : Ready a0 a1 a2 a3 a4 a5 a6) (i : Fin 32768) (h : Fin 8) (k : Fin 96) : ∃ r : ℝ, latentQ a0 a3 a4 i h k = r := by
  unfold latentQ
  rw [Slot.n512]
  exact project_real (by norm_num) _ _ _ (fun _ => H.rows _ _) H.gainQ fun _ => H.weightQ _ _

theorem latentK_real (H : Ready a0 a1 a2 a3 a4 a5 a6) (i : Fin 32768) (h : Fin 8) (k : Fin 128) : ∃ r : ℝ, latentK a0 a5 a6 i h k = r := by
  unfold latentK
  rw [Slot.n256]
  exact project_real (by norm_num) _ _ _ (fun _ => H.rows _ _) H.gainK fun _ => H.weightK _ _

theorem query_ref (H : Ready a0 a1 a2 a3 a4 a5 a6) (i : Fin 32768) (j : Fin 1024) :
    PrepRefIdeal.RefValue.outQ (PrepRefIdeal.RefValue.queries a0 a3 a4) (PrepRefIdeal.RefValue.table a1) (PrepRefIdeal.RefValue.table a2) a7 (ix2 i j)
      = query a0 a1 a2 a3 a4 a7 i ⟨j.val / 128, by omega⟩ ⟨j.val % 128, by omega⟩ := by
  rw [PrepRefIdeal.RefValue.outQ_apply]
  simp only [PrepRefIdeal.RefValue.queries_apply, PrepRefIdeal.RefValue.table_apply]
  unfold query
  obtain ⟨e, he, hE⟩ := Slot.scale_nonneg
  rw [hE]
  exact (Slot.query_eq (latentQ a0 a3 a4 i ⟨j.val / 128, by omega⟩) (fun k => a7 (ix1 k)) (latentQ_real H i _) (fun l => a1 (ix2 i l))
    (fun l => a2 (ix2 i l)) (H.one i) (H.cos i) (H.sin i) he ⟨j.val % 128, by omega⟩).symm

theorem key_ref (H : Ready a0 a1 a2 a3 a4 a5 a6) (i : Fin 32768) (j : Fin 1024) :
    PrepRefIdeal.RefValue.outK (PrepRefIdeal.RefValue.keyvals a0 a5 a6) a0 (PrepRefIdeal.RefValue.table a1) (PrepRefIdeal.RefValue.table a2) a8 (ix2 i j)
      = key a0 a1 a2 a5 a6 a8 i ⟨j.val / 128, by omega⟩ ⟨j.val % 128, by omega⟩ := by
  rw [PrepRefIdeal.RefValue.outK_apply]
  simp only [PrepRefIdeal.RefValue.keyvals_apply, PrepRefIdeal.RefValue.table_apply]
  unfold key
  have hz : (fun k : Fin 32 => a0 (ix2 i ⟨4672 + k.val, by omega⟩)) = fun k : Fin 32 => a0 (ix2 i ⟨4608 + (64 + k.val), by omega⟩) :=
    funext fun k => congrArg a0 (congrArg (ix2 i) (Fin.ext (by dsimp only; omega)))
  rw [hz]
  exact (Slot.key_eq (fun k : Fin 64 => latentK a0 a5 a6 i ⟨j.val / 128, by omega⟩ ⟨k.val, by omega⟩) (fun l => a0 (ix2 i ⟨4608 + l.val, by omega⟩))
    (fun k => a8 (ix1 k)) (fun _ => latentK_real H i _ _) (fun _ => H.rows _ _) (fun l => a1 (ix2 i l))
    (fun l => a2 (ix2 i l)) (H.one i) (H.cos i) (H.sin i) ⟨j.val % 128, by omega⟩).symm

theorem value_ref (i : Fin 32768) (j : Fin 512) : PrepRefIdeal.RefValue.outV (PrepRefIdeal.RefValue.keyvals a0 a5 a6) (ix2 i j)
    = latentK a0 a5 a6 i ⟨j.val / 64, by omega⟩ ⟨64 + j.val % 64, by omega⟩ := by
  rw [PrepRefIdeal.RefValue.outV_apply, PrepRefIdeal.RefValue.keyvals_apply]
  rfl

end

theorem frame_k : Cert.quiescent_Prep := fun m ρ _ => Cert.Prep.Gen.frame m ρ

theorem frame_i : Cert.quiescent_PrepIdeal := fun m ρ _ => Cert.PrepIdeal.Gen.frame m ρ

theorem frame_ip : Cert.quiescent_PrepIdeal_pre_ready := fun m ρ _ => Cert.PrepIdeal.Gen.frame m ρ

theorem frame_r : Cert.quiescent_PrepRefIdeal := fun m ρ _ => (θ_run Cert.PrepRefIdeal.defs _ _).mono
  (fun r h => ⟨fun c => (h c).2.2.2, Idealize.ShloMosaic.sem_eq_zero_of_no_sems (by decide) r.2⟩)
  (Cert.PrepRefIdeal.Value.run (F := Ideal) m ρ)

theorem frame_rp : Cert.quiescent_PrepRefIdeal_pre_ready := fun m ρ _ => frame_r m ρ trivial

theorem algebraic : Cert.algebraic_PrepIdeal_PrepRefIdeal_pre_ready := fun m ρ m' ρ' hpre hag =>
  ⟨fun c => Q m c, fun c => K m c, fun c => U m c, RefValue.run m ρ,
    (θ_run _ _ _).mono (fun _ h c => by
      obtain ⟨e0, e1, e2, e3, e4, e5, e6, e7, e8⟩ := hag c
      have H := ready (hpre c)
      refine ⟨(h c).1.trans ?_, (h c).2.1.trans ?_, (h c).2.2.1.trans ?_, (h c).2.2.2⟩
      · rw [e0, e1, e2, e3, e4, e7]
        funext i
        obtain ⟨i, j, rfl⟩ : ∃ (a : Fin 32768) (b : Fin 1024), i = ix2 a b := ⟨i 0, i 1, eq_ix2 i⟩
        exact query_ref H i j
      · rw [e0, e1, e2, e5, e6, e8]
        funext i
        obtain ⟨i, j, rfl⟩ : ∃ (a : Fin 32768) (b : Fin 1024), i = ix2 a b := ⟨i 0, i 1, eq_ix2 i⟩
        exact key_ref H i j
      · rw [e0, e5, e6]
        funext i
        obtain ⟨i, j, rfl⟩ : ∃ (a : Fin 32768) (b : Fin 512), i = ix2 a b := ⟨i 0, i 1, eq_ix2 i⟩
        exact value_ref i j)
      (Cert.PrepRefIdeal.RefValue.run m' ρ')⟩

end Cert.Proof.PrepClaims

end
-- ==== Proof.ModValue.lean ====
/-
  The modulation: for both layers, what the call's blocks hold (the silu of the conditioning, times the layer's weight
  columns, plus the bias), that the array left is that function of the arguments, and that the reference computes the same.
-/
module

public import proofs.«01_k».proof.Defs
public import proofs.«01_k».proof.Proof.Gen.Mod.Frame
public import proofs.«01_k».proof.Proof.Gen.ModIdeal.Value
public import proofs.«01_k».proof.Proof.Gen.ModRefIdeal.Run
public import Idealize.ShloMosaic.Lib.Pointwise
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Modulation

/-- Entry `j` of layer `l`'s modulation of batch entry `n`: the silu of the conditioning times the layer's weights, and its bias. -/
def entry (c : (⟨2, ![16, 1024]⟩ : Shape).Idx → EReal) (w : (⟨3, ![2, 1024, 6144]⟩ : Shape).Idx → EReal)
    (b : (⟨2, ![2, 6144]⟩ : Shape).Idx → EReal) (l : Fin 2) (n : Fin 16) (j : Fin 6144) : EReal :=
  (∑ k : Fin 1024, c (ix2 n k) * Ideal.logistic (c (ix2 n k)) * w (ix3 l k j)) + b (ix2 l j)

end Cert.Modulation

namespace Cert.ModIdeal.RefValue

open Cert.ModIdeal Cert.ModIdeal.Gen

theorem pay1_apply (v0 : FVec Ideal S16x1024 .f32) (v4 : FVec Ideal S1x1024x1536 .f32) (v8 : FVec Ideal S1x1x1536 .f32)
    (n : Fin 16) (j : Fin 1536) : k0_pay1 (F := Ideal) v0 v4 v8 (ix3 0 n j)
    = (∑ k : Fin 1024, v0 (ix2 n k) * Ideal.logistic (v0 (ix2 n k)) * v4 (ix3 0 k j)) + v8 (ix3 0 0 j) := by
  pointwise [k0_pay1]

variable (m : (ℓ : Loc nD τ sig) → Buf (Elt Ideal) ℓ) (ρ : Dev nD → PrngReg)

abbrev G (c : Dev nD) : Buf (Elt Ideal) ((c : Thread nD τ).loc main_v1) :=
  fun i : S2x16x6144.Idx => Modulation.entry (m ((c : Thread nD τ).loc main_arg0)) (m ((c : Thread nD τ).loc main_arg1))
    (m ((c : Thread nD τ).loc main_arg2)) (i 0) (i 1) (i 2)

theorem idx : ∀ t : Fin grid0.N, win0_0.index t = ![0, 0] ∧ win0_1.index t = ![t.val / 4, 0, t.val % 4]
    ∧ win0_2.index t = ![t.val / 4, 0, t.val % 4] ∧ win0_3.index t = ![t.val / 4, 0, t.val % 4] := by decide +kernel

section reads
variable (c : Dev nD) (t : Fin cfg0.N)

/-- The conditioning's block is the whole array. -/
theorem c_read (n : Fin 16) (k : Fin 1024) : iblk m c 0 t (ix2 n k) = m ((c : Thread nD τ).loc main_arg0) (ix2 n k) := by
  blk_ext [iblk, V, idx t]

/-- Block `t` of the weights is layer `t / 4`'s columns `1536 (t % 4) …`. -/
theorem w_read (k : Fin 1024) (j : Fin 1536) (h : t.val / 4 < 2) (h' : 1536 * (t.val % 4) + j.val < 6144) :
    iblk m c 1 t (ix3 0 k j) = m ((c : Thread nD τ).loc main_arg1) (ix3 ⟨t.val / 4, h⟩ k ⟨1536 * (t.val % 4) + j.val, h'⟩) := by
  blk_ext [iblk, V, idx t]

/-- The bias as the host lays it out: one row for each layer. -/
def bias (b : FVec Ideal S2x6144 .f32) : FVec Ideal S2x1x6144 .f32 := shapeCast S2x1x6144 b shapeCasts_S2x6144_S2x1x6144

theorem bias_apply (b : FVec Ideal S2x6144 .f32) (l : Fin 2) (j : Fin 6144) : bias b (ix3 l 0 j) = b (ix2 l j) := by
  pointwise [bias]

theorem b_read (j : Fin 1536) (h : t.val / 4 < 2) (h' : 1536 * (t.val % 4) + j.val < 6144) : iblk m c 2 t (ix3 0 0 j)
    = m ((c : Thread nD τ).loc main_arg2) (ix2 ⟨t.val / 4, h⟩ ⟨1536 * (t.val % 4) + j.val, h'⟩) := by
  blk_simp [iblk, idx t]
  simp only [List.flatten_cons, List.flatten_nil, List.append_nil]
  after_reads_simp
  rw [show ((View.whole main_v0).slice (win0_2.rect t)).emb (ix3 0 0 j) = ix3 ⟨t.val / 4, h⟩ 0 ⟨1536 * (t.val % 4) + j.val, h'⟩
    from by blk_ext [idx t]]
  exact bias_apply _ _ _

end reads

theorem final (c : Dev nD) : (dats m 0 c).arrAt 3 cfg0.N = G m c := by
  refine (dats m 0 c).arrAt_eq_of_covers 3 _ (by decide +kernel) fun t hf y => ?_
  have ht : t.val < 8 := t.isLt
  blk_simp
  rw [after0_3]
  unfold out0_3
  frame_out
  obtain ⟨n, j, rfl⟩ : ∃ (n : Fin 16) (j : Fin 1536), y = ix3 0 n j :=
    ⟨y 1, y 2, (eq_ix3 y).trans (congrArg (ix3 · (y 1) (y 2)) (Subsingleton.elim _ _))⟩
  have e : ((View.whole main_v1).slice (win0_3.rect t)).emb (ix3 0 n j)
      = ix3 ⟨t.val / 4, by omega⟩ n ⟨1536 * (t.val % 4) + j.val, by omega⟩ := by blk_ext [idx t]
  rw [pay1_apply, e]
  simp only [c_read, w_read m c t _ _ (show t.val / 4 < 2 by omega) (show 1536 * (t.val % 4) + j.val < 6144 by omega),
    b_read m c t _ (show t.val / 4 < 2 by omega) (show 1536 * (t.val % 4) + j.val < 6144 by omega)]
  rfl

/-- The kernel's run: its result is `G` of the arguments, which are unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.ModIdeal.RefValue

namespace Cert.ModRefIdeal.RefValue

open Cert.ModRefIdeal Cert.ModRefIdeal.Gen

/-- The silu as the reference's operations give it. -/
def silu (c : FVec Ideal S16x1024 .f32) : FVec Ideal S16x1024 .f32 :=
  mulf c (Host.divf (broadcastInDim S16x1024 ![] bcast_S_S16x1024 (constant S_ .f32 0x3F800000#32))
    (addf (broadcastInDim S16x1024 ![] bcast_S_S16x1024 (constant S_ .f32 0x3F800000#32)) (Host.exp (Host.negf c))))

theorem silu_apply (c : FVec Ideal S16x1024 .f32) (n : Fin 16) (k : Fin 1024) :
    silu c (ix2 n k) = c (ix2 n k) * Ideal.logistic (c (ix2 n k)) := by
  unfold Ideal.logistic
  pointwise [silu]

/-- One layer's modulation, of that layer's weights and bias. -/
def one (s : FVec Ideal S16x1024 .f32) (w : FVec Ideal S1x1024x6144 .f32) (b : FVec Ideal S1x6144 .f32) : FVec Ideal S16x6144 .f32 :=
  addf (Host.dotGeneral dot_S16x1024_S1024x6144_S16x6144_1_0_0_1_n_n none s
      (shapeCast S1024x6144 w shapeCasts_S1x1024x6144_S1024x6144))
    (broadcastInDim S16x6144 ![0, 1] bcast_S1x6144_S16x6144_0_1
      (broadcastInDim S1x6144 ![1] bcast_S6144_S1x6144_1 (shapeCast S6144 b shapeCasts_S1x6144_S6144)))

theorem one_apply (s : FVec Ideal S16x1024 .f32) (w : FVec Ideal S1x1024x6144 .f32) (b : FVec Ideal S1x6144 .f32)
    (n : Fin 16) (j : Fin 6144) : one s w b (ix2 n j) = (∑ k : Fin 1024, s (ix2 n k) * w (ix3 0 k j)) + b (ix2 0 j) := by
  pointwise [one]

/-- Both layers', stacked. -/
def both (u v : FVec Ideal S16x6144 .f32) : FVec Ideal S2x16x6144 .f32 :=
  concatenate S2x16x6144 0 [⟨S1x16x6144, broadcastInDim S1x16x6144 ![1, 2] bcast_S16x6144_S1x16x6144_1_2 u⟩,
    ⟨S1x16x6144, broadcastInDim S1x16x6144 ![1, 2] bcast_S16x6144_S1x16x6144_1_2 v⟩]
    concatenates_S1x16x6144_S1x16x6144_S2x16x6144_d0

theorem both_first (u v : FVec Ideal S16x6144 .f32) (n : Fin 16) (j : Fin 6144) : both u v (ix3 0 n j) = u (ix2 n j) := by
  pointwise [both]

theorem both_second (u v : FVec Ideal S16x6144 .f32) (n : Fin 16) (j : Fin 6144) : both u v (ix3 1 n j) = v (ix2 n j) := by
  pointwise [both]

theorem w_first (w : FVec Ideal S2x1024x6144 .f32) (k : Fin 1024) (j : Fin 6144) :
    extractStridedSlice S1x1024x6144 ![0, 0, 0] w slices_S2x1024x6144_S1x1024x6144_0_0_0 (ix3 0 k j) = w (ix3 0 k j) := by
  pointwise

theorem w_second (w : FVec Ideal S2x1024x6144 .f32) (k : Fin 1024) (j : Fin 6144) :
    extractStridedSlice S1x1024x6144 ![1, 0, 0] w slices_S2x1024x6144_S1x1024x6144_1_0_0 (ix3 0 k j) = w (ix3 1 k j) := by
  pointwise

theorem b_first (b : FVec Ideal S2x6144 .f32) (j : Fin 6144) :
    extractStridedSlice S1x6144 ![0, 0] b slices_S2x6144_S1x6144_0_0 (ix2 0 j) = b (ix2 0 j) := by
  pointwise

theorem b_second (b : FVec Ideal S2x6144 .f32) (j : Fin 6144) :
    extractStridedSlice S1x6144 ![1, 0] b slices_S2x6144_S1x6144_1_0 (ix2 0 j) = b (ix2 1 j) := by
  pointwise

theorem ref_eq (c : FVec Ideal S16x1024 .f32) (w : FVec Ideal S2x1024x6144 .f32) (b : FVec Ideal S2x6144 .f32) :
    both (one (silu c) (extractStridedSlice S1x1024x6144 ![0, 0, 0] w slices_S2x1024x6144_S1x1024x6144_0_0_0)
        (extractStridedSlice S1x6144 ![0, 0] b slices_S2x6144_S1x6144_0_0))
      (one (silu c) (extractStridedSlice S1x1024x6144 ![1, 0, 0] w slices_S2x1024x6144_S1x1024x6144_1_0_0)
        (extractStridedSlice S1x6144 ![1, 0] b slices_S2x6144_S1x6144_1_0))
    = fun i : S2x16x6144.Idx => Modulation.entry c w b (i 0) (i 1) (i 2) := by
  funext i
  obtain ⟨l, n, j, rfl⟩ : ∃ (l : Fin 2) (n : Fin 16) (j : Fin 6144), i = ix3 l n j := ⟨i 0, i 1, i 2, eq_ix3 i⟩
  obtain rfl | rfl : l = 0 ∨ l = 1 := by omega
  · rw [both_first, one_apply]
    simp only [silu_apply, w_first, b_first]
    rfl
  · rw [both_second, one_apply]
    simp only [silu_apply, w_second, b_second]
    rfl

variable (m : (ℓ : Loc nD τ sig) → Buf (Elt Ideal) ℓ) (ρ : Dev nD → PrngReg)

abbrev G (c : Dev nD) : Buf (Elt Ideal) ((c : Thread nD τ).loc main_v19) :=
  fun i : S2x16x6144.Idx => Modulation.entry (m ((c : Thread nD τ).loc main_arg0)) (m ((c : Thread nD τ).loc main_arg1))
    (m ((c : Thread nD τ).loc main_arg2)) (i 0) (i 1) (i 2)

/-- The reference's run: its result is the same function of its arguments. -/
theorem run : θ_run defs (onTc (τ := τ) (main (F := Ideal))) ⟨m, fun _ => 0, ρ⟩ fun r => ∀ c : Dev nD,
      r.2.mem ((c : Thread nD τ).loc main_v19) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (ref_eq _ _ _), (h c).2⟩) (Value.run m ρ)

end Cert.ModRefIdeal.RefValue

/-! ## The claims -/

namespace Cert.Proof.ModClaims

theorem frame_k : Cert.quiescent_Mod := fun m ρ _ => Cert.Mod.Gen.frame m ρ

theorem frame_i : Cert.quiescent_ModIdeal := fun m ρ _ => Cert.ModIdeal.Gen.frame m ρ

theorem frame_r : Cert.quiescent_ModRefIdeal := fun m ρ _ =>
  (θ_run Cert.ModRefIdeal.defs _ _).mono (fun r h => ⟨fun c => (h c).2,
      Idealize.ShloMosaic.sem_eq_zero_of_no_sems (by decide) r.2⟩)
    (Cert.ModRefIdeal.Value.run (F := Ideal) m ρ)

theorem algebraic : Cert.algebraic_ModIdeal_ModRefIdeal := fun m ρ m' ρ' _ hag =>
  ⟨fun c => Cert.ModIdeal.RefValue.G m c, Cert.ModIdeal.RefValue.run m ρ,
    (θ_run _ _ _).mono (fun _ h c => ⟨(h c).1.trans (by
      unfold Cert.ModRefIdeal.RefValue.G Cert.ModIdeal.RefValue.G
      rw [(hag c).1, (hag c).2.1, (hag c).2.2]), (h c).2⟩)
      (Cert.ModRefIdeal.RefValue.run m' ρ')⟩

end Cert.Proof.ModClaims

end
-- ==== Proof.RopeValue.lean ====
/-
  The rotary tables: what the call's blocks hold (cosines and sines of a position times the lane's frequency), that the
  arrays left are those functions of the positions, and that the reference computes the same.
-/
module

public import proofs.«01_k».proof.Defs
public import proofs.«01_k».proof.Proof.Gen.Rope.Frame
public import proofs.«01_k».proof.Proof.Gen.RopeIdeal.Frame
public import proofs.«01_k».proof.Proof.Gen.RopeRefIdeal.Run
public import Idealize.ShloMosaic.Lib.Pointwise
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Rotary

/-- A slot of 128 lanes: `x` in each half of the 32 lanes from 64 on, `z` in the others. -/
def turned (z : EReal) (x : Fin 16 → EReal) (l : Fin 128) : EReal :=
  if l.val < 64 then z else if h : l.val < 80 then x ⟨l.val - 64, by omega⟩
    else if h' : l.val < 96 then x ⟨l.val - 80, by omega⟩ else z

/-- A function that takes 0 to `z`, applied to a multiple of the lanes that hold zeros beside `x`. -/
theorem turned_mul (f : EReal → EReal) (z p : EReal) (hf : f 0 = z) (x : Fin 16 → EReal) (l : Fin 128) :
    f (p * turned 0 x l) = turned z (fun k => f (p * x k)) l := by
  unfold turned
  split
  · rw [mul_zero, hf]
  · split
    · rfl
    · split
      · rfl
      · rw [mul_zero, hf]

theorem cos_zero : Ideal.cos 0 = 1 := by
  show ((Real.cos 0 : ℝ) : EReal) = 1
  rw [Real.cos_zero, EReal.coe_one]

theorem sin_zero : Ideal.sin 0 = 0 := by
  show ((Real.sin 0 : ℝ) : EReal) = 0
  rw [Real.sin_zero, EReal.coe_zero]

/-- A row laid out in four parts, the outer two holding `z`. -/
theorem turned_of (z : EReal) (x : Fin 16 → EReal) (l : Fin 128) (v : EReal) (h0 : l.val < 64 → v = z)
    (h1 : ∀ h : l.val - 64 < 16, 64 ≤ l.val → v = x ⟨l.val - 64, h⟩)
    (h2 : ∀ h : l.val - 64 - 16 < 16, 80 ≤ l.val → v = x ⟨l.val - 64 - 16, h⟩) (h3 : 96 ≤ l.val → v = z) : v = turned z x l := by
  unfold turned
  split
  · exact h0 ‹_›
  · split
    · exact h1 (by omega) (by omega)
    · split
      · exact (h2 (by omega) (by omega)).trans (congrArg x (Fin.ext (by dsimp only; omega)))
      · exact h3 (by omega)

/-- The frequency of lane `k`: 10000 to the power of `-k / 16`. -/
def freq (k : Fin 16) : EReal :=
  Ideal.pow (Ideal.ofBits .f32 0x461C4000#32)
    (Ideal.div (-FloatOps.sitofp (F := Ideal) .f32 (BitVec.ofNat 32 k.val)) (Ideal.ofBits .f32 0x41800000#32))

/-- The angle of row `r` at lane `k`: the row's position times the lane's frequency. -/
def angle (p : (⟨2, ![16, 2048]⟩ : Shape).Idx → BitVec 32) (r : Fin 32768) (k : Fin 16) : EReal :=
  FloatOps.sitofp (F := Ideal) .f32 (p (ix2 ⟨r.val / 2048, by omega⟩ ⟨r.val % 2048, by omega⟩)) * freq k

/-- The cosines of a row's slot, and its sines. -/
def cosines (p : (⟨2, ![16, 2048]⟩ : Shape).Idx → BitVec 32) (r : Fin 32768) (l : Fin 128) : EReal :=
  turned 1 (fun k => Ideal.cos (angle p r k)) l

def sines (p : (⟨2, ![16, 2048]⟩ : Shape).Idx → BitVec 32) (r : Fin 32768) (l : Fin 128) : EReal :=
  turned 0 (fun k => Ideal.sin (angle p r k)) l

end Cert.Rotary

namespace Cert.RopeIdeal.RefValue

open Cert.RopeIdeal Cert.RopeIdeal.Gen

theorem pay2_apply (v0 : IVec S1024x1 32) (v3 : FVec Ideal S1x128 .f32) (r : Fin 1024) (l : Fin 128) :
    k0_pay2 (F := Ideal) v0 v3 (ix2 r l)
    = Ideal.cos (FloatOps.sitofp (F := Ideal) .f32 (v0 (ix2 r 0)) * v3 (ix2 0 l)) := by
  pointwise [k0_pay2, k0_pay1]

theorem pay3_apply (v0 : IVec S1024x1 32) (v3 : FVec Ideal S1x128 .f32) (r : Fin 1024) (l : Fin 128) :
    k0_pay3 (F := Ideal) v0 v3 (ix2 r l)
    = Ideal.sin (FloatOps.sitofp (F := Ideal) .f32 (v0 (ix2 r 0)) * v3 (ix2 0 l)) := by
  pointwise [k0_pay3, k0_pay1]

/-- The frequencies as the host computes them. -/
def freq : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

theorem freq_apply (k : Fin 16) : freq (ix1 k) = Rotary.freq k := by
  unfold Rotary.freq
  pointwise [freq]

/-- The slot the host lays them out in. -/
def slot (a : FVec Ideal S64 .f32) (x y : FVec Ideal S16 .f32) (b : FVec Ideal S32 .f32) : FVec Ideal S1x128 .f32 :=
  shapeCast S1x128 (concatenate S128 0 [⟨S64, a⟩, ⟨S16, x⟩, ⟨S16, y⟩, ⟨S32, b⟩] concatenates_S64_S16_S16_S32_S128_d0)
    shapeCasts_S128_S1x128

theorem slot_apply (x : FVec Ideal S16 .f32) (l : Fin 128) :
    slot (broadcastInDim S64 ![] bcast_S_S64 (constant S_ .f32 0x00000000#32)) x x
      (broadcastInDim S32 ![] bcast_S_S32 (constant S_ .f32 0x00000000#32)) (ix2 0 l)
    = Rotary.turned 0 (fun k => x (ix1 k)) l := by
  pointwise [slot]
  refine Rotary.turned_of 0 (fun k => x (ix1 k)) l _ (fun h => ?_) (fun h h' => ?_) (fun h h' => ?_) (fun h => ?_)
  · exact dif_pos h
  · exact (dif_neg (show ¬ l.val < 64 by omega)).trans (dif_pos h)
  · exact (dif_neg (show ¬ l.val < 64 by omega)).trans ((dif_neg (show ¬ l.val - 64 < 16 by omega)).trans (dif_pos h))
  · exact (dif_neg (show ¬ l.val < 64 by omega)).trans ((dif_neg (show ¬ l.val - 64 < 16 by omega)).trans
      (dif_neg (show ¬ l.val - 64 - 16 < 16 by omega)))

/-- The positions as the host lays them out: one column. -/
def column (p : IVec S16x2048 32) : IVec S32768x1 32 := shapeCast S32768x1 p shapeCasts_S16x2048_S32768x1

theorem column_apply (p : IVec S16x2048 32) (r : Fin 32768) :
    column p (ix2 r 0) = p (ix2 ⟨r.val / 2048, by omega⟩ ⟨r.val % 2048, by omega⟩) := by
  pointwise [column]

variable (m : (ℓ : Loc nD τ sig) → Buf (Elt Ideal) ℓ) (ρ : Dev nD → PrngReg)

abbrev GC (c : Dev nD) : Buf (Elt Ideal) ((c : Thread nD τ).loc main_v11_0) :=
  fun i : S32768x128.Idx => Rotary.cosines (m ((c : Thread nD τ).loc main_arg0)) (i 0) (i 1)

abbrev GS (c : Dev nD) : Buf (Elt Ideal) ((c : Thread nD τ).loc main_v11_1) :=
  fun i : S32768x128.Idx => Rotary.sines (m ((c : Thread nD τ).loc main_arg0)) (i 0) (i 1)

theorem idx : ∀ t : Fin grid0.N, win0_0.index t = ![t.val, 0] ∧ win0_1.index t = ![0, 0]
    ∧ win0_2.index t = ![t.val, 0] ∧ win0_3.index t = ![t.val, 0] := by decide +kernel

section reads
variable (c : Dev nD) (t : Fin cfg0.N)

/-- Block `t` of the positions is rows `1024 t …` of the column. -/
theorem p_read (r : Fin 1024) (h : 1024 * t.val + r.val < 32768) : iblk m c 0 t (ix2 r 0)
    = m ((c : Thread nD τ).loc main_arg0) (ix2 ⟨(1024 * t.val + r.val) / 2048, by omega⟩ ⟨(1024 * t.val + r.val) % 2048, by omega⟩) := by
  blk_simp [iblk, idx t]
  simp only [List.flatten_cons, List.flatten_nil, List.append_nil]
  after_reads_simp
  rw [show ((View.whole main_v10).slice (win0_0.rect t)).emb (ix2 r 0) = ix2 ⟨1024 * t.val + r.val, h⟩ 0 from by blk_ext [idx t]]
  exact column_apply _ _

theorem slot_at : V m c main_v9 = slot (broadcastInDim S64 ![] bcast_S_S64 (constant S_ .f32 0x00000000#32)) freq freq
    (broadcastInDim S32 ![] bcast_S_S32 (constant S_ .f32 0x00000000#32)) := by
  unfold V
  simp only [List.flatten_cons, List.flatten_nil, List.append_nil]
  after_reads_simp
  rfl

/-- The frequencies' block is the whole slot. -/
theorem f_read (l : Fin 128) : iblk m c 1 t (ix2 0 l) = Rotary.turned 0 Rotary.freq l := by
  blk_simp [iblk, idx t]
  rw [slot_at, show ((View.whole main_v9).slice (win0_1.rect t)).emb (ix2 0 l) = ix2 0 l from by blk_ext [idx t], slot_apply]
  simp only [freq_apply]

end reads

theorem final_cos (c : Dev nD) : (dats m 0 c).arrAt 2 cfg0.N = GC m c := by
  refine (dats m 0 c).arrAt_eq_of_covers 2 _ (by decide +kernel) fun t hf y => ?_
  have ht : t.val < 32 := t.isLt
  blk_simp
  rw [after0_2]
  unfold out0_2
  frame_out
  obtain ⟨r, l, rfl⟩ : ∃ (r : Fin 1024) (l : Fin 128), y = ix2 r l := ⟨y 0, y 1, eq_ix2 y⟩
  have e : ((View.whole main_v11_0).slice (win0_2.rect t)).emb (ix2 r l) = ix2 ⟨1024 * t.val + r.val, by omega⟩ l := by
    blk_ext [idx t]
  rw [pay2_apply, e, p_read m c t r (by omega), f_read]
  exact Rotary.turned_mul Ideal.cos 1 _ Rotary.cos_zero _ l

theorem final_sin (c : Dev nD) : (dats m 0 c).arrAt 3 cfg0.N = GS m c := by
  refine (dats m 0 c).arrAt_eq_of_covers 3 _ (by decide +kernel) fun t hf y => ?_
  have ht : t.val < 32 := t.isLt
  blk_simp
  rw [after0_3]
  unfold out0_3
  frame_out
  obtain ⟨r, l, rfl⟩ : ∃ (r : Fin 1024) (l : Fin 128), y = ix2 r l := ⟨y 0, y 1, eq_ix2 y⟩
  have e : ((View.whole main_v11_1).slice (win0_3.rect t)).emb (ix2 r l) = ix2 ⟨1024 * t.val + r.val, by omega⟩ l := by
    blk_ext [idx t]
  rw [pay3_apply, e, p_read m c t r (by omega), f_read]
  exact Rotary.turned_mul Ideal.sin 0 _ Rotary.sin_zero _ l

/-- The kernel's run: its two results are those functions of the positions, which are unchanged. -/
theorem run : θ_run defs (onTc (τ := τ) (main (F := Ideal))) ⟨m, fun _ => 0, ρ⟩ fun r => ∀ c : Dev nD,
      r.2.mem ((c : Thread nD τ).loc main_v11_0) = GC m c
      ∧ r.2.mem ((c : Thread nD τ).loc main_v11_1) = GS m c
      ∧ r.2.mem ((c : Thread nD τ).loc main_arg0) = m ((c : Thread nD τ).loc main_arg0) :=
  (θ_run defs _ _).mono (fun _ h c => ⟨((h c).1 2).trans (final_cos m c), ((h c).1 3).trans (final_sin m c),
      ((h c).2 main_arg0 (Pipeline.mem_restRefs_of main_arg0 (by decide) (by decide))).trans (V_main_arg0 m c)⟩) (run_main m ρ)

end Cert.RopeIdeal.RefValue

namespace Cert.RopeRefIdeal.RefValue

open Cert.RopeRefIdeal Cert.RopeRefIdeal.Gen

/-- The angles as the reference's operations give them. -/
def angles (p : IVec S16x2048 32) : FVec Ideal S32768x16 .f32 :=
  mulf (broadcastInDim S32768x16 ![0, 1] bcast_S32768x1_S32768x16_0_1
      (shapeCast S32768x1 (sitofp (F := Ideal) .f32 p) shapeCasts_S16x2048_S32768x1))
    (broadcastInDim S32768x16 ![0, 1] bcast_S1x16_S32768x16_0_1 (broadcastInDim S1x16 ![1] bcast_S16_S1x16_1
      (Host.powf (broadcastInDim S16 ![] bcast_S_S16 (constant S_ .f32 0x461C4000#32))
        (Host.divf (Host.negf (sitofp .f32 (iotaInDim S16 32 0)))
          (broadcastInDim S16 ![] bcast_S_S16 (constant S_ .f32 0x41800000#32))))))

theorem angles_apply (p : IVec S16x2048 32) (r : Fin 32768) (k : Fin 16) : angles p (ix2 r k) = Rotary.angle p r k := by
  unfold Rotary.angle Rotary.freq
  pointwise [angles]

/-- A table: `x` twice, between the word `z` in 64 lanes and in 32. -/
def table (z : BitVec 32) (x : FVec Ideal S32768x16 .f32) : FVec Ideal S32768x128 .f32 :=
  concatenate S32768x128 1 [⟨S32768x64, broadcastInDim S32768x64 ![] bcast_S_S32768x64 (constant S_ .f32 z)⟩, ⟨S32768x16, x⟩,
    ⟨S32768x16, x⟩, ⟨S32768x32, broadcastInDim S32768x32 ![] bcast_S_S32768x32 (constant S_ .f32 z)⟩]
    concatenates_S32768x64_S32768x16_S32768x16_S32768x32_S32768x128_d1

theorem table_apply (z : BitVec 32) (x : FVec Ideal S32768x16 .f32) (r : Fin 32768) (l : Fin 128) :
    table z x (ix2 r l) = Rotary.turned (Ideal.ofBits .f32 z) (fun k => x (ix2 r k)) l := by
  pointwise [table]
  refine Rotary.turned_of _ (fun k => x (ix2 r k)) l _ (fun h => ?_) (fun h h' => ?_) (fun h h' => ?_) (fun h => ?_)
  · exact dif_pos h
  · exact (dif_neg (show ¬ l.val < 64 by omega)).trans (dif_pos h)
  · exact (dif_neg (show ¬ l.val < 64 by omega)).trans ((dif_neg (show ¬ l.val - 64 < 16 by omega)).trans (dif_pos h))
  · exact (dif_neg (show ¬ l.val < 64 by omega)).trans ((dif_neg (show ¬ l.val - 64 < 16 by omega)).trans
      (dif_neg (show ¬ l.val - 64 - 16 < 16 by omega)))

theorem cos_eq (p : IVec S16x2048 32) : table 0x3F800000#32 (Host.cos (angles p))
    = fun i : S32768x128.Idx => Rotary.cosines p (i 0) (i 1) := by
  funext i
  obtain ⟨r, l, rfl⟩ : ∃ (r : Fin 32768) (l : Fin 128), i = ix2 r l := ⟨i 0, i 1, eq_ix2 i⟩
  rw [table_apply, Ideal.ofBits_one_f32]
  exact congrArg (Rotary.turned 1 · l) (funext fun k => congrArg Ideal.cos (angles_apply p r k))

theorem sin_eq (p : IVec S16x2048 32) : table 0x00000000#32 (Host.sin (angles p))
    = fun i : S32768x128.Idx => Rotary.sines p (i 0) (i 1) := by
  funext i
  obtain ⟨r, l, rfl⟩ : ∃ (r : Fin 32768) (l : Fin 128), i = ix2 r l := ⟨i 0, i 1, eq_ix2 i⟩
  rw [table_apply, Ideal.ofBits_zero_f32]
  exact congrArg (Rotary.turned 0 · l) (funext fun k => congrArg Ideal.sin (angles_apply p r k))

variable (m : (ℓ : Loc nD τ sig) → Buf (Elt Ideal) ℓ) (ρ : Dev nD → PrngReg)

abbrev GC (c : Dev nD) : Buf (Elt Ideal) ((c : Thread nD τ).loc main_v16) :=
  fun i : S32768x128.Idx => Rotary.cosines (m ((c : Thread nD τ).loc main_arg0)) (i 0) (i 1)

abbrev GS (c : Dev nD) : Buf (Elt Ideal) ((c : Thread nD τ).loc main_v19) :=
  fun i : S32768x128.Idx => Rotary.sines (m ((c : Thread nD τ).loc main_arg0)) (i 0) (i 1)

/-- The reference's run: its two results are the same functions of the positions. -/
theorem run : θ_run defs (onTc (τ := τ) (main (F := Ideal))) ⟨m, fun _ => 0, ρ⟩ fun r => ∀ c : Dev nD,
      r.2.mem ((c : Thread nD τ).loc main_v16) = GC m c
      ∧ r.2.mem ((c : Thread nD τ).loc main_v19) = GS m c
      ∧ r.2.mem ((c : Thread nD τ).loc main_arg0) = m ((c : Thread nD τ).loc main_arg0) :=
  (θ_run defs _ _).mono (fun _ h c => ⟨(h c).1.trans (cos_eq _), (h c).2.1.trans (sin_eq _), (h c).2.2⟩) (Value.run m ρ)

end Cert.RopeRefIdeal.RefValue

/-! ## The claims -/

namespace Cert.Proof.RopeClaims

theorem frame_k : Cert.quiescent_Rope := fun m ρ _ => Cert.Rope.Gen.frame m ρ

theorem frame_i : Cert.quiescent_RopeIdeal := fun m ρ _ => Cert.RopeIdeal.Gen.frame m ρ

theorem frame_r : Cert.quiescent_RopeRefIdeal := fun m ρ _ =>
  (θ_run Cert.RopeRefIdeal.defs _ _).mono (fun r h => ⟨fun c => (h c).2.2,
      Idealize.ShloMosaic.sem_eq_zero_of_no_sems (by decide) r.2⟩)
    (Cert.RopeRefIdeal.Value.run (F := Ideal) m ρ)

theorem algebraic : Cert.algebraic_RopeIdeal_RopeRefIdeal := fun m ρ m' ρ' _ hag =>
  ⟨fun c => Cert.RopeIdeal.RefValue.GC m c, fun c => Cert.RopeIdeal.RefValue.GS m c, Cert.RopeIdeal.RefValue.run m ρ,
    (θ_run _ _ _).mono (fun _ h c => ⟨(h c).1.trans (by
      unfold Cert.RopeRefIdeal.RefValue.GC Cert.RopeIdeal.RefValue.GC
      rw [hag c]), (h c).2.1.trans (by
      unfold Cert.RopeRefIdeal.RefValue.GS Cert.RopeIdeal.RefValue.GS
      rw [hag c]), (h c).2.2⟩)
      (Cert.RopeRefIdeal.RefValue.run m' ρ')⟩

end Cert.Proof.RopeClaims

end
-- ==== Proof.LayoutValue.lean ====
/-
  The layout of the input weights: what the call's blocks hold (the weights' columns in another order), that the arrays left
  are those rearrangements of the argument, and that the reference computes the same.
-/
module

public import proofs.«01_k».proof.Defs
public import proofs.«01_k».proof.Proof.Gen.Layout.Frame
public import proofs.«01_k».proof.Proof.Gen.LayoutIdeal.Frame
public import proofs.«01_k».proof.Proof.Gen.LayoutRefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Columns

/-- Column `j` of the main projection's weights, of a row `w` of the input weights: the gates, the latent queries, the
    windowed queries, the latent keys and values, the windowed keys and values, and the rotary key between zeros. -/
def main (w : Fin 6944 → EReal) (j : Fin 4864) : EReal :=
  if h : j.val < 3072 then w ⟨3872 + j.val, by omega⟩
  else if h : j.val < 3584 then w ⟨j.val - 3072, by omega⟩
  else if h : j.val < 4096 then w ⟨3104 + (j.val - 3584), by omega⟩
  else if h : j.val < 4352 then w ⟨512 + (j.val - 4096), by omega⟩
  else if h : j.val < 4608 then w ⟨3616 + (j.val - 4352), by omega⟩
  else if h : 4672 ≤ j.val ∧ j.val < 4704 then w ⟨768 + (j.val - 4672), by omega⟩ else 0

section
variable (w : Fin 6944 → EReal) (j : Fin 4864) (b : Nat)

theorem main_gates (h : j.val = b) (hb : b < 3072) : main w j = w ⟨3872 + b, by omega⟩ := by
  subst h
  exact dif_pos hb

theorem main_queries (h : j.val = 3072 + b) (hb : b < 512) : main w j = w ⟨b, by omega⟩ := by
  unfold main
  rw [dif_neg (by omega), dif_pos (by omega)]
  exact congrArg w (Fin.ext (show j.val - 3072 = b by omega))

theorem main_window_queries (h : j.val = 3584 + b) (hb : b < 512) : main w j = w ⟨3104 + b, by omega⟩ := by
  unfold main
  rw [dif_neg (by omega), dif_neg (by omega), dif_pos (by omega)]
  exact congrArg w (Fin.ext (show 3104 + (j.val - 3584) = 3104 + b by omega))

theorem main_keys (h : j.val = 4096 + b) (hb : b < 256) : main w j = w ⟨512 + b, by omega⟩ := by
  unfold main
  rw [dif_neg (by omega), dif_neg (by omega), dif_neg (by omega), dif_pos (by omega)]
  exact congrArg w (Fin.ext (show 512 + (j.val - 4096) = 512 + b by omega))

theorem main_window_keys (h : j.val = 4352 + b) (hb : b < 256) : main w j = w ⟨3616 + b, by omega⟩ := by
  unfold main
  rw [dif_neg (by omega), dif_neg (by omega), dif_neg (by omega), dif_neg (by omega), dif_pos (by omega)]
  exact congrArg w (Fin.ext (show 3616 + (j.val - 4352) = 3616 + b by omega))

theorem main_rotary (h : j.val = 4672 + b) (hb : b < 32) : main w j = w ⟨768 + b, by omega⟩ := by
  unfold main
  rw [dif_neg (by omega), dif_neg (by omega), dif_neg (by omega), dif_neg (by omega), dif_neg (by omega), dif_pos (by omega)]
  exact congrArg w (Fin.ext (show 768 + (j.val - 4672) = 768 + b by omega))

theorem main_zero (h : 4608 ≤ j.val) (h' : ¬ (4672 ≤ j.val ∧ j.val < 4704)) : main w j = 0 := by
  unfold main
  rw [dif_neg (by omega), dif_neg (by omega), dif_neg (by omega), dif_neg (by omega), dif_neg (by omega), dif_neg h']

end

/-- The column of the input weights that column `j` of the dilated projection's weights is. -/
def dil (j : Fin 2304) : Fin 6944 := ⟨800 + j.val, by omega⟩

end Cert.Columns

namespace Cert.LayoutIdeal.RefValue

open Cert.LayoutIdeal Cert.LayoutIdeal.Gen

variable (m : (ℓ : Loc nD τ sig) → Buf (Elt Ideal) ℓ) (ρ : Dev nD → PrngReg)

abbrev GM (c : Dev nD) : Buf (Elt Ideal) ((c : Thread nD τ).loc main_v0_0) :=
  fun i : S2x1024x4864.Idx => Columns.main (fun j => m ((c : Thread nD τ).loc main_arg0) (ix3 (i 0) (i 1) j)) (i 2)

abbrev GD (c : Dev nD) : Buf (Elt Ideal) ((c : Thread nD τ).loc main_v0_1) :=
  fun i : S2x1024x2304.Idx => m ((c : Thread nD τ).loc main_arg0) (ix3 (i 0) (i 1) (Columns.dil (i 2)))

theorem idx : ∀ t : Fin grid0.N, win0_0.index t = ![t.val / 4, t.val % 4, 0]
    ∧ win0_1.index t = ![t.val / 4, t.val % 4, 0] ∧ win0_2.index t = ![t.val / 4, t.val % 4, 0] := by decide +kernel

theorem w_read (c : Dev nD) (t : Fin cfg0.N) (r : Fin 256) (j : Fin 6944) (h : t.val / 4 < 2) (h' : 256 * (t.val % 4) + r.val < 1024) :
    iblk m c 0 t (ix3 0 r j) = m ((c : Thread nD τ).loc main_arg0) (ix3 ⟨t.val / 4, h⟩ ⟨256 * (t.val % 4) + r.val, h'⟩ j) := by
  blk_ext [iblk, V, idx t]

/-- Columns `o` to `o + n` of the main block are the rectangle of that piece. -/
theorem mem_band {o n : Nat} (hb : ∀ a, (![0, 0, o] : Fin 3 → Nat) a + (![1, 256, n] : Fin 3 → Nat) a ≤ S1x256x4864.size a)
    (r : Fin 256) (j : Fin 4864) (h : o ≤ j.val) (h' : j.val < o + n) :
    (ix3 0 r j : S1x256x4864.Idx) ∈ (Rect.unit (s := S1x256x4864) ![0, 0, o] ![1, 256, n] hb).set := by
  rw [Rect.mem_set_unit]
  intro a
  match a with
  | 0 => exact ⟨Nat.le_refl 0, Nat.zero_lt_one⟩
  | 1 => exact ⟨Nat.zero_le _, show r.val < 0 + 256 by omega⟩
  | 2 => exact ⟨h, h'⟩

theorem final_main (c : Dev nD) : (dats m 0 c).arrAt 1 cfg0.N = GM m c := by
  refine (dats m 0 c).arrAt_eq_of_covers 1 _ (by decide +kernel) fun t hf y => ?_
  have ht : t.val < 8 := t.isLt
  have hl : t.val / 4 < 2 := by omega
  blk_simp
  rw [after0_1]
  unfold outsAt0
  frame_out
  obtain ⟨r, j, rfl⟩ : ∃ (r : Fin 256) (j : Fin 4864), y = ix3 0 r j :=
    ⟨y 1, y 2, (eq_ix3 y).trans (congrArg (ix3 · (y 1) (y 2)) (Subsingleton.elim _ _))⟩
  have hr : 256 * (t.val % 4) + r.val < 1024 := by omega
  have e : ((View.whole main_v0_0).slice (win0_1.rect t)).emb (ix3 0 r j)
      = ix3 ⟨t.val / 4, hl⟩ ⟨256 * (t.val % 4) + r.val, hr⟩ j := by blk_ext [idx t]
  obtain ⟨w, hw, hg⟩ : ∃ w : Fin 6944 → EReal, (∀ q, iblk m c 0 t (ix3 0 r q) = w q)
      ∧ GM m c (ix3 ⟨t.val / 4, hl⟩ ⟨256 * (t.val % 4) + r.val, hr⟩ j) = Columns.main w j :=
    ⟨fun q => m ((c : Thread nD τ).loc main_arg0) (ix3 ⟨t.val / 4, hl⟩ ⟨256 * (t.val % 4) + r.val, hr⟩ q),
      fun q => w_read m c t r q hl hr, rfl⟩
  rw [e, hg]
  canon_tiles x h using (by
    by_cases h5 : 4608 ≤ j.val
    · exact ⟨_, .head _, mem_band inb_S1x256x4864_S1x256x256_0_0_4608 r j h5 (by omega)⟩
    by_cases h4 : 4352 ≤ j.val
    · exact ⟨_, .tail _ (.head _), mem_band inb_S1x256x4864_S1x256x256_0_0_4352 r j h4 (by omega)⟩
    by_cases h3 : 4096 ≤ j.val
    · exact ⟨_, .tail _ (.tail _ (.head _)), mem_band inb_S1x256x4864_S1x256x256_0_0_4096 r j h3 (by omega)⟩
    by_cases h2 : 3584 ≤ j.val
    · exact ⟨_, .tail _ (.tail _ (.tail _ (.head _))), mem_band inb_S1x256x4864_S1x256x512_0_0_3584 r j h2 (by omega)⟩
    by_cases h1 : 3072 ≤ j.val
    · exact ⟨_, .tail _ (.tail _ (.tail _ (.tail _ (.head _)))), mem_band inb_S1x256x4864_S1x256x512_0_0_3072 r j h1 (by omega)⟩
    · exact ⟨_, .tail _ (.tail _ (.tail _ (.tail _ (.tail _ (.head _))))), mem_band inb_S1x256x4864_S1x256x3072_0_0_0 r j (Nat.zero_le _) (by omega)⟩)
  · obtain ⟨a, b, rfl⟩ : ∃ (a : Fin 256) (b : Fin 256), x = ix3 0 a b :=
      ⟨x 1, x 2, (eq_ix3 x).trans (congrArg (ix3 · (x 1) (x 2)) (Subsingleton.elim _ _))⟩
    simp only [ix3_0, ix3_1, ix3_2] at h0 h1 h2
    obtain rfl : r = a := Fin.ext h1
    pointwise [k0_pay2]
    by_cases hb : b.val < 64
    · exact (dif_pos hb).trans (Columns.main_zero w j (by omega) (by omega)).symm
    by_cases hb' : b.val - 64 < 32
    · refine (dif_neg hb).trans ((dif_pos hb').trans ?_)
      exact (hw _).trans (Columns.main_rotary w j (b.val - 64) (by omega) hb').symm
    · exact (dif_neg hb).trans ((dif_neg hb').trans (Columns.main_zero w j (by omega) (by omega)).symm)
  · obtain ⟨a, b, rfl⟩ : ∃ (a : Fin 256) (b : Fin 256), x = ix3 0 a b :=
      ⟨x 1, x 2, (eq_ix3 x).trans (congrArg (ix3 · (x 1) (x 2)) (Subsingleton.elim _ _))⟩
    simp only [ix3_0, ix3_1, ix3_2] at h0 h1 h2
    obtain rfl : r = a := Fin.ext h1
    pointwise [k0_pay1, k0_pay8]
    exact (hw _).trans (Columns.main_window_keys w j b h2 b.isLt).symm
  · obtain ⟨a, b, rfl⟩ : ∃ (a : Fin 256) (b : Fin 256), x = ix3 0 a b :=
      ⟨x 1, x 2, (eq_ix3 x).trans (congrArg (ix3 · (x 1) (x 2)) (Subsingleton.elim _ _))⟩
    simp only [ix3_0, ix3_1, ix3_2] at h0 h1 h2
    obtain rfl : r = a := Fin.ext h1
    pointwise [k0_pay7]
    exact (hw _).trans (Columns.main_keys w j b h2 b.isLt).symm
  · obtain ⟨a, b, rfl⟩ : ∃ (a : Fin 256) (b : Fin 512), x = ix3 0 a b :=
      ⟨x 1, x 2, (eq_ix3 x).trans (congrArg (ix3 · (x 1) (x 2)) (Subsingleton.elim _ _))⟩
    simp only [ix3_0, ix3_1, ix3_2] at h0 h1 h2
    obtain rfl : r = a := Fin.ext h1
    pointwise [k0_pay6]
    exact (hw _).trans (Columns.main_window_queries w j b h2 b.isLt).symm
  · obtain ⟨a, b, rfl⟩ : ∃ (a : Fin 256) (b : Fin 512), x = ix3 0 a b :=
      ⟨x 1, x 2, (eq_ix3 x).trans (congrArg (ix3 · (x 1) (x 2)) (Subsingleton.elim _ _))⟩
    simp only [ix3_0, ix3_1, ix3_2] at h0 h1 h2
    obtain rfl : r = a := Fin.ext h1
    pointwise [k0_pay5]
    exact (hw _).trans (Columns.main_queries w j b h2 b.isLt).symm
  · obtain ⟨a, b, rfl⟩ : ∃ (a : Fin 256) (b : Fin 3072), x = ix3 0 a b :=
      ⟨x 1, x 2, (eq_ix3 x).trans (congrArg (ix3 · (x 1) (x 2)) (Subsingleton.elim _ _))⟩
    simp only [ix3_0, ix3_1, ix3_2] at h0 h1 h2
    obtain rfl : r = a := Fin.ext h1
    pointwise [k0_pay4]
    exact (hw _).trans (Columns.main_gates w j b h2 b.isLt).symm

theorem final_dil (c : Dev nD) : (dats m 0 c).arrAt 2 cfg0.N = GD m c := by
  refine (dats m 0 c).arrAt_eq_of_covers 2 _ (by decide +kernel) fun t hf y => ?_
  have ht : t.val < 8 := t.isLt
  blk_simp
  rw [after0_2]
  unfold outsAt0
  frame_out
  obtain ⟨r, j, rfl⟩ : ∃ (r : Fin 256) (j : Fin 2304), y = ix3 0 r j :=
    ⟨y 1, y 2, (eq_ix3 y).trans (congrArg (ix3 · (y 1) (y 2)) (Subsingleton.elim _ _))⟩
  have e : ((View.whole main_v0_1).slice (win0_2.rect t)).emb (ix3 0 r j)
      = ix3 ⟨t.val / 4, by omega⟩ ⟨256 * (t.val % 4) + r.val, by omega⟩ j := by blk_ext [idx t]
  rw [e]
  pointwise [k0_pay3]
  exact w_read m c t r _ (by omega) (by omega)

/-- The kernel's run: its two results are those rearrangements of the weights, which are unchanged. -/
theorem run : θ_run defs (onTc (τ := τ) (main (F := Ideal))) ⟨m, fun _ => 0, ρ⟩ fun r => ∀ c : Dev nD,
      r.2.mem ((c : Thread nD τ).loc main_v0_0) = GM m c
      ∧ r.2.mem ((c : Thread nD τ).loc main_v0_1) = GD m c
      ∧ r.2.mem ((c : Thread nD τ).loc main_arg0) = m ((c : Thread nD τ).loc main_arg0) :=
  (θ_run defs _ _).mono (fun _ h c => ⟨((h c).1 1).trans (final_main m c), ((h c).1 2).trans (final_dil m c),
      ((h c).1 0).trans (((dats m 0 c).arrAt_in 0 rfl _).trans ((A_eq m c 0).trans (V_main_arg0 m c)))⟩) (run_main m ρ)

end Cert.LayoutIdeal.RefValue

namespace Cert.LayoutRefIdeal.RefValue

open Cert.LayoutRefIdeal Cert.LayoutRefIdeal.Gen

theorem sitofp_zero : FloatOps.sitofp (F := Ideal) .f32 (0#32) = 0 := by
  show (((0#32 : BitVec 32).toInt : ℝ) : EReal) = 0
  simp

/-- The main result as the reference's operations give it. -/
def mainCols (w : FVec Ideal S2x1024x6944 .f32) : FVec Ideal S2x1024x4864 .bf16 :=
  truncf .bf16 (concatenate S2x1024x4864 2
    [⟨S2x1024x3072, extractStridedSlice S2x1024x3072 ![0, 0, 3872] w slices_S2x1024x6944_S2x1024x3072_0_0_3872⟩,
      ⟨S2x1024x512, extractStridedSlice S2x1024x512 ![0, 0, 0] w slices_S2x1024x6944_S2x1024x512_0_0_0⟩,
      ⟨S2x1024x512, extractStridedSlice S2x1024x512 ![0, 0, 0]
        (extractStridedSlice S2x1024x768 ![0, 0, 3104] w slices_S2x1024x6944_S2x1024x768_0_0_3104)
        slices_S2x1024x768_S2x1024x512_0_0_0⟩,
      ⟨S2x1024x256, extractStridedSlice S2x1024x256 ![0, 0, 512] w slices_S2x1024x6944_S2x1024x256_0_0_512⟩,
      ⟨S2x1024x256, extractStridedSlice S2x1024x256 ![0, 0, 512]
        (extractStridedSlice S2x1024x768 ![0, 0, 3104] w slices_S2x1024x6944_S2x1024x768_0_0_3104)
        slices_S2x1024x768_S2x1024x256_0_0_512⟩,
      ⟨S2x1024x256, pad S2x1024x256 ![0, 0, 64] ![0, 0, 160] ![0, 0, 0]
        (extractStridedSlice S2x1024x32 ![0, 0, 768] w slices_S2x1024x6944_S2x1024x32_0_0_768)
        (sitofp .f32 (constantI S_ 32 0#32)) pads_S2x1024x32_S2x1024x256_000_000_641600 h_S_⟩]
    concatenates_S2x1024x3072_S2x1024x512_S2x1024x512_S2x1024x256_S2x1024x256_S2x1024x256_S2x1024x4864_d2) bitsLt_bf16_f32

theorem mainCols_apply (w : FVec Ideal S2x1024x6944 .f32) (l : Fin 2) (k : Fin 1024) (j : Fin 4864) :
    mainCols w (ix3 l k j) = Columns.main (fun j => w (ix3 l k j)) j := by
  pointwise [mainCols]
  by_cases h : j.val < 3072
  · exact (dif_pos h).trans (Columns.main_gates (fun j => w (ix3 l k j)) j _ rfl h).symm
  refine (dif_neg h).trans ?_
  by_cases h : j.val - 3072 < 512
  · exact (dif_pos h).trans (Columns.main_queries (fun j => w (ix3 l k j)) j (j.val - 3072) (by omega) h).symm
  refine (dif_neg h).trans ?_
  by_cases h : j.val - 3072 - 512 < 512
  · exact (dif_pos h).trans (Columns.main_window_queries (fun j => w (ix3 l k j)) j (j.val - 3072 - 512) (by omega) h).symm
  refine (dif_neg h).trans ?_
  by_cases h : j.val - 3072 - 512 - 512 < 256
  · exact (dif_pos h).trans (Columns.main_keys (fun j => w (ix3 l k j)) j (j.val - 3072 - 512 - 512) (by omega) h).symm
  refine (dif_neg h).trans ?_
  by_cases h : j.val - 3072 - 512 - 512 - 256 < 256
  · refine (dif_pos h).trans (Eq.trans ?_
      (Columns.main_window_keys (fun j => w (ix3 l k j)) j (j.val - 3072 - 512 - 512 - 256) (by omega) h).symm)
    exact congrArg w (congrArg (ix3 l k) (Fin.ext (by dsimp only; omega)))
  refine (dif_neg h).trans ?_
  by_cases h : 64 ≤ j.val - 3072 - 512 - 512 - 256 - 256 ∧ j.val - 3072 - 512 - 512 - 256 - 256 - 64 < 32
  · exact (dif_pos h).trans (Columns.main_rotary (fun j => w (ix3 l k j)) j (j.val - 3072 - 512 - 512 - 256 - 256 - 64)
      (by omega) h.2).symm
  · exact (dif_neg h).trans (sitofp_zero.trans (Columns.main_zero _ j (by omega) (by omega)).symm)

theorem main_eq (w : FVec Ideal S2x1024x6944 .f32) : mainCols w
    = fun i : S2x1024x4864.Idx => Columns.main (fun j => w (ix3 (i 0) (i 1) j)) (i 2) := by
  funext i
  obtain ⟨l, k, j, rfl⟩ : ∃ (l : Fin 2) (k : Fin 1024) (j : Fin 4864), i = ix3 l k j := ⟨i 0, i 1, i 2, eq_ix3 i⟩
  exact mainCols_apply w l k j

/-- The dilated result as the reference's operations give it. -/
def dilCols (w : FVec Ideal S2x1024x6944 .f32) : FVec Ideal S2x1024x2304 .bf16 :=
  truncf .bf16 (extractStridedSlice S2x1024x2304 ![0, 0, 800] w slices_S2x1024x6944_S2x1024x2304_0_0_800) bitsLt_bf16_f32

theorem dil_eq (w : FVec Ideal S2x1024x6944 .f32) : dilCols w
    = fun i : S2x1024x2304.Idx => w (ix3 (i 0) (i 1) (Columns.dil (i 2))) := by
  funext i
  obtain ⟨l, k, j, rfl⟩ : ∃ (l : Fin 2) (k : Fin 1024) (j : Fin 2304), i = ix3 l k j := ⟨i 0, i 1, i 2, eq_ix3 i⟩
  pointwise [dilCols]
  rfl

variable (m : (ℓ : Loc nD τ sig) → Buf (Elt Ideal) ℓ) (ρ : Dev nD → PrngReg)

abbrev GM (c : Dev nD) : Buf (Elt Ideal) ((c : Thread nD τ).loc main_v10) :=
  fun i : S2x1024x4864.Idx => Columns.main (fun j => m ((c : Thread nD τ).loc main_arg0) (ix3 (i 0) (i 1) j)) (i 2)

abbrev GD (c : Dev nD) : Buf (Elt Ideal) ((c : Thread nD τ).loc main_v11) :=
  fun i : S2x1024x2304.Idx => m ((c : Thread nD τ).loc main_arg0) (ix3 (i 0) (i 1) (Columns.dil (i 2)))

/-- The reference's run: its two results are the same rearrangements. -/
theorem run : θ_run defs (onTc (τ := τ) (main (F := Ideal))) ⟨m, fun _ => 0, ρ⟩ fun r => ∀ c : Dev nD,
      r.2.mem ((c : Thread nD τ).loc main_v10) = GM m c
      ∧ r.2.mem ((c : Thread nD τ).loc main_v11) = GD m c
      ∧ r.2.mem ((c : Thread nD τ).loc main_arg0) = m ((c : Thread nD τ).loc main_arg0) :=
  (θ_run defs _ _).mono (fun _ h c => ⟨(h c).1.trans (main_eq _), (h c).2.1.trans (dil_eq _), (h c).2.2⟩) (Value.run m ρ)

end Cert.LayoutRefIdeal.RefValue

/-! ## The claims -/

namespace Cert.Proof.LayoutClaims

theorem frame_k : Cert.quiescent_Layout := fun m ρ _ => Cert.Layout.Gen.frame m ρ

theorem frame_i : Cert.quiescent_LayoutIdeal := fun m ρ _ => Cert.LayoutIdeal.Gen.frame m ρ

theorem frame_r : Cert.quiescent_LayoutRefIdeal := fun m ρ _ =>
  (θ_run Cert.LayoutRefIdeal.defs _ _).mono (fun r h => ⟨fun c => (h c).2.2,
      Idealize.ShloMosaic.sem_eq_zero_of_no_sems (by decide) r.2⟩)
    (Cert.LayoutRefIdeal.Value.run (F := Ideal) m ρ)

theorem algebraic : Cert.algebraic_LayoutIdeal_LayoutRefIdeal := fun m ρ m' ρ' _ hag =>
  ⟨fun c => Cert.LayoutIdeal.RefValue.GM m c, fun c => Cert.LayoutIdeal.RefValue.GD m c, Cert.LayoutIdeal.RefValue.run m ρ,
    (θ_run _ _ _).mono (fun _ h c => ⟨(h c).1.trans (by
      unfold Cert.LayoutRefIdeal.RefValue.GM Cert.LayoutIdeal.RefValue.GM
      rw [hag c]), (h c).2.1.trans (by
      unfold Cert.LayoutRefIdeal.RefValue.GD Cert.LayoutIdeal.RefValue.GD
      rw [hag c]), (h c).2.2⟩)
      (Cert.LayoutRefIdeal.RefValue.run m' ρ')⟩

end Cert.Proof.LayoutClaims

end
-- ==== Proof.lean ====
/-
  The certificate: for each of the eight calls (the attention, the two input projections, the merge of the branches, the
  experts' feed-forward, the preparation of the attention's queries, keys and values, the modulation, the rotary tables)
  that the call, its idealization and its reference run to the end without fault, leaving their arguments as they were and
  every counter at zero, that the idealization is the call over the extended reals, and that it computes what the
  reference does. Each part is proved in the module of its call; here they are put side by side.
-/
module

public import proofs.«01_k».proof.Defs
public import proofs.«01_k».proof.Proof.AttnValue
public import proofs.«01_k».proof.Proof.InProjValue
public import proofs.«01_k».proof.Proof.InDilValue
public import proofs.«01_k».proof.Proof.MergeValue
public import proofs.«01_k».proof.Proof.FfnValue
public import proofs.«01_k».proof.Proof.PrepClaims
public import proofs.«01_k».proof.Proof.ModValue
public import proofs.«01_k».proof.Proof.RopeValue
public import proofs.«01_k».proof.Proof.LayoutValue
public import proofs.«01_k».proof.Proof.Gen.Attn
public import proofs.«01_k».proof.Proof.Gen.AttnIdeal
public import proofs.«01_k».proof.Proof.Gen.AttnRefIdeal
public import proofs.«01_k».proof.Proof.Gen.InProj
public import proofs.«01_k».proof.Proof.Gen.InProjIdeal
public import proofs.«01_k».proof.Proof.Gen.InProjRefIdeal
public import proofs.«01_k».proof.Proof.Gen.InDil
public import proofs.«01_k».proof.Proof.Gen.InDilIdeal
public import proofs.«01_k».proof.Proof.Gen.InDilRefIdeal
public import proofs.«01_k».proof.Proof.Gen.Merge
public import proofs.«01_k».proof.Proof.Gen.MergeIdeal
public import proofs.«01_k».proof.Proof.Gen.MergeRefIdeal
public import proofs.«01_k».proof.Proof.Gen.Pre_finite_qk
public import proofs.«01_k».proof.Proof.Gen.Pre_finite_lse
public import proofs.«01_k».proof.Proof.Gen.AttnIdeal.Value
public import proofs.«01_k».proof.Proof.Gen.AttnRefIdeal.Run
public import proofs.«01_k».proof.Proof.Gen.InProjIdeal.Value
public import proofs.«01_k».proof.Proof.Gen.InProjRefIdeal.Run
public import proofs.«01_k».proof.Proof.Gen.InDilIdeal.Value
public import proofs.«01_k».proof.Proof.Gen.InDilRefIdeal.Run
public import proofs.«01_k».proof.Proof.Gen.MergeIdeal.Value
public import proofs.«01_k».proof.Proof.Gen.MergeRefIdeal.Run
public import proofs.«01_k».proof.Proof.Gen.Ffn
public import proofs.«01_k».proof.Proof.Gen.Ffn.Skeleton
public import proofs.«01_k».proof.Proof.Gen.Ffn.Launch
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnRefIdeal
public import proofs.«01_k».proof.Proof.Gen.FfnRefIdeal.Run
public import proofs.«01_k».proof.Proof.Gen.Pre_experts
public import proofs.«01_k».proof.Proof.Gen.Prep
public import proofs.«01_k».proof.Proof.Gen.PrepIdeal
public import proofs.«01_k».proof.Proof.Gen.PrepRefIdeal
public import proofs.«01_k».proof.Proof.Gen.Pre_ready
public import proofs.«01_k».proof.Proof.Gen.Mod
public import proofs.«01_k».proof.Proof.Gen.ModIdeal
public import proofs.«01_k».proof.Proof.Gen.ModRefIdeal
public import proofs.«01_k».proof.Proof.Gen.Rope
public import proofs.«01_k».proof.Proof.Gen.RopeIdeal
public import proofs.«01_k».proof.Proof.Gen.RopeRefIdeal
public import proofs.«01_k».proof.Proof.Gen.Mod.Frame
public import proofs.«01_k».proof.Proof.Gen.ModIdeal.Value
public import proofs.«01_k».proof.Proof.Gen.ModRefIdeal.Run
public import proofs.«01_k».proof.Proof.Gen.Rope.Frame
public import proofs.«01_k».proof.Proof.Gen.RopeIdeal.Frame
public import proofs.«01_k».proof.Proof.Gen.RopeRefIdeal.Run
public import proofs.«01_k».proof.Proof.Gen.Layout
public import proofs.«01_k».proof.Proof.Gen.LayoutIdeal
public import proofs.«01_k».proof.Proof.Gen.LayoutRefIdeal
public import proofs.«01_k».proof.Proof.Gen.Layout.Frame
public import proofs.«01_k».proof.Proof.Gen.LayoutIdeal.Frame
public import proofs.«01_k».proof.Proof.Gen.LayoutRefIdeal.Run
public import proofs.«01_k».proof.Proof.Gen.PrepRefIdeal.Run
public import proofs.«01_k».proof.Proof.Gen.PrepIdeal.Value
public import Idealize.ShloMosaic.Adequacy
public import Idealize.ShloMosaic.Init

@[expose] public section

noncomputable section

namespace Cert.Proof

/-- Every claim about the nine calls. -/
theorem claim : Cert.Claim :=
  ⟨Cert.Attn.Gen.facts, Cert.AttnIdeal.Gen.facts, Cert.AttnRefIdeal.Gen.facts,
    Cert.InProj.Gen.facts, Cert.InProjIdeal.Gen.facts, Cert.InProjRefIdeal.Gen.facts,
    Cert.InDil.Gen.facts, Cert.InDilIdeal.Gen.facts, Cert.InDilRefIdeal.Gen.facts,
    Cert.Merge.Gen.facts, Cert.MergeIdeal.Gen.facts, Cert.MergeRefIdeal.Gen.facts,
    Cert.Prep.Gen.facts, Cert.PrepIdeal.Gen.facts, Cert.PrepRefIdeal.Gen.facts,
    Cert.Mod.Gen.facts, Cert.ModIdeal.Gen.facts, Cert.ModRefIdeal.Gen.facts,
    Cert.Rope.Gen.facts, Cert.RopeIdeal.Gen.facts, Cert.RopeRefIdeal.Gen.facts,
    Cert.Layout.Gen.facts, Cert.LayoutIdeal.Gen.facts, Cert.LayoutRefIdeal.Gen.facts,
    Cert.Ffn.Gen.facts, Cert.FfnIdeal.Gen.facts, Cert.FfnRefIdeal.Gen.facts,
    Cert.Pre_finite_qk.Gen.facts, Cert.Pre_finite_lse.Gen.facts, Cert.Pre_ready.Gen.facts, Cert.Pre_experts.Gen.facts,
    AttnClaims.frame_k, AttnClaims.frame_i, AttnClaims.frame_ip, AttnClaims.frame_r, AttnClaims.frame_rp,
    InProjClaims.frame_k, InProjClaims.frame_i, InProjClaims.frame_r,
    InDilClaims.frame_k, InDilClaims.frame_i, InDilClaims.frame_r,
    MergeClaims.frame_k, MergeClaims.frame_i, MergeClaims.frame_ip, MergeClaims.frame_r, MergeClaims.frame_rp,
    PrepClaims.frame_k, PrepClaims.frame_i, PrepClaims.frame_ip, PrepClaims.frame_r, PrepClaims.frame_rp,
    ModClaims.frame_k, ModClaims.frame_i, ModClaims.frame_r,
    RopeClaims.frame_k, RopeClaims.frame_i, RopeClaims.frame_r,
    LayoutClaims.frame_k, LayoutClaims.frame_i, LayoutClaims.frame_r,
    FfnClaims.frame_k, FfnClaims.frame_i, FfnClaims.frame_r, FfnClaims.frame_rp,
    trivial, trivial, trivial, trivial, trivial, trivial, trivial, trivial, trivial,
    AttnClaims.algebraic, InProjClaims.algebraic, InDilClaims.algebraic, MergeClaims.algebraic,
    FfnClaims.algebraic, PrepClaims.algebraic,
    ModClaims.algebraic, RopeClaims.algebraic, LayoutClaims.algebraic⟩

end Cert.Proof

end
